-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_nonempty [hPre_finite_nonempty : Cert.Pre_finite_nonempty.Facts] (m : (ℓ : Loc Cert.KernelIdeal.nD Cert.KernelIdeal.τ Cert.KernelIdeal.sig) → Buf (Elt Ideal) ℓ) : Prop :=
  ∀ c : Dev Cert.KernelIdeal.nD,
    (Cert.Pre_finite_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_nonempty [hPre_finite_nonempty : Cert.Pre_finite_nonempty.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_nonempty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_nonempty [hKernelIdeal : Cert.KernelIdeal.Facts] [hPre_finite_nonempty : Cert.Pre_finite_nonempty.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_nonempty m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_nonempty [hReferenceIdeal : Cert.ReferenceIdeal.Facts] [hPre_finite_nonempty : Cert.Pre_finite_nonempty.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_nonempty m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "inv_plane" .f32 0x37A72F05#32 ((50176⁻¹ : ℝ) : EReal)
  ∧ IdealRules.named_const.Statement Cert.KernelIdeal.κ "third" .f32 0x3EAAAAAB#32 ((3⁻¹ : ℝ) : EReal)

def algebraic_KernelIdeal_ReferenceIdeal_pre_finite_nonempty [hKernelIdeal : Cert.KernelIdeal.Facts] [hReferenceIdeal : Cert.ReferenceIdeal.Facts] [hPre_finite_nonempty : Cert.Pre_finite_nonempty.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_nonempty m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v10_2)) (v2 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v10_2) = v1 c
          ∧ r.2.mem ((c.tc : Thread Cert.KernelIdeal.nD Cert.KernelIdeal.τ).loc Cert.KernelIdeal.main_v10_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v332) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_nonempty : Cert.Pre_finite_nonempty.Facts),
    quiescent_Kernel (hKernel := hKernel)
    ∧ quiescent_KernelIdeal (hKernelIdeal := hKernelIdeal)
    ∧ quiescent_KernelIdeal_pre_finite_nonempty (hKernelIdeal := hKernelIdeal) (hPre_finite_nonempty := hPre_finite_nonempty)
    ∧ quiescent_ReferenceIdeal (hReferenceIdeal := hReferenceIdeal)
    ∧ quiescent_ReferenceIdeal_pre_finite_nonempty (hReferenceIdeal := hReferenceIdeal) (hPre_finite_nonempty := hPre_finite_nonempty)
    ∧ preserves_Kernel_KernelIdeal
    ∧ algebraic_KernelIdeal_ReferenceIdeal_pre_finite_nonempty (hKernelIdeal := hKernelIdeal) (hReferenceIdeal := hReferenceIdeal) (hPre_finite_nonempty := hPre_finite_nonempty)
-- ==== Pre_finite_nonempty.lean ====
abbrev S8x3x20x224x224 : Shape := ⟨5, ![8, 3, 20, 224, 224]⟩
abbrev S8 : Shape := ⟨1, ![8]⟩
abbrev S8x20x2x2 : Shape := ⟨4, ![8, 20, 2, 2]⟩
abbrev S8x20x1536 : Shape := ⟨3, ![8, 20, 1536]⟩
abbrev S1536x1536 : Shape := ⟨2, ![1536, 1536]⟩
abbrev S1536 : Shape := ⟨1, ![1536]⟩
abbrev S1536x1 : Shape := ⟨2, ![1536, 1]⟩
abbrev S1x20x1536 : Shape := ⟨3, ![1, 20, 1536]⟩
abbrev S1x5x1x1536 : Shape := ⟨4, ![1, 5, 1, 1536]⟩
abbrev S4608x1536 : Shape := ⟨2, ![4608, 1536]⟩
abbrev S_ : Shape := ⟨0, ![]⟩
abbrev S8x20x1x1 : Shape := ⟨4, ![8, 20, 1, 1]⟩
abbrev S8x20 : Shape := ⟨2, ![8, 20]⟩

class Facts : Prop where
  bcast_S_S8 : S_.BroadcastsInDim S8 (![] : Fin 0 → Fin S8.rank)
  reducesTo_S8_S_d0 : S8.ReducesTo [0] S_
  h_S_ : 0 < S_.numel
  bcast_S_S8x20x1536 : S_.BroadcastsInDim S8x20x1536 (![] : Fin 0 → Fin S8x20x1536.rank)
  reducesTo_S8x20x1536_S_d0_1_2 : S8x20x1536.ReducesTo [0, 1, 2] S_
  bcast_S_S1536x1536 : S_.BroadcastsInDim S1536x1536 (![] : Fin 0 → Fin S1536x1536.rank)
  reducesTo_S1536x1536_S_d0_1 : S1536x1536.ReducesTo [0, 1] S_
  bcast_S_S1536 : S_.BroadcastsInDim S1536 (![] : Fin 0 → Fin S1536.rank)
  reducesTo_S1536_S_d0 : S1536.ReducesTo [0] S_
  bcast_S_S1536x1 : S_.BroadcastsInDim S1536x1 (![] : Fin 0 → Fin S1536x1.rank)
  reducesTo_S1536x1_S_d0_1 : S1536x1.ReducesTo [0, 1] S_
  bcast_S_S1x20x1536 : S_.BroadcastsInDim S1x20x1536 (![] : Fin 0 → Fin S1x20x1536.rank)
  reducesTo_S1x20x1536_S_d0_1_2 : S1x20x1536.ReducesTo [0, 1, 2] S_
  bcast_S_S1x5x1x1536 : S_.BroadcastsInDim S1x5x1x1536 (![] : Fin 0 → Fin S1x5x1x1536.rank)
  reducesTo_S1x5x1x1536_S_d0_1_2_3 : S1x5x1x1536.ReducesTo [0, 1, 2, 3] S_
  bcast_S_S4608x1536 : S_.BroadcastsInDim S4608x1536 (![] : Fin 0 → Fin S4608x1536.rank)
  reducesTo_S4608x1536_S_d0_1 : S4608x1536.ReducesTo [0, 1] S_
  slices_S8x20x2x2_S8x20x1x1_0_0_1_0 : S8x20x2x2.Slices ![0, 0, 1, 0] S8x20x1x1
  shapeCasts_S8x20x1x1_S8x20 : S8x20x1x1.ShapeCasts S8x20
  slices_S8x20x2x2_S8x20x1x1_0_0_0_0 : S8x20x2x2.Slices ![0, 0, 0, 0] S8x20x1x1
  slices_S8x20x2x2_S8x20x1x1_0_0_1_1 : S8x20x2x2.Slices ![0, 0, 1, 1] S8x20x1x1
  slices_S8x20x2x2_S8x20x1x1_0_0_0_1 : S8x20x2x2.Slices ![0, 0, 0, 1] S8x20x1x1
  bcast_S_S8x20 : S_.BroadcastsInDim S8x20 (![] : Fin 0 → Fin S8x20.rank)
  reducesTo_S8x20_S_d0_1 : S8x20.ReducesTo [0, 1] S_

variable [Facts]

def fn_part5 {F : FTy → Type} [FloatOps F] (main_v74 : IVec S_ 1) (main_v87 : IVec S8x20 1) : IVec S_ 1 :=
  let main_c_30 : IVec S_ 1 := constantI S_ 1 1#1
  let main_v88 : IVec S_ 1 := (fun x v => Host.reduce IntOp.andi x v reducesTo_S8x20_S_d0_1 h_S_) main_v87 main_c_30
  let main_v89 : IVec S_ 1 := andi main_v74 main_v88
  main_v89

def fn_part4 {F : FTy → Type} [FloatOps F] (main_arg2 : IVec S8x20x2x2 32) (main_arg16 : FVec F S1536 .f32) (main_v64 : IVec S_ 1) (main_v67 : IVec S1536x1536 1) : IVec S_ 1 :=
  let main_c_26 : IVec S_ 1 := constantI S_ 1 1#1
  let main_v68 : IVec S_ 1 := (fun x v => Host.reduce IntOp.andi x v reducesTo_S1536x1536_S_d0_1 h_S_) main_v67 main_c_26
  let main_v69 : IVec S_ 1 := andi main_v64 main_v68
  let main_v70 : FVec F S1536 .f32 := Host.absf main_arg16
  let main_cst_27 : FVec F S_ .f32 := constant S_ .f32 0x7F800000#32
  let main_v71 : FVec F S1536 .f32 := broadcastInDim S1536 ![] bcast_S_S1536 main_cst_27
  let main_v72 : IVec S1536 1 := cmpf .olt main_v70 main_v71
  let main_c_28 : IVec S_ 1 := constantI S_ 1 1#1
  let main_v73 : IVec S_ 1 := (fun x v => Host.reduce IntOp.andi x v reducesTo_S1536_S_d0 h_S_) main_v72 main_c_28
  let main_v74 : IVec S_ 1 := andi main_v69 main_v73
  let main_v75 : IVec S8x20x1x1 32 := (extractStridedSlice S8x20x1x1 ![0, 0, 1, 0] · slices_S8x20x2x2_S8x20x1x1_0_0_1_0) main_arg2
  let main_v76 : IVec S8x20 32 := shapeCast S8x20 main_v75 shapeCasts_S8x20x1x1_S8x20
  let main_v77 : IVec S8x20x1x1 32 := (extractStridedSlice S8x20x1x1 ![0, 0, 0, 0] · slices_S8x20x2x2_S8x20x1x1_0_0_0_0) main_arg2
  let main_v78 : IVec S8x20 32 := shapeCast S8x20 main_v77 shapeCasts_S8x20x1x1_S8x20
  let main_v79 : IVec S8x20 32 := subi main_v76 main_v78
  let main_v80 : IVec S8x20x1x1 32 := (extractStridedSlice S8x20x1x1 ![0, 0, 1, 1] · slices_S8x20x2x2_S8x20x1x1_0_0_1_1) main_arg2
  let main_v81 : IVec S8x20 32 := shapeCast S8x20 main_v80 shapeCasts_S8x20x1x1_S8x20
  let main_v82 : IVec S8x20x1x1 32 := (extractStridedSlice S8x20x1x1 ![0, 0, 0, 1] · slices_S8x20x2x2_S8x20x1x1_0_0_0_1) main_arg2
  let main_v83 : IVec S8x20 32 := shapeCast S8x20 main_v82 shapeCasts_S8x20x1x1_S8x20
  let main_v84 : IVec S8x20 32 := subi main_v81 main_v83
  let main_v85 : IVec S8x20 32 := muli main_v79 main_v84
  let main_c_29 : IVec S_ 32 := constantI S_ 32 0#32
  let main_v86 : IVec S8x20 32 := broadcastInDim S8x20 ![] bcast_S_S8x20 main_c_29
  let main_v87 : IVec S8x20 1 := cmpi .ne main_v85 main_v86
  fn_part5 (F := F) main_v74 main_v87

def fn_part3 {F : FTy → Type} [FloatOps F] (main_arg2 : IVec S8x20x2x2 32) (main_arg13 : FVec F S1536x1536 .f32) (main_arg14 : FVec F S1536 .f32) (main_arg15 : FVec F S1536x1536 .f32) (main_arg16 : FVec F S1536 .f32) (main_v49 : IVec S_ 1) (main_v50 : FVec F S4608x1536 .f32) : IVec S_ 1 :=
  let main_cst_19 : FVec F S_ .f32 := constant S_ .f32 0x7F800000#32
  let main_v51 : FVec F S4608x1536 .f32 := broadcastInDim S4608x1536 ![] bcast_S_S4608x1536 main_cst_19
  let main_v52 : IVec S4608x1536 1 := cmpf .olt main_v50 main_v51
  let main_c_20 : IVec S_ 1 := constantI S_ 1 1#1
  let main_v53 : IVec S_ 1 := (fun x v => Host.reduce IntOp.andi x v reducesTo_S4608x1536_S_d0_1 h_S_) main_v52 main_c_20
  let main_v54 : IVec S_ 1 := andi main_v49 main_v53
  let main_v55 : FVec F S1536x1536 .f32 := Host.absf main_arg13
  let main_cst_21 : FVec F S_ .f32 := constant S_ .f32 0x7F800000#32
  let main_v56 : FVec F S1536x1536 .f32 := broadcastInDim S1536x1536 ![] bcast_S_S1536x1536 main_cst_21
  let main_v57 : IVec S1536x1536 1 := cmpf .olt main_v55 main_v56
  let main_c_22 : IVec S_ 1 := constantI S_ 1 1#1
  let main_v58 : IVec S_ 1 := (fun x v => Host.reduce IntOp.andi x v reducesTo_S1536x1536_S_d0_1 h_S_) main_v57 main_c_22
  let main_v59 : IVec S_ 1 := andi main_v54 main_v58
  let main_v60 : FVec F S1536 .f32 := Host.absf main_arg14
  let main_cst_23 : FVec F S_ .f32 := constant S_ .f32 0x7F800000#32
  let main_v61 : FVec F S1536 .f32 := broadcastInDim S1536 ![] bcast_S_S1536 main_cst_23
  let main_v62 : IVec S1536 1 := cmpf .olt main_v60 main_v61
  let main_c_24 : IVec S_ 1 := constantI S_ 1 1#1
  let main_v63 : IVec S_ 1 := (fun x v => Host.reduce IntOp.andi x v reducesTo_S1536_S_d0 h_S_) main_v62 main_c_24
  let main_v64 : IVec S_ 1 := andi main_v59 main_v63
  let main_v65 : FVec F S1536x1536 .f32 := Host.absf main_arg15
  let main_cst_25 : FVec F S_ .f32 := constant S_ .f32 0x7F800000#32
  let main_v66 : FVec F S1536x1536 .f32 := broadcastInDim S1536x1536 ![] bcast_S_S1536x1536 main_cst_25
  let main_v67 : IVec S1536x1536 1 := cmpf .olt main_v65 main_v66
  fn_part4 (F := F) main_arg2 main_arg16 main_v64 main_v67

def fn_part2 {F : FTy → Type} [FloatOps F] (main_arg2 : IVec S8x20x2x2 32) (main_arg9 : FVec F S1x5x1x1536 .f32) (main_arg10 : FVec F S1536 .f32) (main_arg11 : FVec F S1536 .f32) (main_arg12 : FVec F S4608x1536 .f32) (main_arg13 : FVec F S1536x1536 .f32) (main_arg14 : FVec F S1536 .f32) (main_arg15 : FVec F S1536x1536 .f32) (main_arg16 : FVec F S1536 .f32) (main_v29 : IVec S_ 1) (main_v32 : IVec S1x20x1536 1) (main_c_12 : IVec S_ 1) : IVec S_ 1 :=
  let main_v33 : IVec S_ 1 := (fun x v => Host.reduce IntOp.andi x v reducesTo_S1x20x1536_S_d0_1_2 h_S_) main_v32 main_c_12
  let main_v34 : IVec S_ 1 := andi main_v29 main_v33
  let main_v35 : FVec F S1x5x1x1536 .f32 := Host.absf main_arg9
  let main_cst_13 : FVec F S_ .f32 := constant S_ .f32 0x7F800000#32
  let main_v36 : FVec F S1x5x1x1536 .f32 := broadcastInDim S1x5x1x1536 ![] bcast_S_S1x5x1x1536 main_cst_13
  let main_v37 : IVec S1x5x1x1536 1 := cmpf .olt main_v35 main_v36
  let main_c_14 : IVec S_ 1 := constantI S_ 1 1#1
  let main_v38 : IVec S_ 1 := (fun x v => Host.reduce IntOp.andi x v reducesTo_S1x5x1x1536_S_d0_1_2_3 h_S_) main_v37 main_c_14
  let main_v39 : IVec S_ 1 := andi main_v34 main_v38
  let main_v40 : FVec F S1536 .f32 := Host.absf main_arg10
  let main_cst_15 : FVec F S_ .f32 := constant S_ .f32 0x7F800000#32
  let main_v41 : FVec F S1536 .f32 := broadcastInDim S1536 ![] bcast_S_S1536 main_cst_15
  let main_v42 : IVec S1536 1 := cmpf .olt main_v40 main_v41
  let main_c_16 : IVec S_ 1 := constantI S_ 1 1#1
  let main_v43 : IVec S_ 1 := (fun x v => Host.reduce IntOp.andi x v reducesTo_S1536_S_d0 h_S_) main_v42 main_c_16
  let main_v44 : IVec S_ 1 := andi main_v39 main_v43
  let main_v45 : FVec F S1536 .f32 := Host.absf main_arg11
  let main_cst_17 : FVec F S_ .f32 := constant S_ .f32 0x7F800000#32
  let main_v46 : FVec F S1536 .f32 := broadcastInDim S1536 ![] bcast_S_S1536 main_cst_17
  let main_v47 : IVec S1536 1 := cmpf .olt main_v45 main_v46
  let main_c_18 : IVec S_ 1 := constantI S_ 1 1#1
  let main_v48 : IVec S_ 1 := (fun x v => Host.reduce IntOp.andi x v reducesTo_S1536_S_d0 h_S_) main_v47 main_c_18
  let main_v49 : IVec S_ 1 := andi main_v44 main_v48
  let main_v50 : FVec F S4608x1536 .f32 := Host.absf main_arg12
  fn_part3 (F := F) main_arg2 main_arg13 main_arg14 main_arg15 main_arg16 main_v49 main_v50

def fn_part1 {F : FTy → Type} [FloatOps F] (main_arg2 : IVec S8x20x2x2 32) (main_arg6 : FVec F S1536x1 .f32) (main_arg7 : FVec F S1536 .f32) (main_arg8 : FVec F S1x20x1536 .f32) (main_arg9 : FVec F S1x5x1x1536 .f32) (main_arg10 : FVec F S1536 .f32) (main_arg11 : FVec F S1536 .f32) (main_arg12 : FVec F S4608x1536 .f32) (main_arg13 : FVec F S1536x1536 .f32) (main_arg14 : FVec F S1536 .f32) (main_arg15 : FVec F S1536x1536 .f32) (main_arg16 : FVec F S1536 .f32) (main_v14 : IVec S_ 1) (main_v15 : FVec F S1536 .f32) (main_cst_5 : FVec F S_ .f32) : IVec S_ 1 :=
  let main_v16 : FVec F S1536 .f32 := broadcastInDim S1536 ![] bcast_S_S1536 main_cst_5
  let main_v17 : IVec S1536 1 := cmpf .olt main_v15 main_v16
  let main_c_6 : IVec S_ 1 := constantI S_ 1 1#1
  let main_v18 : IVec S_ 1 := (fun x v => Host.reduce IntOp.andi x v reducesTo_S1536_S_d0 h_S_) main_v17 main_c_6
  let main_v19 : IVec S_ 1 := andi main_v14 main_v18
  let main_v20 : FVec F S1536x1 .f32 := Host.absf main_arg6
  let main_cst_7 : FVec F S_ .f32 := constant S_ .f32 0x7F800000#32
  let main_v21 : FVec F S1536x1 .f32 := broadcastInDim S1536x1 ![] bcast_S_S1536x1 main_cst_7
  let main_v22 : IVec S1536x1 1 := cmpf .olt main_v20 main_v21
  let main_c_8 : IVec S_ 1 := constantI S_ 1 1#1
  let main_v23 : IVec S_ 1 := (fun x v => Host.reduce IntOp.andi x v reducesTo_S1536x1_S_d0_1 h_S_) main_v22 main_c_8
  let main_v24 : IVec S_ 1 := andi main_v19 main_v23
  let main_v25 : FVec F S1536 .f32 := Host.absf main_arg7
  let main_cst_9 : FVec F S_ .f32 := constant S_ .f32 0x7F800000#32
  let main_v26 : FVec F S1536 .f32 := broadcastInDim S1536 ![] bcast_S_S1536 main_cst_9
  let main_v27 : IVec S1536 1 := cmpf .olt main_v25 main_v26
  let main_c_10 : IVec S_ 1 := constantI S_ 1 1#1
  let main_v28 : IVec S_ 1 := (fun x v => Host.reduce IntOp.andi x v reducesTo_S1536_S_d0 h_S_) main_v27 main_c_10
  let main_v29 : IVec S_ 1 := andi main_v24 main_v28
  let main_v30 : FVec F S1x20x1536 .f32 := Host.absf main_arg8
  let main_cst_11 : FVec F S_ .f32 := constant S_ .f32 0x7F800000#32
  let main_v31 : FVec F S1x20x1536 .f32 := broadcastInDim S1x20x1536 ![] bcast_S_S1x20x1536 main_cst_11
  let main_v32 : IVec S1x20x1536 1 := cmpf .olt main_v30 main_v31
  let main_c_12 : IVec S_ 1 := constantI S_ 1 1#1
  fn_part2 (F := F) main_arg2 main_arg9 main_arg10 main_arg11 main_arg12 main_arg13 main_arg14 main_arg15 main_arg16 main_v29 main_v32 main_c_12

def fn {F : FTy → Type} [FloatOps F] (main_arg0 : FVec F S8x3x20x224x224 .f32) (main_arg1 : FVec F S8 .f32) (main_arg2 : IVec S8x20x2x2 32) (main_arg3 : FVec F S8x20x1536 .f32) (main_arg4 : FVec F S1536x1536 .f32) (main_arg5 : FVec F S1536 .f32) (main_arg6 : FVec F S1536x1 .f32) (main_arg7 : FVec F S1536 .f32) (main_arg8 : FVec F S1x20x1536 .f32) (main_arg9 : FVec F S1x5x1x1536 .f32) (main_arg10 : FVec F S1536 .f32) (main_arg11 : FVec F S1536 .f32) (main_arg12 : FVec F S4608x1536 .f32) (main_arg13 : FVec F S1536x1536 .f32) (main_arg14 : FVec F S1536 .f32) (main_arg15 : FVec F S1536x1536 .f32) (main_arg16 : FVec F S1536 .f32) : IVec S_ 1 :=
  let main_v0 : FVec F S8 .f32 := Host.absf main_arg1
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_c_0 : IVec S_ 1 := constantI S_ 1 1#1
  let main_v4 : IVec S_ 1 := andi main_c_0 main_v3
  let main_v5 : FVec F S8x20x1536 .f32 := Host.absf main_arg3
  let main_cst_1 : FVec F S_ .f32 := constant S_ .f32 0x7F800000#32
  let main_v6 : FVec F S8x20x1536 .f32 := broadcastInDim S8x20x1536 ![] bcast_S_S8x20x1536 main_cst_1
  let main_v7 : IVec S8x20x1536 1 := cmpf .olt main_v5 main_v6
  let main_c_2 : IVec S_ 1 := constantI S_ 1 1#1
  let main_v8 : IVec S_ 1 := (fun x v => Host.reduce IntOp.andi x v reducesTo_S8x20x1536_S_d0_1_2 h_S_) main_v7 main_c_2
  let main_v9 : IVec S_ 1 := andi main_v4 main_v8
  let main_v10 : FVec F S1536x1536 .f32 := Host.absf main_arg4
  let main_cst_3 : FVec F S_ .f32 := constant S_ .f32 0x7F800000#32
  let main_v11 : FVec F S1536x1536 .f32 := broadcastInDim S1536x1536 ![] bcast_S_S1536x1536 main_cst_3
  let main_v12 : IVec S1536x1536 1 := cmpf .olt main_v10 main_v11
  let main_c_4 : IVec S_ 1 := constantI S_ 1 1#1
  let main_v13 : IVec S_ 1 := (fun x v => Host.reduce IntOp.andi x v reducesTo_S1536x1536_S_d0_1 h_S_) main_v12 main_c_4
  let main_v14 : IVec S_ 1 := andi main_v9 main_v13
  let main_v15 : FVec F S1536 .f32 := Host.absf main_arg5
  let main_cst_5 : FVec F S_ .f32 := constant S_ .f32 0x7F800000#32
  fn_part1 (F := F) main_arg2 main_arg6 main_arg7 main_arg8 main_arg9 main_arg10 main_arg11 main_arg12 main_arg13 main_arg14 main_arg15 main_arg16 main_v14 main_v15 main_cst_5
-- ==== Kernel.lean ====
abbrev S8x3x20x224x224 : Shape := ⟨5, ![8, 3, 20, 224, 224]⟩
abbrev S8 : Shape := ⟨1, ![8]⟩
abbrev S8x20x2x2 : Shape := ⟨4, ![8, 20, 2, 2]⟩
abbrev S8x20x1536 : Shape := ⟨3, ![8, 20, 1536]⟩
abbrev S1536x1536 : Shape := ⟨2, ![1536, 1536]⟩
abbrev S1536 : Shape := ⟨1, ![1536]⟩
abbrev S1536x1 : Shape := ⟨2, ![1536, 1]⟩
abbrev S1x20x1536 : Shape := ⟨3, ![1, 20, 1536]⟩
abbrev S1x5x1x1536 : Shape := ⟨4, ![1, 5, 1, 1536]⟩
abbrev S4608x1536 : Shape := ⟨2, ![4608, 1536]⟩
abbrev S640 : Shape := ⟨1, ![640]⟩
abbrev S1x1536 : Shape := ⟨2, ![1, 1536]⟩
abbrev S20x1536 : Shape := ⟨2, ![20, 1536]⟩
abbrev S5x1536 : Shape := ⟨2, ![5, 1536]⟩
abbrev S4x20x3x128 : Shape := ⟨4, ![4, 20, 3, 128]⟩
abbrev S8x5x5x1536 : Shape := ⟨4, ![8, 5, 5, 1536]⟩
abbrev S8x1536 : Shape := ⟨2, ![8, 1536]⟩
abbrev S1x3x4x224x224 : Shape := ⟨5, ![1, 3, 4, 224, 224]⟩
abbrev S128x1536 : Shape := ⟨2, ![128, 1536]⟩
abbrev S288x1536 : Shape := ⟨2, ![288, 1536]⟩
abbrev S1x4x3x128 : Shape := ⟨4, ![1, 4, 3, 128]⟩
abbrev S160x1536 : Shape := ⟨2, ![160, 1536]⟩
abbrev S40x1536 : Shape := ⟨2, ![40, 1536]⟩
abbrev S224x224 : Shape := ⟨2, ![224, 224]⟩
abbrev S1 : Shape := ⟨1, ![1]⟩
abbrev S1x1x1x224x224 : Shape := ⟨5, ![1, 1, 1, 224, 224]⟩
abbrev S1x224x224 : Shape := ⟨3, ![1, 224, 224]⟩
abbrev S1x1x1 : Shape := ⟨3, ![1, 1, 1]⟩
abbrev S1x1 : Shape := ⟨2, ![1, 1]⟩
abbrev S1x128 : Shape := ⟨2, ![1, 128]⟩
abbrev S128 : Shape := ⟨1, ![128]⟩
abbrev S1x1x1x128 : Shape := ⟨4, ![1, 1, 1, 128]⟩
abbrev S160x128 : Shape := ⟨2, ![160, 128]⟩
abbrev S8x1 : Shape := ⟨2, ![8, 1]⟩
abbrev S1x1x1536 : Shape := ⟨3, ![1, 1, 1536]⟩
abbrev S8x1x1536 : Shape := ⟨3, ![8, 1, 1536]⟩
abbrev S1x5x1536 : Shape := ⟨3, ![1, 5, 1536]⟩
abbrev S8x5x1536 : Shape := ⟨3, ![8, 5, 1536]⟩
abbrev S200x200 : Shape := ⟨2, ![200, 200]⟩
abbrev S200x1 : Shape := ⟨2, ![200, 1]⟩
abbrev S200x1536 : Shape := ⟨2, ![200, 1536]⟩
abbrev S200 : Shape := ⟨1, ![200]⟩
abbrev S200x4608 : Shape := ⟨2, ![200, 4608]⟩
abbrev S200x128 : Shape := ⟨2, ![200, 128]⟩
abbrev S200x129 : Shape := ⟨2, ![200, 129]⟩
abbrev S8x4x1536 : Shape := ⟨3, ![8, 4, 1536]⟩
abbrev S8x5x1x1536 : Shape := ⟨4, ![8, 5, 1, 1536]⟩
abbrev S8x5x4x1536 : Shape := ⟨4, ![8, 5, 4, 1536]⟩
abbrev S4x20x3x1 : Shape := ⟨4, ![4, 20, 3, 1]⟩
abbrev S4x20x3 : Shape := ⟨3, ![4, 20, 3]⟩
abbrev S8x20x3 : Shape := ⟨3, ![8, 20, 3]⟩

abbrev nBuf : Space → Nat
  | .hbm => 35
  | .vmem => 34
  | .smem => 2
  | _ => 0

abbrev bufTy : (tb : Table) → Fin (tcTables nBuf tb) → BufTy
  | .hbm, ⟨0, _⟩ => ⟨S8x3x20x224x224, .f32⟩
  | .hbm, ⟨1, _⟩ => ⟨S8, .f32⟩
  | .hbm, ⟨2, _⟩ => ⟨S8x20x2x2, .i32⟩
  | .hbm, ⟨3, _⟩ => ⟨S8x20x1536, .f32⟩
  | .hbm, ⟨4, _⟩ => ⟨S1536x1536, .f32⟩
  | .hbm, ⟨5, _⟩ => ⟨S1536, .f32⟩
  | .hbm, ⟨6, _⟩ => ⟨S1536x1, .f32⟩
  | .hbm, ⟨7, _⟩ => ⟨S1536, .f32⟩
  | .hbm, ⟨8, _⟩ => ⟨S1x20x1536, .f32⟩
  | .hbm, ⟨9, _⟩ => ⟨S1x5x1x1536, .f32⟩
  | .hbm, ⟨10, _⟩ => ⟨S1536, .f32⟩
  | .hbm, ⟨11, _⟩ => ⟨S1536, .f32⟩
  | .hbm, ⟨12, _⟩ => ⟨S4608x1536, .f32⟩
  | .hbm, ⟨13, _⟩ => ⟨S1536x1536, .f32⟩
  | .hbm, ⟨14, _⟩ => ⟨S1536, .f32⟩
  | .hbm, ⟨15, _⟩ => ⟨S1536x1536, .f32⟩
  | .hbm, ⟨16, _⟩ => ⟨S1536, .f32⟩
  | .hbm, ⟨17, _⟩ => ⟨S1x1536, .f32⟩
  | .hbm, ⟨18, _⟩ => ⟨S1x1536, .f32⟩
  | .hbm, ⟨19, _⟩ => ⟨S1x1536, .f32⟩
  | .hbm, ⟨20, _⟩ => ⟨S20x1536, .f32⟩
  | .hbm, ⟨21, _⟩ => ⟨S5x1536, .f32⟩
  | .hbm, ⟨22, _⟩ => ⟨S1x1536, .f32⟩
  | .hbm, ⟨23, _⟩ => ⟨S1x1536, .f32⟩
  | .hbm, ⟨24, _⟩ => ⟨S1x1536, .f32⟩
  | .hbm, ⟨25, _⟩ => ⟨S1x1536, .f32⟩
  | .hbm, ⟨26, _⟩ => ⟨S4x20x3x128, .f32⟩
  | .hbm, ⟨27, _⟩ => ⟨S4x20x3x128, .f32⟩
  | .hbm, ⟨28, _⟩ => ⟨S8x5x5x1536, .f32⟩
  | .hbm, ⟨29, _⟩ => ⟨S8x1536, .f32⟩
  | .hbm, ⟨30, _⟩ => ⟨S4x20x3x1, .f32⟩
  | .hbm, ⟨31, _⟩ => ⟨S4x20x3, .f32⟩
  | .hbm, ⟨32, _⟩ => ⟨S4x20x3x1, .f32⟩
  | .hbm, ⟨33, _⟩ => ⟨S4x20x3, .f32⟩
  | .hbm, ⟨34, _⟩ => ⟨S8x20x3, .f32⟩
  | .local _ .vmem, ⟨0, _⟩ => ⟨S1x3x4x224x224, .f32⟩
  | .local _ .vmem, ⟨1, _⟩ => ⟨S1x3x4x224x224, .f32⟩
  | .local _ .vmem, ⟨2, _⟩ => ⟨S1x3x4x224x224, .f32⟩
  | .local _ .vmem, ⟨3, _⟩ => ⟨S1x3x4x224x224, .f32⟩
  | .local _ .vmem, ⟨4, _⟩ => ⟨S8x20x1536, .f32⟩
  | .local _ .vmem, ⟨5, _⟩ => ⟨S128x1536, .f32⟩
  | .local _ .vmem, ⟨6, _⟩ => ⟨S128x1536, .f32⟩
  | .local _ .vmem, ⟨7, _⟩ => ⟨S1x1536, .f32⟩
  | .local _ .vmem, ⟨8, _⟩ => ⟨S20x1536, .f32⟩
  | .local _ .vmem, ⟨9, _⟩ => ⟨S1x1536, .f32⟩
  | .local _ .vmem, ⟨10, _⟩ => ⟨S1x1536, .f32⟩
  | .local _ .vmem, ⟨11, _⟩ => ⟨S5x1536, .f32⟩
  | .local _ .vmem, ⟨12, _⟩ => ⟨S1x1536, .f32⟩
  | .local _ .vmem, ⟨13, _⟩ => ⟨S1x1536, .f32⟩
  | .local _ .vmem, ⟨14, _⟩ => ⟨S288x1536, .f32⟩
  | .local _ .vmem, ⟨15, _⟩ => ⟨S288x1536, .f32⟩
  | .local _ .vmem, ⟨16, _⟩ => ⟨S128x1536, .f32⟩
  | .local _ .vmem, ⟨17, _⟩ => ⟨S128x1536, .f32⟩
  | .local _ .vmem, ⟨18, _⟩ => ⟨S1x1536, .f32⟩
  | .local _ .vmem, ⟨19, _⟩ => ⟨S128x1536, .f32⟩
  | .local _ .vmem, ⟨20, _⟩ => ⟨S128x1536, .f32⟩
  | .local _ .vmem, ⟨21, _⟩ => ⟨S1x1536, .f32⟩
  | .local _ .vmem, ⟨22, _⟩ => ⟨S1x4x3x128, .f32⟩
  | .local _ .vmem, ⟨23, _⟩ => ⟨S1x4x3x128, .f32⟩
  | .local _ .vmem, ⟨24, _⟩ => ⟨S1x4x3x128, .f32⟩
  | .local _ .vmem, ⟨25, _⟩ => ⟨S1x4x3x128, .f32⟩
  | .local _ .vmem, ⟨26, _⟩ => ⟨S8x5x5x1536, .f32⟩
  | .local _ .vmem, ⟨27, _⟩ => ⟨S8x1536, .f32⟩
  | .local _ .vmem, ⟨28, _⟩ => ⟨S4608x1536, .bf16⟩
  | .local _ .vmem, ⟨29, _⟩ => ⟨S1536x1536, .bf16⟩
  | .local _ .vmem, ⟨30, _⟩ => ⟨S1536x1536, .bf16⟩
  | .local _ .vmem, ⟨31, _⟩ => ⟨S160x1536, .f32⟩
  | .local _ .vmem, ⟨32, _⟩ => ⟨S40x1536, .f32⟩
  | .local _ .vmem, ⟨33, _⟩ => ⟨S160x1536, .f32⟩
  | .local _ .smem, ⟨0, _⟩ => ⟨S640, .i32⟩
  | .local _ .smem, ⟨1, _⟩ => ⟨S8, .f32⟩
  | _, _ => ⟨S8x3x20x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨1, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v10_2 : Ref sig .tc := ⟨.hbm, 28, rfl⟩
abbrev main_v10_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v0 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg20_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem20_0 : DmaSem sig := 28

abbrev nD : Nat := 1
abbrev τ : Topo := Topo.v7x

variable {F : FTy → Type} [FloatOps F]

abbrev grid0 : Pipeline.Grid := ⟨1, ![21], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c20_i32 : BitVec 32 := 20#32
  let v0 : BitVec 1 := Scalar.cmpi .slt arg0 c20_i32
  let v1 : BitVec 32 := Scalar.extui v0
  let c0_i32 : BitVec 32 := 0#32
  let v2 : BitVec 1 := Scalar.cmpi .ne v1 c0_i32
  v2

def k0_off1 (i : grid0.Coords) (c0_i32_19 : BitVec 32) : Fin 1 → Nat :=
  let arg0 : BitVec 32 := BitVec.ofNat 32 (i 0).val
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c5_i32 : BitVec 32 := 5#32
  let c0_i32_13 : BitVec 32 := 0#32
  let v33 : BitVec 1 := Scalar.cmpi .sgt c5_i32 c0_i32_13
  let v34 : BitVec 32 := Scalar.extui v33
  let c0_i32_14 : BitVec 32 := 0#32
  let v35 : BitVec 1 := Scalar.cmpi .slt c5_i32 c0_i32_14
  let v36 : BitVec 32 := Scalar.extui v35
  let v37 : BitVec 32 := Scalar.subi v34 v36
  let v38 : BitVec 1 := Scalar.cmpi .ne v32 v37
  let v39 : BitVec 32 := Scalar.remsi arg0 c5_i32
  let c0_i32_15 : BitVec 32 := 0#32
  let v40 : BitVec 1 := Scalar.cmpi .ne v39 c0_i32_15
  let v41 : BitVec 1 := Scalar.andi v38 v40
  let v27 : BitVec 32 := Scalar.divsi arg0 c5_i32
  let c1_i32 : BitVec 32 := 1#32
  let v42 : BitVec 32 := Scalar.subi v27 c1_i32
  let v43 : BitVec 32 := Scalar.select v41 v42 v27
  let c20_i32_17 : BitVec 32 := 20#32
  let v48 : BitVec 32 := Scalar.muli v43 c20_i32_17
  let c5_i32_16 : BitVec 32 := 5#32
  let v44 : BitVec 32 := Scalar.remsi arg0 c5_i32_16
  let c4_i32_18 : BitVec 32 := 4#32
  let v49 : BitVec 32 := Scalar.muli v44 c4_i32_18
  let v50 : BitVec 32 := Scalar.addi v48 v49
  let v51 : BitVec 32 := Scalar.addi v50 c0_i32_19
  let c4_i32_20 : BitVec 32 := 4#32
  let v52 : BitVec 32 := Scalar.muli v51 c4_i32_20
  let v53 : Index := Scalar.indexCast v52
  ![v53.toNat]
def k0_off2 (i : grid0.Coords) (c0_i32_19 : BitVec 32) (c1_i32_21 : BitVec 32) : Fin 1 → Nat :=
  let arg0 : BitVec 32 := BitVec.ofNat 32 (i 0).val
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c5_i32 : BitVec 32 := 5#32
  let c0_i32_13 : BitVec 32 := 0#32
  let v33 : BitVec 1 := Scalar.cmpi .sgt c5_i32 c0_i32_13
  let v34 : BitVec 32 := Scalar.extui v33
  let c0_i32_14 : BitVec 32 := 0#32
  let v35 : BitVec 1 := Scalar.cmpi .slt c5_i32 c0_i32_14
  let v36 : BitVec 32 := Scalar.extui v35
  let v37 : BitVec 32 := Scalar.subi v34 v36
  let v38 : BitVec 1 := Scalar.cmpi .ne v32 v37
  let v39 : BitVec 32 := Scalar.remsi arg0 c5_i32
  let c0_i32_15 : BitVec 32 := 0#32
  let v40 : BitVec 1 := Scalar.cmpi .ne v39 c0_i32_15
  let v41 : BitVec 1 := Scalar.andi v38 v40
  let v27 : BitVec 32 := Scalar.divsi arg0 c5_i32
  let c1_i32 : BitVec 32 := 1#32
  let v42 : BitVec 32 := Scalar.subi v27 c1_i32
  let v43 : BitVec 32 := Scalar.select v41 v42 v27
  let c20_i32_17 : BitVec 32 := 20#32
  let v48 : BitVec 32 := Scalar.muli v43 c20_i32_17
  let c5_i32_16 : BitVec 32 := 5#32
  let v44 : BitVec 32 := Scalar.remsi arg0 c5_i32_16
  let c4_i32_18 : BitVec 32 := 4#32
  let v49 : BitVec 32 := Scalar.muli v44 c4_i32_18
  let v50 : BitVec 32 := Scalar.addi v48 v49
  let v51 : BitVec 32 := Scalar.addi v50 c0_i32_19
  let c4_i32_20 : BitVec 32 := 4#32
  let v52 : BitVec 32 := Scalar.muli v51 c4_i32_20
  let v55 : BitVec 32 := Scalar.addi v52 c1_i32_21
  let v56 : Index := Scalar.indexCast v55
  ![v56.toNat]
def k0_off3 (i : grid0.Coords) (c0_i32_200 : BitVec 32) : Fin 1 → Nat :=
  let arg0 : BitVec 32 := BitVec.ofNat 32 (i 0).val
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c5_i32 : BitVec 32 := 5#32
  let c0_i32_13 : BitVec 32 := 0#32
  let v33 : BitVec 1 := Scalar.cmpi .sgt c5_i32 c0_i32_13
  let v34 : BitVec 32 := Scalar.extui v33
  let c0_i32_14 : BitVec 32 := 0#32
  let v35 : BitVec 1 := Scalar.cmpi .slt c5_i32 c0_i32_14
  let v36 : BitVec 32 := Scalar.extui v35
  let v37 : BitVec 32 := Scalar.subi v34 v36
  let v38 : BitVec 1 := Scalar.cmpi .ne v32 v37
  let v39 : BitVec 32 := Scalar.remsi arg0 c5_i32
  let c0_i32_15 : BitVec 32 := 0#32
  let v40 : BitVec 1 := Scalar.cmpi .ne v39 c0_i32_15
  let v41 : BitVec 1 := Scalar.andi v38 v40
  let v27 : BitVec 32 := Scalar.divsi arg0 c5_i32
  let c1_i32 : BitVec 32 := 1#32
  let v42 : BitVec 32 := Scalar.subi v27 c1_i32
  let v43 : BitVec 32 := Scalar.select v41 v42 v27
  let c4_i32 : BitVec 32 := 4#32
  let v47 : BitVec 32 := Scalar.addi v43 c4_i32
  let c20_i32_198 : BitVec 32 := 20#32
  let v476 : BitVec 32 := Scalar.muli v47 c20_i32_198
  let c5_i32_16 : BitVec 32 := 5#32
  let v44 : BitVec 32 := Scalar.remsi arg0 c5_i32_16
  let c4_i32_199 : BitVec 32 := 4#32
  let v477 : BitVec 32 := Scalar.muli v44 c4_i32_199
  let v478 : BitVec 32 := Scalar.addi v476 v477
  let v479 : BitVec 32 := Scalar.addi v478 c0_i32_200
  let c4_i32_201 : BitVec 32 := 4#32
  let v480 : BitVec 32 := Scalar.muli v479 c4_i32_201
  let v481 : Index := Scalar.indexCast v480
  ![v481.toNat]
def k0_off4 (i : grid0.Coords) (c0_i32_200 : BitVec 32) (c1_i32_202 : BitVec 32) : Fin 1 → Nat :=
  let arg0 : BitVec 32 := BitVec.ofNat 32 (i 0).val
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c5_i32 : BitVec 32 := 5#32
  let c0_i32_13 : BitVec 32 := 0#32
  let v33 : BitVec 1 := Scalar.cmpi .sgt c5_i32 c0_i32_13
  let v34 : BitVec 32 := Scalar.extui v33
  let c0_i32_14 : BitVec 32 := 0#32
  let v35 : BitVec 1 := Scalar.cmpi .slt c5_i32 c0_i32_14
  let v36 : BitVec 32 := Scalar.extui v35
  let v37 : BitVec 32 := Scalar.subi v34 v36
  let v38 : BitVec 1 := Scalar.cmpi .ne v32 v37
  let v39 : BitVec 32 := Scalar.remsi arg0 c5_i32
  let c0_i32_15 : BitVec 32 := 0#32
  let v40 : BitVec 1 := Scalar.cmpi .ne v39 c0_i32_15
  let v41 : BitVec 1 := Scalar.andi v38 v40
  let v27 : BitVec 32 := Scalar.divsi arg0 c5_i32
  let c1_i32 : BitVec 32 := 1#32
  let v42 : BitVec 32 := Scalar.subi v27 c1_i32
  let v43 : BitVec 32 := Scalar.select v41 v42 v27
  let c4_i32 : BitVec 32 := 4#32
  let v47 : BitVec 32 := Scalar.addi v43 c4_i32
  let c20_i32_198 : BitVec 32 := 20#32
  let v476 : BitVec 32 := Scalar.muli v47 c20_i32_198
  let c5_i32_16 : BitVec 32 := 5#32
  let v44 : BitVec 32 := Scalar.remsi arg0 c5_i32_16
  let c4_i32_199 : BitVec 32 := 4#32
  let v477 : BitVec 32 := Scalar.muli v44 c4_i32_199
  let v478 : BitVec 32 := Scalar.addi v476 v477
  let v479 : BitVec 32 := Scalar.addi v478 c0_i32_200
  let c4_i32_201 : BitVec 32 := 4#32
  let v480 : BitVec 32 := Scalar.muli v479 c4_i32_201
  let v483 : BitVec 32 := Scalar.addi v480 c1_i32_202
  let v484 : Index := Scalar.indexCast v483
  ![v484.toNat]
def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_0 : BitVec 32 := 0#32
  let v5 : BitVec 1 := Scalar.cmpi .ne v4 c0_i32_0
  v5

def k0_mult1 (i : grid0.Coords) : BitVec 32 :=
  let arg0 : BitVec 32 := BitVec.ofNat 32 (i 0).val
  let c288_i32 : BitVec 32 := 288#32
  let v27 : BitVec 32 := Scalar.muli arg0 c288_i32
  v27
def k0_off5 (i : grid0.Coords) : Fin 2 → Nat :=
  let arg0 : BitVec 32 := BitVec.ofNat 32 (i 0).val
  let c288_i32 : BitVec 32 := 288#32
  let v27 : BitVec 32 := Scalar.muli arg0 c288_i32
  let v28 : BitVec 32 := v27
  let v31 : Index := Scalar.indexCast v28
  let c0_12 : Index := 0#32
  ![v31.toNat, 0]
def k0_cond3 (i : grid0.Coords) : BitVec 1 :=
  let arg0 : BitVec 32 := BitVec.ofNat 32 (i 0).val
  let c12_i32 : BitVec 32 := 12#32
  let v6 : BitVec 1 := Scalar.cmpi .slt arg0 c12_i32
  let v7 : BitVec 32 := Scalar.extui v6
  let c0_i32_1 : BitVec 32 := 0#32
  let v8 : BitVec 1 := Scalar.cmpi .ne v7 c0_i32_1
  v8

def k0_mult2 (i : grid0.Coords) : BitVec 32 :=
  let arg0 : BitVec 32 := BitVec.ofNat 32 (i 0).val
  let c128_i32 : BitVec 32 := 128#32
  let v27 : BitVec 32 := Scalar.muli arg0 c128_i32
  v27
def k0_off6 (i : grid0.Coords) : Fin 2 → Nat :=
  let arg0 : BitVec 32 := BitVec.ofNat 32 (i 0).val
  let c128_i32 : BitVec 32 := 128#32
  let v27 : BitVec 32 := Scalar.muli arg0 c128_i32
  let v28 : BitVec 32 := v27
  let v31 : Index := Scalar.indexCast v28
  let c0_12 : Index := 0#32
  ![v31.toNat, 0]
def k0_off7 (i : grid0.Coords) : Fin 2 → Nat :=
  let c0_21 : Index := 0#32
  let arg0 : BitVec 32 := BitVec.ofNat 32 (i 0).val
  let c128_i32 : BitVec 32 := 128#32
  let v27 : BitVec 32 := Scalar.muli arg0 c128_i32
  let v28 : BitVec 32 := v27
  let v45 : Index := Scalar.indexCast v28
  ![0, v45.toNat]
def k0_cond9 (i : grid0.Coords) : BitVec 1 :=
  let arg0 : BitVec 32 := BitVec.ofNat 32 (i 0).val
  let c20_i32_9 : BitVec 32 := 20#32
  let v24 : BitVec 1 := Scalar.cmpi .eq arg0 c20_i32_9
  let v25 : BitVec 32 := Scalar.extui v24
  let c0_i32_10 : BitVec 32 := 0#32
  let v26 : BitVec 1 := Scalar.cmpi .ne v25 c0_i32_10
  v26

def k0_cond4 (i : grid0.Coords) : BitVec 1 :=
  let arg0 : BitVec 32 := BitVec.ofNat 32 (i 0).val
  let c12_i32_2 : BitVec 32 := 12#32
  let v9 : BitVec 1 := Scalar.cmpi .eq arg0 c12_i32_2
  let v10 : BitVec 32 := Scalar.extui v9
  let c0_i32_3 : BitVec 32 := 0#32
  let v11 : BitVec 1 := Scalar.cmpi .ne v10 c0_i32_3
  v11

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 5 → Nat :=
  let arg0 : BitVec 32 := BitVec.ofNat 32 (i 0).val
  let c19_i32 : BitVec 32 := 19#32
  let v0 : BitVec 32 := Scalar.minsi arg0 c19_i32
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c19_i32_4 : BitVec 32 := 19#32
  let v18 : BitVec 32 := Scalar.minsi arg0 c19_i32_4
  let c5_i32_5 : BitVec 32 := 5#32
  let v19 : BitVec 32 := Scalar.remsi v18 c5_i32_5
  let c0_i32_6 : BitVec 32 := 0#32
  let c0_i32_7 : BitVec 32 := 0#32
  let c0_i32_8 : BitVec 32 := 0#32
  let c0_i32_9 : BitVec 32 := 0#32
  ![v17.toNat, c0_i32_6.toNat, v19.toNat, c0_i32_7.toNat, c0_i32_8.toNat]

def cc0_transform_2 (i : grid0.Coords) : Fin 5 → Nat :=
  let arg0 : BitVec 32 := BitVec.ofNat 32 (i 0).val
  let c19_i32 : BitVec 32 := 19#32
  let v0 : BitVec 32 := Scalar.minsi arg0 c19_i32
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.addi v17 c4_i32
  let c19_i32_4 : BitVec 32 := 19#32
  let v19 : BitVec 32 := Scalar.minsi arg0 c19_i32_4
  let c5_i32_5 : BitVec 32 := 5#32
  let v20 : BitVec 32 := Scalar.remsi v19 c5_i32_5
  let c0_i32_6 : BitVec 32 := 0#32
  let c0_i32_7 : BitVec 32 := 0#32
  let c0_i32_8 : BitVec 32 := 0#32
  let c0_i32_9 : BitVec 32 := 0#32
  ![v18.toNat, c0_i32_6.toNat, v20.toNat, c0_i32_7.toNat, c0_i32_8.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let c19_i32 : BitVec 32 := 19#32
  let v0 : BitVec 32 := Scalar.minsi arg0 c19_i32
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c19_i32_4 : BitVec 32 := 19#32
  let v18 : BitVec 32 := Scalar.minsi arg0 c19_i32_4
  let c5_i32_5 : BitVec 32 := 5#32
  let v19 : BitVec 32 := Scalar.remsi v18 c5_i32_5
  let c0_i32_6 : BitVec 32 := 0#32
  let c0_i32_7 : BitVec 32 := 0#32
  let c0_i32_8 : BitVec 32 := 0#32
  ![v17.toNat, v19.toNat, c0_i32_6.toNat, c0_i32_7.toNat]

def cc0_transform_18 (i : grid0.Coords) : Fin 4 → Nat :=
  let arg0 : BitVec 32 := BitVec.ofNat 32 (i 0).val
  let c19_i32 : BitVec 32 := 19#32
  let v0 : BitVec 32 := Scalar.minsi arg0 c19_i32
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c19_i32_4 : BitVec 32 := 19#32
  let v18 : BitVec 32 := Scalar.minsi arg0 c19_i32_4
  let c5_i32_5 : BitVec 32 := 5#32
  let v19 : BitVec 32 := Scalar.remsi v18 c5_i32_5
  let c0_i32_6 : BitVec 32 := 0#32
  let c0_i32_7 : BitVec 32 := 0#32
  let c0_i32_8 : BitVec 32 := 0#32
  ![v17.toNat, v19.toNat, c0_i32_6.toNat, c0_i32_7.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x3x4x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x4x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x20x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S288x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x4x3x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x3x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x5x5x1536 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x1536 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== KernelIdeal.lean ====
variable {F : FTy → Type} [FloatOps F] [Named F]
def κ : String → Option EReal := fun
  | "inv_plane" => some ((50176⁻¹ : ℝ) : EReal)
  | "third" => some ((3⁻¹ : ℝ) : EReal)
  | _ => none
-- ==== ReferenceIdeal.lean ====
abbrev S8x3x20x224x224 : Shape := ⟨5, ![8, 3, 20, 224, 224]⟩
abbrev S8 : Shape := ⟨1, ![8]⟩
abbrev S8x20x2x2 : Shape := ⟨4, ![8, 20, 2, 2]⟩
abbrev S8x20x1536 : Shape := ⟨3, ![8, 20, 1536]⟩
abbrev S1536x1536 : Shape := ⟨2, ![1536, 1536]⟩
abbrev S1536 : Shape := ⟨1, ![1536]⟩
abbrev S1536x1 : Shape := ⟨2, ![1536, 1]⟩
abbrev S1x20x1536 : Shape := ⟨3, ![1, 20, 1536]⟩
abbrev S1x5x1x1536 : Shape := ⟨4, ![1, 5, 1, 1536]⟩
abbrev S4608x1536 : Shape := ⟨2, ![4608, 1536]⟩
abbrev S_ : Shape := ⟨0, ![]⟩
abbrev S8x3x20 : Shape := ⟨3, ![8, 3, 20]⟩
abbrev S8x20x1x1 : Shape := ⟨4, ![8, 20, 1, 1]⟩
abbrev S8x20 : Shape := ⟨2, ![8, 20]⟩
abbrev S224 : Shape := ⟨1, ![224]⟩
abbrev S1x1x224 : Shape := ⟨3, ![1, 1, 224]⟩
abbrev S8x20x1 : Shape := ⟨3, ![8, 20, 1]⟩
abbrev S8x20x224 : Shape := ⟨3, ![8, 20, 224]⟩
abbrev S8x20x224x1 : Shape := ⟨4, ![8, 20, 224, 1]⟩
abbrev S8x20x1x224 : Shape := ⟨4, ![8, 20, 1, 224]⟩
abbrev S8x20x224x224 : Shape := ⟨4, ![8, 20, 224, 224]⟩
abbrev S8x20x3 : Shape := ⟨3, ![8, 20, 3]⟩
abbrev S8x1x20 : Shape := ⟨3, ![8, 1, 20]⟩
abbrev S1x1x1536 : Shape := ⟨3, ![1, 1, 1536]⟩
abbrev S8x1 : Shape := ⟨2, ![8, 1]⟩
abbrev S1x1536 : Shape := ⟨2, ![1, 1536]⟩
abbrev S8x1536 : Shape := ⟨2, ![8, 1536]⟩
abbrev S8x1x1536 : Shape := ⟨3, ![8, 1, 1536]⟩
abbrev S8x22x1536 : Shape := ⟨3, ![8, 22, 1536]⟩
abbrev S8x5x4x1536 : Shape := ⟨4, ![8, 5, 4, 1536]⟩
abbrev S8x5x1x1536 : Shape := ⟨4, ![8, 5, 1, 1536]⟩
abbrev S8x5x5x1536 : Shape := ⟨4, ![8, 5, 5, 1536]⟩
abbrev S40x5x1536 : Shape := ⟨3, ![40, 5, 1536]⟩
abbrev S40x5 : Shape := ⟨2, ![40, 5]⟩
abbrev S40x5x1 : Shape := ⟨3, ![40, 5, 1]⟩
abbrev S1536x4608 : Shape := ⟨2, ![1536, 4608]⟩
abbrev S40x5x4608 : Shape := ⟨3, ![40, 5, 4608]⟩
abbrev S40x5x3x12x128 : Shape := ⟨5, ![40, 5, 3, 12, 128]⟩
abbrev S3x40x12x5x128 : Shape := ⟨5, ![3, 40, 12, 5, 128]⟩
abbrev S1x40x12x5x128 : Shape := ⟨5, ![1, 40, 12, 5, 128]⟩
abbrev S40x12x5x128 : Shape := ⟨4, ![40, 12, 5, 128]⟩
abbrev S40x12x5x5 : Shape := ⟨4, ![40, 12, 5, 5]⟩
abbrev S40x12x5 : Shape := ⟨3, ![40, 12, 5]⟩
abbrev S40x12x5x1 : Shape := ⟨4, ![40, 12, 5, 1]⟩
abbrev S40x5x12x128 : Shape := ⟨4, ![40, 5, 12, 128]⟩
abbrev S8x5x1536 : Shape := ⟨3, ![8, 5, 1536]⟩
abbrev S8x4x1536 : Shape := ⟨3, ![8, 4, 1536]⟩
abbrev S1 : Shape := ⟨1, ![1]⟩

abbrev nBuf : Space → Nat
  | .hbm => 487
  | .vmem => 0
  | .smem => 0
  | _ => 0

abbrev hbmTy0_0 (i : Nat) : BufTy := match i % 128 with
  | 0 => ⟨S8x3x20x224x224, .f32⟩
  | 1 => ⟨S8, .f32⟩
  | 2 => ⟨S8x20x2x2, .i32⟩
  | 3 => ⟨S8x20x1536, .f32⟩
  | 4 => ⟨S1536x1536, .f32⟩
  | 5 => ⟨S1536, .f32⟩
  | 6 => ⟨S1536x1, .f32⟩
  | 7 => ⟨S1536, .f32⟩
  | 8 => ⟨S1x20x1536, .f32⟩
  | 9 => ⟨S1x5x1x1536, .f32⟩
  | 10 => ⟨S1536, .f32⟩
  | 11 => ⟨S1536, .f32⟩
  | 12 => ⟨S4608x1536, .f32⟩
  | 13 => ⟨S1536x1536, .f32⟩
  | 14 => ⟨S1536, .f32⟩
  | 15 => ⟨S1536x1536, .f32⟩
  | 16 => ⟨S1536, .f32⟩
  | 17 => ⟨S_, .f32⟩
  | 18 => ⟨S8x3x20, .f32⟩
  | 19 => ⟨S_, .f32⟩
  | 20 => ⟨S8x3x20, .f32⟩
  | 21 => ⟨S8x3x20, .f32⟩
  | 22 => ⟨S8x20x1x1, .i32⟩
  | 23 => ⟨S8x20, .i32⟩
  | 24 => ⟨S8x20x1x1, .i32⟩
  | 25 => ⟨S8x20, .i32⟩
  | 26 => ⟨S8x20x1x1, .i32⟩
  | 27 => ⟨S8x20, .i32⟩
  | 28 => ⟨S8x20x1x1, .i32⟩
  | 29 => ⟨S8x20, .i32⟩
  | 30 => ⟨S224, .i32⟩
  | 31 => ⟨S224, .i32⟩
  | 32 => ⟨S1x1x224, .i32⟩
  | 33 => ⟨S8x20x1, .i32⟩
  | 34 => ⟨S8x20x224, .i32⟩
  | 35 => ⟨S8x20x224, .i32⟩
  | 36 => ⟨S8x20x224, .i1⟩
  | 37 => ⟨S1x1x224, .i32⟩
  | 38 => ⟨S8x20x1, .i32⟩
  | 39 => ⟨S8x20x224, .i32⟩
  | 40 => ⟨S8x20x224, .i32⟩
  | 41 => ⟨S8x20x224, .i1⟩
  | 42 => ⟨S8x20x224, .i1⟩
  | 43 => ⟨S1x1x224, .i32⟩
  | 44 => ⟨S8x20x1, .i32⟩
  | 45 => ⟨S8x20x224, .i32⟩
  | 46 => ⟨S8x20x224, .i32⟩
  | 47 => ⟨S8x20x224, .i1⟩
  | 48 => ⟨S1x1x224, .i32⟩
  | 49 => ⟨S8x20x1, .i32⟩
  | 50 => ⟨S8x20x224, .i32⟩
  | 51 => ⟨S8x20x224, .i32⟩
  | 52 => ⟨S8x20x224, .i1⟩
  | 53 => ⟨S8x20x224, .i1⟩
  | 54 => ⟨S8x20x224x1, .i1⟩
  | 55 => ⟨S8x20x1x224, .i1⟩
  | 56 => ⟨S8x20x224x224, .i1⟩
  | 57 => ⟨S8x20x224x224, .i1⟩
  | 58 => ⟨S8x20x224x224, .i1⟩
  | 59 => ⟨S8x20x224x224, .f32⟩
  | 60 => ⟨S8x20, .i32⟩
  | 61 => ⟨S8x20, .i32⟩
  | 62 => ⟨S8x20, .i32⟩
  | 63 => ⟨S8x20, .f32⟩
  | 64 => ⟨S8x20x3, .f32⟩
  | 65 => ⟨S8x3x20, .f32⟩
  | 66 => ⟨S8x1x20, .f32⟩
  | 67 => ⟨S8x3x20, .f32⟩
  | 68 => ⟨S8x3x20, .f32⟩
  | 69 => ⟨S8x3x20, .f32⟩
  | 70 => ⟨S8x20x3, .f32⟩
  | 71 => ⟨S1536x1536, .f32⟩
  | 72 => ⟨S8x20x1536, .f32⟩
  | 73 => ⟨S1x1x1536, .f32⟩
  | 74 => ⟨S8x20x1536, .f32⟩
  | 75 => ⟨S8x20x1536, .f32⟩
  | 76 => ⟨S8x20x1536, .f32⟩
  | 77 => ⟨S8x20x1536, .f32⟩
  | 78 => ⟨S8x1, .f32⟩
  | 79 => ⟨S1x1536, .f32⟩
  | 80 => ⟨S8x1536, .f32⟩
  | 81 => ⟨S1x1536, .f32⟩
  | 82 => ⟨S8x1536, .f32⟩
  | 83 => ⟨S8x1536, .f32⟩
  | 84 => ⟨S8x1x1536, .f32⟩
  | 85 => ⟨S8x20x1536, .f32⟩
  | 86 => ⟨S8x20x1536, .f32⟩
  | 87 => ⟨S_, .i32⟩
  | 88 => ⟨S_, .f32⟩
  | 89 => ⟨S8x22x1536, .f32⟩
  | 90 => ⟨S8x20x1536, .f32⟩
  | 91 => ⟨S8x20x1536, .f32⟩
  | 92 => ⟨S8x20x1536, .f32⟩
  | 93 => ⟨S8x20x1536, .f32⟩
  | 94 => ⟨S8x20x1536, .f32⟩
  | 95 => ⟨S_, .f32⟩
  | 96 => ⟨S8x20x1536, .f32⟩
  | 97 => ⟨S8x20x1536, .f32⟩
  | 98 => ⟨S8x1x1536, .f32⟩
  | 99 => ⟨S8x1536, .f32⟩
  | 100 => ⟨S8x5x4x1536, .f32⟩
  | 101 => ⟨S8x5x1x1536, .f32⟩
  | 102 => ⟨S8x5x5x1536, .f32⟩
  | 103 => ⟨S40x5x1536, .f32⟩
  | 104 => ⟨S_, .f32⟩
  | 105 => ⟨S40x5, .f32⟩
  | 106 => ⟨S40x5x1, .f32⟩
  | 107 => ⟨S_, .f32⟩
  | 108 => ⟨S40x5x1, .f32⟩
  | 109 => ⟨S40x5x1, .f32⟩
  | 110 => ⟨S_, .i32⟩
  | 111 => ⟨S_, .f32⟩
  | 112 => ⟨S40x5, .f32⟩
  | 113 => ⟨S40x5x1, .f32⟩
  | 114 => ⟨S_, .f32⟩
  | 115 => ⟨S40x5x1, .f32⟩
  | 116 => ⟨S40x5x1, .f32⟩
  | 117 => ⟨S40x5x1536, .f32⟩
  | 118 => ⟨S40x5x1536, .f32⟩
  | 119 => ⟨S40x5x1536, .f32⟩
  | 120 => ⟨S_, .f32⟩
  | 121 => ⟨S_, .f32⟩
  | 122 => ⟨S_, .f32⟩
  | 123 => ⟨S_, .f32⟩
  | 124 => ⟨S40x5, .f32⟩
  | 125 => ⟨S40x5x1, .f32⟩
  | 126 => ⟨S40x5x1, .f32⟩
  | 127 => ⟨S40x5x1, .f32⟩
  | _ => ⟨S8x3x20x224x224, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S40x5x1, .f32⟩
  | 5 => ⟨S40x5x1, .f32⟩
  | 6 => ⟨S40x5x1536, .f32⟩
  | 7 => ⟨S40x5x1536, .f32⟩
  | 8 => ⟨S_, .f32⟩
  | 9 => ⟨S40x5x1, .f32⟩
  | 10 => ⟨S40x5x1, .f32⟩
  | 11 => ⟨S40x5x1, .f32⟩
  | 12 => ⟨S40x5x1536, .f32⟩
  | 13 => ⟨S40x5x1536, .f32⟩
  | 14 => ⟨S1x1x1536, .f32⟩
  | 15 => ⟨S40x5x1536, .f32⟩
  | 16 => ⟨S40x5x1536, .f32⟩
  | 17 => ⟨S1x1x1536, .f32⟩
  | 18 => ⟨S40x5x1536, .f32⟩
  | 19 => ⟨S40x5x1536, .f32⟩
  | 20 => ⟨S1536x4608, .f32⟩
  | 21 => ⟨S40x5x4608, .f32⟩
  | 22 => ⟨S40x5x3x12x128, .f32⟩
  | 23 => ⟨S3x40x12x5x128, .f32⟩
  | 24 => ⟨S1x40x12x5x128, .f32⟩
  | 25 => ⟨S40x12x5x128, .f32⟩
  | 26 => ⟨S1x40x12x5x128, .f32⟩
  | 27 => ⟨S40x12x5x128, .f32⟩
  | 28 => ⟨S1x40x12x5x128, .f32⟩
  | 29 => ⟨S40x12x5x128, .f32⟩
  | 30 => ⟨S40x12x5x5, .f32⟩
  | 31 => ⟨S_, .f32⟩
  | 32 => ⟨S40x12x5x5, .f32⟩
  | 33 => ⟨S40x12x5x5, .f32⟩
  | 34 => ⟨S_, .f32⟩
  | 35 => ⟨S40x12x5, .f32⟩
  | 36 => ⟨S_, .f32⟩
  | 37 => ⟨S40x12x5, .f32⟩
  | 38 => ⟨S40x12x5, .f32⟩
  | 39 => ⟨S40x12x5x1, .f32⟩
  | 40 => ⟨S40x12x5x5, .f32⟩
  | 41 => ⟨S40x12x5x5, .f32⟩
  | 42 => ⟨S40x12x5x5, .f32⟩
  | 43 => ⟨S_, .f32⟩
  | 44 => ⟨S40x12x5, .f32⟩
  | 45 => ⟨S40x12x5x1, .f32⟩
  | 46 => ⟨S40x12x5x5, .f32⟩
  | 47 => ⟨S40x12x5x5, .f32⟩
  | 48 => ⟨S40x12x5x128, .f32⟩
  | 49 => ⟨S40x5x12x128, .f32⟩
  | 50 => ⟨S40x5x1536, .f32⟩
  | 51 => ⟨S1536x1536, .f32⟩
  | 52 => ⟨S40x5x1536, .f32⟩
  | 53 => ⟨S1x1x1536, .f32⟩
  | 54 => ⟨S40x5x1536, .f32⟩
  | 55 => ⟨S40x5x1536, .f32⟩
  | 56 => ⟨S1536x1536, .f32⟩
  | 57 => ⟨S40x5x1536, .f32⟩
  | 58 => ⟨S1x1x1536, .f32⟩
  | 59 => ⟨S40x5x1536, .f32⟩
  | 60 => ⟨S40x5x1536, .f32⟩
  | 61 => ⟨S40x5x1536, .f32⟩
  | 62 => ⟨S8x5x5x1536, .f32⟩
  | 63 => ⟨S8x5x1x1536, .f32⟩
  | 64 => ⟨S8x5x1536, .f32⟩
  | 65 => ⟨S8x1x1536, .f32⟩
  | 66 => ⟨S8x4x1536, .f32⟩
  | 67 => ⟨S8x5x1536, .f32⟩
  | 68 => ⟨S_, .i32⟩
  | 69 => ⟨S1, .i32⟩
  | 70 => ⟨S8x5x5x1536, .f32⟩
  | 71 => ⟨S40x5x1536, .f32⟩
  | 72 => ⟨S_, .f32⟩
  | 73 => ⟨S40x5, .f32⟩
  | 74 => ⟨S40x5x1, .f32⟩
  | 75 => ⟨S_, .f32⟩
  | 76 => ⟨S40x5x1, .f32⟩
  | 77 => ⟨S40x5x1, .f32⟩
  | 78 => ⟨S_, .i32⟩
  | 79 => ⟨S_, .f32⟩
  | 80 => ⟨S40x5, .f32⟩
  | 81 => ⟨S40x5x1, .f32⟩
  | 82 => ⟨S_, .f32⟩
  | 83 => ⟨S40x5x1, .f32⟩
  | 84 => ⟨S40x5x1, .f32⟩
  | 85 => ⟨S40x5x1536, .f32⟩
  | 86 => ⟨S40x5x1536, .f32⟩
  | 87 => ⟨S40x5x1536, .f32⟩
  | 88 => ⟨S_, .f32⟩
  | 89 => ⟨S_, .f32⟩
  | 90 => ⟨S_, .f32⟩
  | 91 => ⟨S_, .f32⟩
  | 92 => ⟨S40x5, .f32⟩
  | 93 => ⟨S40x5x1, .f32⟩
  | 94 => ⟨S40x5x1, .f32⟩
  | 95 => ⟨S40x5x1, .f32⟩
  | 96 => ⟨S_, .f32⟩
  | 97 => ⟨S_, .i1⟩
  | 98 => ⟨S_, .f32⟩
  | 99 => ⟨S_, .f32⟩
  | 100 => ⟨S40x5x1, .f32⟩
  | 101 => ⟨S40x5x1, .f32⟩
  | 102 => ⟨S40x5x1536, .f32⟩
  | 103 => ⟨S40x5x1536, .f32⟩
  | 104 => ⟨S_, .f32⟩
  | 105 => ⟨S40x5x1, .f32⟩
  | 106 => ⟨S40x5x1, .f32⟩
  | 107 => ⟨S40x5x1, .f32⟩
  | 108 => ⟨S40x5x1536, .f32⟩
  | 109 => ⟨S40x5x1536, .f32⟩
  | 110 => ⟨S1x1x1536, .f32⟩
  | 111 => ⟨S40x5x1536, .f32⟩
  | 112 => ⟨S40x5x1536, .f32⟩
  | 113 => ⟨S1x1x1536, .f32⟩
  | 114 => ⟨S40x5x1536, .f32⟩
  | 115 => ⟨S40x5x1536, .f32⟩
  | 116 => ⟨S1536x4608, .f32⟩
  | 117 => ⟨S40x5x4608, .f32⟩
  | 118 => ⟨S40x5x3x12x128, .f32⟩
  | 119 => ⟨S3x40x12x5x128, .f32⟩
  | 120 => ⟨S1x40x12x5x128, .f32⟩
  | 121 => ⟨S40x12x5x128, .f32⟩
  | 122 => ⟨S1x40x12x5x128, .f32⟩
  | 123 => ⟨S40x12x5x128, .f32⟩
  | 124 => ⟨S1x40x12x5x128, .f32⟩
  | 125 => ⟨S40x12x5x128, .f32⟩
  | 126 => ⟨S40x12x5x5, .f32⟩
  | 127 => ⟨S_, .f32⟩
  | _ => ⟨S8x3x20x224x224, .f32⟩

abbrev hbmTy0_2 (i : Nat) : BufTy := match i % 128 with
  | 0 => ⟨S40x12x5x5, .f32⟩
  | 1 => ⟨S40x12x5x5, .f32⟩
  | 2 => ⟨S_, .f32⟩
  | 3 => ⟨S40x12x5, .f32⟩
  | 4 => ⟨S_, .f32⟩
  | 5 => ⟨S40x12x5, .f32⟩
  | 6 => ⟨S40x12x5, .f32⟩
  | 7 => ⟨S40x12x5x1, .f32⟩
  | 8 => ⟨S40x12x5x5, .f32⟩
  | 9 => ⟨S40x12x5x5, .f32⟩
  | 10 => ⟨S40x12x5x5, .f32⟩
  | 11 => ⟨S_, .f32⟩
  | 12 => ⟨S40x12x5, .f32⟩
  | 13 => ⟨S40x12x5x1, .f32⟩
  | 14 => ⟨S40x12x5x5, .f32⟩
  | 15 => ⟨S40x12x5x5, .f32⟩
  | 16 => ⟨S40x12x5x128, .f32⟩
  | 17 => ⟨S40x5x12x128, .f32⟩
  | 18 => ⟨S40x5x1536, .f32⟩
  | 19 => ⟨S1536x1536, .f32⟩
  | 20 => ⟨S40x5x1536, .f32⟩
  | 21 => ⟨S1x1x1536, .f32⟩
  | 22 => ⟨S40x5x1536, .f32⟩
  | 23 => ⟨S40x5x1536, .f32⟩
  | 24 => ⟨S1536x1536, .f32⟩
  | 25 => ⟨S40x5x1536, .f32⟩
  | 26 => ⟨S1x1x1536, .f32⟩
  | 27 => ⟨S40x5x1536, .f32⟩
  | 28 => ⟨S40x5x1536, .f32⟩
  | 29 => ⟨S40x5x1536, .f32⟩
  | 30 => ⟨S8x5x5x1536, .f32⟩
  | 31 => ⟨S8x5x1x1536, .f32⟩
  | 32 => ⟨S8x5x1536, .f32⟩
  | 33 => ⟨S8x1x1536, .f32⟩
  | 34 => ⟨S8x4x1536, .f32⟩
  | 35 => ⟨S8x5x1536, .f32⟩
  | 36 => ⟨S_, .i32⟩
  | 37 => ⟨S1, .i32⟩
  | 38 => ⟨S8x5x5x1536, .f32⟩
  | 39 => ⟨S40x5x1536, .f32⟩
  | 40 => ⟨S_, .f32⟩
  | 41 => ⟨S40x5, .f32⟩
  | 42 => ⟨S40x5x1, .f32⟩
  | 43 => ⟨S_, .f32⟩
  | 44 => ⟨S40x5x1, .f32⟩
  | 45 => ⟨S40x5x1, .f32⟩
  | 46 => ⟨S_, .i32⟩
  | 47 => ⟨S_, .f32⟩
  | 48 => ⟨S40x5, .f32⟩
  | 49 => ⟨S40x5x1, .f32⟩
  | 50 => ⟨S_, .f32⟩
  | 51 => ⟨S40x5x1, .f32⟩
  | 52 => ⟨S40x5x1, .f32⟩
  | 53 => ⟨S40x5x1536, .f32⟩
  | 54 => ⟨S40x5x1536, .f32⟩
  | 55 => ⟨S40x5x1536, .f32⟩
  | 56 => ⟨S_, .f32⟩
  | 57 => ⟨S_, .f32⟩
  | 58 => ⟨S_, .f32⟩
  | 59 => ⟨S_, .f32⟩
  | 60 => ⟨S40x5, .f32⟩
  | 61 => ⟨S40x5x1, .f32⟩
  | 62 => ⟨S40x5x1, .f32⟩
  | 63 => ⟨S40x5x1, .f32⟩
  | 64 => ⟨S_, .f32⟩
  | 65 => ⟨S_, .i1⟩
  | 66 => ⟨S_, .f32⟩
  | 67 => ⟨S_, .f32⟩
  | 68 => ⟨S40x5x1, .f32⟩
  | 69 => ⟨S40x5x1, .f32⟩
  | 70 => ⟨S40x5x1536, .f32⟩
  | 71 => ⟨S40x5x1536, .f32⟩
  | 72 => ⟨S_, .f32⟩
  | 73 => ⟨S40x5x1, .f32⟩
  | 74 => ⟨S40x5x1, .f32⟩
  | 75 => ⟨S40x5x1, .f32⟩
  | 76 => ⟨S40x5x1536, .f32⟩
  | 77 => ⟨S40x5x1536, .f32⟩
  | 78 => ⟨S1x1x1536, .f32⟩
  | 79 => ⟨S40x5x1536, .f32⟩
  | 80 => ⟨S40x5x1536, .f32⟩
  | 81 => ⟨S1x1x1536, .f32⟩
  | 82 => ⟨S40x5x1536, .f32⟩
  | 83 => ⟨S40x5x1536, .f32⟩
  | 84 => ⟨S1536x4608, .f32⟩
  | 85 => ⟨S40x5x4608, .f32⟩
  | 86 => ⟨S40x5x3x12x128, .f32⟩
  | 87 => ⟨S3x40x12x5x128, .f32⟩
  | 88 => ⟨S1x40x12x5x128, .f32⟩
  | 89 => ⟨S40x12x5x128, .f32⟩
  | 90 => ⟨S1x40x12x5x128, .f32⟩
  | 91 => ⟨S40x12x5x128, .f32⟩
  | 92 => ⟨S1x40x12x5x128, .f32⟩
  | 93 => ⟨S40x12x5x128, .f32⟩
  | 94 => ⟨S40x12x5x5, .f32⟩
  | 95 => ⟨S_, .f32⟩
  | 96 => ⟨S40x12x5x5, .f32⟩
  | 97 => ⟨S40x12x5x5, .f32⟩
  | 98 => ⟨S_, .f32⟩
  | 99 => ⟨S40x12x5, .f32⟩
  | 100 => ⟨S_, .f32⟩
  | 101 => ⟨S40x12x5, .f32⟩
  | 102 => ⟨S40x12x5, .f32⟩
  | 103 => ⟨S40x12x5x1, .f32⟩
  | 104 => ⟨S40x12x5x5, .f32⟩
  | 105 => ⟨S40x12x5x5, .f32⟩
  | 106 => ⟨S40x12x5x5, .f32⟩
  | 107 => ⟨S_, .f32⟩
  | 108 => ⟨S40x12x5, .f32⟩
  | 109 => ⟨S40x12x5x1, .f32⟩
  | 110 => ⟨S40x12x5x5, .f32⟩
  | 111 => ⟨S40x12x5x5, .f32⟩
  | 112 => ⟨S40x12x5x128, .f32⟩
  | 113 => ⟨S40x5x12x128, .f32⟩
  | 114 => ⟨S40x5x1536, .f32⟩
  | 115 => ⟨S1536x1536, .f32⟩
  | 116 => ⟨S40x5x1536, .f32⟩
  | 117 => ⟨S1x1x1536, .f32⟩
  | 118 => ⟨S40x5x1536, .f32⟩
  | 119 => ⟨S40x5x1536, .f32⟩
  | 120 => ⟨S1536x1536, .f32⟩
  | 121 => ⟨S40x5x1536, .f32⟩
  | 122 => ⟨S1x1x1536, .f32⟩
  | 123 => ⟨S40x5x1536, .f32⟩
  | 124 => ⟨S40x5x1536, .f32⟩
  | 125 => ⟨S40x5x1536, .f32⟩
  | 126 => ⟨S8x5x5x1536, .f32⟩
  | 127 => ⟨S8x5x1x1536, .f32⟩
  | _ => ⟨S8x3x20x224x224, .f32⟩

abbrev hbmTy0_3 (i : Nat) : BufTy := match i % 128 with
  | 0 => ⟨S8x5x1536, .f32⟩
  | 1 => ⟨S8x1x1536, .f32⟩
  | 2 => ⟨S8x4x1536, .f32⟩
  | 3 => ⟨S8x5x1536, .f32⟩
  | 4 => ⟨S_, .i32⟩
  | 5 => ⟨S1, .i32⟩
  | 6 => ⟨S8x5x5x1536, .f32⟩
  | 7 => ⟨S40x5x1536, .f32⟩
  | 8 => ⟨S_, .f32⟩
  | 9 => ⟨S40x5, .f32⟩
  | 10 => ⟨S40x5x1, .f32⟩
  | 11 => ⟨S_, .f32⟩
  | 12 => ⟨S40x5x1, .f32⟩
  | 13 => ⟨S40x5x1, .f32⟩
  | 14 => ⟨S_, .i32⟩
  | 15 => ⟨S_, .f32⟩
  | 16 => ⟨S40x5, .f32⟩
  | 17 => ⟨S40x5x1, .f32⟩
  | 18 => ⟨S_, .f32⟩
  | 19 => ⟨S40x5x1, .f32⟩
  | 20 => ⟨S40x5x1, .f32⟩
  | 21 => ⟨S40x5x1536, .f32⟩
  | 22 => ⟨S40x5x1536, .f32⟩
  | 23 => ⟨S40x5x1536, .f32⟩
  | 24 => ⟨S_, .f32⟩
  | 25 => ⟨S_, .f32⟩
  | 26 => ⟨S_, .f32⟩
  | 27 => ⟨S_, .f32⟩
  | 28 => ⟨S40x5, .f32⟩
  | 29 => ⟨S40x5x1, .f32⟩
  | 30 => ⟨S40x5x1, .f32⟩
  | 31 => ⟨S40x5x1, .f32⟩
  | 32 => ⟨S_, .f32⟩
  | 33 => ⟨S_, .i1⟩
  | 34 => ⟨S_, .f32⟩
  | 35 => ⟨S_, .f32⟩
  | 36 => ⟨S40x5x1, .f32⟩
  | 37 => ⟨S40x5x1, .f32⟩
  | 38 => ⟨S40x5x1536, .f32⟩
  | 39 => ⟨S40x5x1536, .f32⟩
  | 40 => ⟨S_, .f32⟩
  | 41 => ⟨S40x5x1, .f32⟩
  | 42 => ⟨S40x5x1, .f32⟩
  | 43 => ⟨S40x5x1, .f32⟩
  | 44 => ⟨S40x5x1536, .f32⟩
  | 45 => ⟨S40x5x1536, .f32⟩
  | 46 => ⟨S1x1x1536, .f32⟩
  | 47 => ⟨S40x5x1536, .f32⟩
  | 48 => ⟨S40x5x1536, .f32⟩
  | 49 => ⟨S1x1x1536, .f32⟩
  | 50 => ⟨S40x5x1536, .f32⟩
  | 51 => ⟨S40x5x1536, .f32⟩
  | 52 => ⟨S1536x4608, .f32⟩
  | 53 => ⟨S40x5x4608, .f32⟩
  | 54 => ⟨S40x5x3x12x128, .f32⟩
  | 55 => ⟨S3x40x12x5x128, .f32⟩
  | 56 => ⟨S1x40x12x5x128, .f32⟩
  | 57 => ⟨S40x12x5x128, .f32⟩
  | 58 => ⟨S1x40x12x5x128, .f32⟩
  | 59 => ⟨S40x12x5x128, .f32⟩
  | 60 => ⟨S1x40x12x5x128, .f32⟩
  | 61 => ⟨S40x12x5x128, .f32⟩
  | 62 => ⟨S40x12x5x5, .f32⟩
  | 63 => ⟨S_, .f32⟩
  | 64 => ⟨S40x12x5x5, .f32⟩
  | 65 => ⟨S40x12x5x5, .f32⟩
  | 66 => ⟨S_, .f32⟩
  | 67 => ⟨S40x12x5, .f32⟩
  | 68 => ⟨S_, .f32⟩
  | 69 => ⟨S40x12x5, .f32⟩
  | 70 => ⟨S40x12x5, .f32⟩
  | 71 => ⟨S40x12x5x1, .f32⟩
  | 72 => ⟨S40x12x5x5, .f32⟩
  | 73 => ⟨S40x12x5x5, .f32⟩
  | 74 => ⟨S40x12x5x5, .f32⟩
  | 75 => ⟨S_, .f32⟩
  | 76 => ⟨S40x12x5, .f32⟩
  | 77 => ⟨S40x12x5x1, .f32⟩
  | 78 => ⟨S40x12x5x5, .f32⟩
  | 79 => ⟨S40x12x5x5, .f32⟩
  | 80 => ⟨S40x12x5x128, .f32⟩
  | 81 => ⟨S40x5x12x128, .f32⟩
  | 82 => ⟨S40x5x1536, .f32⟩
  | 83 => ⟨S1536x1536, .f32⟩
  | 84 => ⟨S40x5x1536, .f32⟩
  | 85 => ⟨S1x1x1536, .f32⟩
  | 86 => ⟨S40x5x1536, .f32⟩
  | 87 => ⟨S40x5x1536, .f32⟩
  | 88 => ⟨S1536x1536, .f32⟩
  | 89 => ⟨S40x5x1536, .f32⟩
  | 90 => ⟨S1x1x1536, .f32⟩
  | 91 => ⟨S40x5x1536, .f32⟩
  | 92 => ⟨S40x5x1536, .f32⟩
  | 93 => ⟨S40x5x1536, .f32⟩
  | 94 => ⟨S8x5x5x1536, .f32⟩
  | 95 => ⟨S8x5x1x1536, .f32⟩
  | 96 => ⟨S8x5x1536, .f32⟩
  | 97 => ⟨S8x1x1536, .f32⟩
  | 98 => ⟨S8x4x1536, .f32⟩
  | 99 => ⟨S8x5x1536, .f32⟩
  | 100 => ⟨S_, .i32⟩
  | 101 => ⟨S1, .i32⟩
  | 102 => ⟨S8x5x5x1536, .f32⟩
  | _ => ⟨S8x3x20x224x224, .f32⟩

abbrev hbmTy (i : Nat) : BufTy := match i / 128 with
  | 0 => hbmTy0_0 i
  | 1 => hbmTy0_1 i
  | 2 => hbmTy0_2 i
  | 3 => hbmTy0_3 i
  | _ => ⟨S8x3x20x224x224, .f32⟩

abbrev bufTy : (tb : Table) → Fin (tcTables nBuf tb) → BufTy
  | .hbm, ⟨i, _⟩ => hbmTy i
  | _, _ => ⟨S8x3x20x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c : Ref sig .tc := ⟨.hbm, 87, rfl⟩
abbrev main_call0_v0 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_1 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_2 : Ref sig .tc := ⟨.hbm, 104, rfl⟩
abbrev main_v82 : Ref sig .tc := ⟨.hbm, 105, rfl⟩
abbrev main_v83 : Ref sig .tc := ⟨.hbm, 106, rfl⟩
abbrev main_cst_3 : Ref sig .tc := ⟨.hbm, 107, rfl⟩
abbrev main_v84 : Ref sig .tc := ⟨.hbm, 108, rfl⟩
abbrev main_v85 : Ref sig .tc := ⟨.hbm, 109, rfl⟩
abbrev main_c_4 : Ref sig .tc := ⟨.hbm, 110, rfl⟩
abbrev main_call1_cst : Ref sig .tc := ⟨.hbm, 111, rfl⟩
abbrev main_call1_v0 : Ref sig .tc := ⟨.hbm, 112, rfl⟩
abbrev main_call1_v1 : Ref sig .tc := ⟨.hbm, 113, rfl⟩
abbrev main_call1_cst_0 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_cst_1 : Ref sig .tc := ⟨.hbm, 121, rfl⟩
abbrev main_call1_v8 : Ref sig .tc := ⟨.hbm, 122, rfl⟩
abbrev main_call1_cst_2 : Ref sig .tc := ⟨.hbm, 123, rfl⟩
abbrev main_call1_v9 : Ref sig .tc := ⟨.hbm, 124, rfl⟩
abbrev main_call1_v10 : Ref sig .tc := ⟨.hbm, 125, rfl⟩
abbrev main_call1_v11 : Ref sig .tc := ⟨.hbm, 126, rfl⟩
abbrev main_call1_v12 : Ref sig .tc := ⟨.hbm, 127, rfl⟩
abbrev main_call1_cst_3 : Ref sig .tc := ⟨.hbm, 128, rfl⟩
abbrev main_call1_v13 : Ref sig .tc := ⟨.hbm, 129, rfl⟩
abbrev main_call1_cst_4 : Ref sig .tc := ⟨.hbm, 130, rfl⟩
abbrev main_call1_call0_v0 : Ref sig .tc := ⟨.hbm, 131, rfl⟩
abbrev main_call1_call0_v1 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_5 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_6 : Ref sig .tc := ⟨.hbm, 159, rfl⟩
abbrev main_v111 : Ref sig .tc := ⟨.hbm, 160, rfl⟩
abbrev main_v112 : Ref sig .tc := ⟨.hbm, 161, rfl⟩
abbrev main_cst_7 : Ref sig .tc := ⟨.hbm, 162, rfl⟩
abbrev main_v113 : Ref sig .tc := ⟨.hbm, 163, rfl⟩
abbrev main_cst_8 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_9 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_call2_v0 : Ref sig .tc := ⟨.hbm, 193, rfl⟩
abbrev main_call2_v1 : Ref sig .tc := ⟨.hbm, 194, rfl⟩
abbrev main_v141 : Ref sig .tc := ⟨.hbm, 195, rfl⟩
abbrev main_c_10 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_11 : Ref sig .tc := ⟨.hbm, 200, rfl⟩
abbrev main_v145 : Ref sig .tc := ⟨.hbm, 201, rfl⟩
abbrev main_v146 : Ref sig .tc := ⟨.hbm, 202, rfl⟩
abbrev main_cst_12 : Ref sig .tc := ⟨.hbm, 203, rfl⟩
abbrev main_v147 : Ref sig .tc := ⟨.hbm, 204, rfl⟩
abbrev main_v148 : Ref sig .tc := ⟨.hbm, 205, rfl⟩
abbrev main_c_13 : Ref sig .tc := ⟨.hbm, 206, rfl⟩
abbrev main_call3_cst : Ref sig .tc := ⟨.hbm, 207, rfl⟩
abbrev main_call3_v0 : Ref sig .tc := ⟨.hbm, 208, rfl⟩
abbrev main_call3_v1 : Ref sig .tc := ⟨.hbm, 209, rfl⟩
abbrev main_call3_cst_0 : Ref sig .tc := ⟨.hbm, 210, rfl⟩
abbrev main_call3_v2 : Ref sig .tc := ⟨.hbm, 211, rfl⟩
abbrev main_call3_v3 : Ref sig .tc := ⟨.hbm, 212, rfl⟩
abbrev main_call3_v4 : Ref sig .tc := ⟨.hbm, 213, rfl⟩
abbrev main_call3_v5 : Ref sig .tc := ⟨.hbm, 214, rfl⟩
abbrev main_call3_v6 : Ref sig .tc := ⟨.hbm, 215, rfl⟩
abbrev main_call3_v7 : Ref sig .tc := ⟨.hbm, 216, rfl⟩
abbrev main_call3_cst_1 : Ref sig .tc := ⟨.hbm, 217, rfl⟩
abbrev main_call3_v8 : Ref sig .tc := ⟨.hbm, 218, rfl⟩
abbrev main_call3_cst_2 : Ref sig .tc := ⟨.hbm, 219, rfl⟩
abbrev main_call3_v9 : Ref sig .tc := ⟨.hbm, 220, rfl⟩
abbrev main_call3_v10 : Ref sig .tc := ⟨.hbm, 221, rfl⟩
abbrev main_call3_v11 : Ref sig .tc := ⟨.hbm, 222, rfl⟩
abbrev main_call3_v12 : Ref sig .tc := ⟨.hbm, 223, rfl⟩
abbrev main_call3_cst_3 : Ref sig .tc := ⟨.hbm, 224, rfl⟩
abbrev main_call3_v13 : Ref sig .tc := ⟨.hbm, 225, rfl⟩
abbrev main_call3_cst_4 : Ref sig .tc := ⟨.hbm, 226, rfl⟩
abbrev main_call3_call0_v0 : Ref sig .tc := ⟨.hbm, 227, rfl⟩
abbrev main_call3_call0_v1 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_cst_14 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_cst_15 : Ref sig .tc := ⟨.hbm, 255, rfl⟩
abbrev main_v174 : Ref sig .tc := ⟨.hbm, 256, rfl⟩
abbrev main_v175 : Ref sig .tc := ⟨.hbm, 257, rfl⟩
abbrev main_cst_16 : Ref sig .tc := ⟨.hbm, 258, rfl⟩
abbrev main_v176 : Ref sig .tc := ⟨.hbm, 259, rfl⟩
abbrev main_cst_17 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_cst_18 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_call4_v0 : Ref sig .tc := ⟨.hbm, 289, rfl⟩
abbrev main_call4_v1 : Ref sig .tc := ⟨.hbm, 290, rfl⟩
abbrev main_v204 : Ref sig .tc := ⟨.hbm, 291, rfl⟩
abbrev main_c_19 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_cst_20 : Ref sig .tc := ⟨.hbm, 296, rfl⟩
abbrev main_v208 : Ref sig .tc := ⟨.hbm, 297, rfl⟩
abbrev main_v209 : Ref sig .tc := ⟨.hbm, 298, rfl⟩
abbrev main_cst_21 : Ref sig .tc := ⟨.hbm, 299, rfl⟩
abbrev main_v210 : Ref sig .tc := ⟨.hbm, 300, rfl⟩
abbrev main_v211 : Ref sig .tc := ⟨.hbm, 301, rfl⟩
abbrev main_c_22 : Ref sig .tc := ⟨.hbm, 302, rfl⟩
abbrev main_call5_cst : Ref sig .tc := ⟨.hbm, 303, rfl⟩
abbrev main_call5_v0 : Ref sig .tc := ⟨.hbm, 304, rfl⟩
abbrev main_call5_v1 : Ref sig .tc := ⟨.hbm, 305, rfl⟩
abbrev main_call5_cst_0 : Ref sig .tc := ⟨.hbm, 306, rfl⟩
abbrev main_call5_v2 : Ref sig .tc := ⟨.hbm, 307, rfl⟩
abbrev main_call5_v3 : Ref sig .tc := ⟨.hbm, 308, rfl⟩
abbrev main_call5_v4 : Ref sig .tc := ⟨.hbm, 309, rfl⟩
abbrev main_call5_v5 : Ref sig .tc := ⟨.hbm, 310, rfl⟩
abbrev main_call5_v6 : Ref sig .tc := ⟨.hbm, 311, rfl⟩
abbrev main_call5_v7 : Ref sig .tc := ⟨.hbm, 312, rfl⟩
abbrev main_call5_cst_1 : Ref sig .tc := ⟨.hbm, 313, rfl⟩
abbrev main_call5_v8 : Ref sig .tc := ⟨.hbm, 314, rfl⟩
abbrev main_call5_cst_2 : Ref sig .tc := ⟨.hbm, 315, rfl⟩
abbrev main_call5_v9 : Ref sig .tc := ⟨.hbm, 316, rfl⟩
abbrev main_call5_v10 : Ref sig .tc := ⟨.hbm, 317, rfl⟩
abbrev main_call5_v11 : Ref sig .tc := ⟨.hbm, 318, rfl⟩
abbrev main_call5_v12 : Ref sig .tc := ⟨.hbm, 319, rfl⟩
abbrev main_call5_cst_3 : Ref sig .tc := ⟨.hbm, 320, rfl⟩
abbrev main_call5_v13 : Ref sig .tc := ⟨.hbm, 321, rfl⟩
abbrev main_call5_cst_4 : Ref sig .tc := ⟨.hbm, 322, rfl⟩
abbrev main_call5_call0_v0 : Ref sig .tc := ⟨.hbm, 323, rfl⟩
abbrev main_call5_call0_v1 : Ref sig .tc := ⟨.hbm, 324, rfl⟩
abbrev main_v212 : Ref sig .tc := ⟨.hbm, 325, rfl⟩
abbrev main_v213 : Ref sig .tc := ⟨.hbm, 326, rfl⟩
abbrev main_v214 : Ref sig .tc := ⟨.hbm, 327, rfl⟩
abbrev main_cst_23 : Ref sig .tc := ⟨.hbm, 328, rfl⟩
abbrev main_v215 : Ref sig .tc := ⟨.hbm, 329, rfl⟩
abbrev main_v216 : Ref sig .tc := ⟨.hbm, 330, rfl⟩
abbrev main_v217 : Ref sig .tc := ⟨.hbm, 331, rfl⟩
abbrev main_v218 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_v222 : Ref sig .tc := ⟨.hbm, 336, rfl⟩
abbrev main_v223 : Ref sig .tc := ⟨.hbm, 337, rfl⟩
abbrev main_v224 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_v234 : Ref sig .tc := ⟨.hbm, 348, rfl⟩
abbrev main_v235 : Ref sig .tc := ⟨.hbm, 349, rfl⟩
abbrev main_v236 : Ref sig .tc := ⟨.hbm, 350, rfl⟩
abbrev main_cst_24 : Ref sig .tc := ⟨.hbm, 351, rfl⟩
abbrev main_v237 : Ref sig .tc := ⟨.hbm, 352, rfl⟩
abbrev main_v238 : Ref sig .tc := ⟨.hbm, 353, rfl⟩
abbrev main_cst_25 : Ref sig .tc := ⟨.hbm, 354, rfl⟩
abbrev main_v239 : Ref sig .tc := ⟨.hbm, 355, rfl⟩
abbrev main_cst_26 : Ref sig .tc := ⟨.hbm, 356, rfl⟩
abbrev main_v240 : Ref sig .tc := ⟨.hbm, 357, rfl⟩
abbrev main_v241 : Ref sig .tc := ⟨.hbm, 358, rfl⟩
abbrev main_v242 : Ref sig .tc := ⟨.hbm, 359, rfl⟩
abbrev main_v243 : Ref sig .tc := ⟨.hbm, 360, rfl⟩
abbrev main_v244 : Ref sig .tc := ⟨.hbm, 361, rfl⟩
abbrev main_v245 : Ref sig .tc := ⟨.hbm, 362, rfl⟩
abbrev main_cst_27 : Ref sig .tc := ⟨.hbm, 363, rfl⟩
abbrev main_v246 : Ref sig .tc := ⟨.hbm, 364, rfl⟩
abbrev main_v247 : Ref sig .tc := ⟨.hbm, 365, rfl⟩
abbrev main_v248 : Ref sig .tc := ⟨.hbm, 366, rfl⟩
abbrev main_v249 : Ref sig .tc := ⟨.hbm, 367, rfl⟩
abbrev main_v250 : Ref sig .tc := ⟨.hbm, 368, rfl⟩
abbrev main_v251 : Ref sig .tc := ⟨.hbm, 369, rfl⟩
abbrev main_v252 : Ref sig .tc := ⟨.hbm, 370, rfl⟩
abbrev main_v253 : Ref sig .tc := ⟨.hbm, 371, rfl⟩
abbrev main_v254 : Ref sig .tc := ⟨.hbm, 372, rfl⟩
abbrev main_v255 : Ref sig .tc := ⟨.hbm, 373, rfl⟩
abbrev main_v256 : Ref sig .tc := ⟨.hbm, 374, rfl⟩
abbrev main_v257 : Ref sig .tc := ⟨.hbm, 375, rfl⟩
abbrev main_v258 : Ref sig .tc := ⟨.hbm, 376, rfl⟩
abbrev main_v259 : Ref sig .tc := ⟨.hbm, 377, rfl⟩
abbrev main_v260 : Ref sig .tc := ⟨.hbm, 378, rfl⟩
abbrev main_v261 : Ref sig .tc := ⟨.hbm, 379, rfl⟩
abbrev main_v262 : Ref sig .tc := ⟨.hbm, 380, rfl⟩
abbrev main_v263 : Ref sig .tc := ⟨.hbm, 381, rfl⟩
abbrev main_v264 : Ref sig .tc := ⟨.hbm, 382, rfl⟩
abbrev main_v265 : Ref sig .tc := ⟨.hbm, 383, rfl⟩
abbrev main_v266 : Ref sig .tc := ⟨.hbm, 384, rfl⟩
abbrev main_call6_v0 : Ref sig .tc := ⟨.hbm, 385, rfl⟩
abbrev main_call6_v1 : Ref sig .tc := ⟨.hbm, 386, rfl⟩
abbrev main_v267 : Ref sig .tc := ⟨.hbm, 387, rfl⟩
abbrev main_c_28 : Ref sig .tc := ⟨.hbm, 388, rfl⟩
abbrev main_v268 : Ref sig .tc := ⟨.hbm, 389, rfl⟩
abbrev main_v269 : Ref sig .tc := ⟨.hbm, 390, rfl⟩
abbrev main_v270 : Ref sig .tc := ⟨.hbm, 391, rfl⟩
abbrev main_cst_29 : Ref sig .tc := ⟨.hbm, 392, rfl⟩
abbrev main_v271 : Ref sig .tc := ⟨.hbm, 393, rfl⟩
abbrev main_v272 : Ref sig .tc := ⟨.hbm, 394, rfl⟩
abbrev main_cst_30 : Ref sig .tc := ⟨.hbm, 395, rfl⟩
abbrev main_v273 : Ref sig .tc := ⟨.hbm, 396, rfl⟩
abbrev main_v274 : Ref sig .tc := ⟨.hbm, 397, rfl⟩
abbrev main_c_31 : Ref sig .tc := ⟨.hbm, 398, rfl⟩
abbrev main_call7_cst : Ref sig .tc := ⟨.hbm, 399, rfl⟩
abbrev main_call7_v0 : Ref sig .tc := ⟨.hbm, 400, rfl⟩
abbrev main_call7_v1 : Ref sig .tc := ⟨.hbm, 401, rfl⟩
abbrev main_call7_cst_0 : Ref sig .tc := ⟨.hbm, 402, rfl⟩
abbrev main_call7_v2 : Ref sig .tc := ⟨.hbm, 403, rfl⟩
abbrev main_call7_v3 : Ref sig .tc := ⟨.hbm, 404, rfl⟩
abbrev main_call7_v4 : Ref sig .tc := ⟨.hbm, 405, rfl⟩
abbrev main_call7_v5 : Ref sig .tc := ⟨.hbm, 406, rfl⟩
abbrev main_call7_v6 : Ref sig .tc := ⟨.hbm, 407, rfl⟩
abbrev main_call7_v7 : Ref sig .tc := ⟨.hbm, 408, rfl⟩
abbrev main_call7_cst_1 : Ref sig .tc := ⟨.hbm, 409, rfl⟩
abbrev main_call7_v8 : Ref sig .tc := ⟨.hbm, 410, rfl⟩
abbrev main_call7_cst_2 : Ref sig .tc := ⟨.hbm, 411, rfl⟩
abbrev main_call7_v9 : Ref sig .tc := ⟨.hbm, 412, rfl⟩
abbrev main_call7_v10 : Ref sig .tc := ⟨.hbm, 413, rfl⟩
abbrev main_call7_v11 : Ref sig .tc := ⟨.hbm, 414, rfl⟩
abbrev main_call7_v12 : Ref sig .tc := ⟨.hbm, 415, rfl⟩
abbrev main_call7_cst_3 : Ref sig .tc := ⟨.hbm, 416, rfl⟩
abbrev main_call7_v13 : Ref sig .tc := ⟨.hbm, 417, rfl⟩
abbrev main_call7_cst_4 : Ref sig .tc := ⟨.hbm, 418, rfl⟩
abbrev main_call7_call0_v0 : Ref sig .tc := ⟨.hbm, 419, rfl⟩
abbrev main_call7_call0_v1 : Ref sig .tc := ⟨.hbm, 420, rfl⟩
abbrev main_v275 : Ref sig .tc := ⟨.hbm, 421, rfl⟩
abbrev main_v276 : Ref sig .tc := ⟨.hbm, 422, rfl⟩
abbrev main_v277 : Ref sig .tc := ⟨.hbm, 423, rfl⟩
abbrev main_cst_32 : Ref sig .tc := ⟨.hbm, 424, rfl⟩
abbrev main_v278 : Ref sig .tc := ⟨.hbm, 425, rfl⟩
abbrev main_v279 : Ref sig .tc := ⟨.hbm, 426, rfl⟩
abbrev main_v280 : Ref sig .tc := ⟨.hbm, 427, rfl⟩
abbrev main_v281 : Ref sig .tc := ⟨.hbm, 428, rfl⟩
abbrev main_v282 : Ref sig .tc := ⟨.hbm, 429, rfl⟩
abbrev main_v283 : Ref sig .tc := ⟨.hbm, 430, rfl⟩
abbrev main_v284 : Ref sig .tc := ⟨.hbm, 431, rfl⟩
abbrev main_v285 : Ref sig .tc := ⟨.hbm, 432, rfl⟩
abbrev main_v286 : Ref sig .tc := ⟨.hbm, 433, rfl⟩
abbrev main_v287 : Ref sig .tc := ⟨.hbm, 434, rfl⟩
abbrev main_v288 : Ref sig .tc := ⟨.hbm, 435, rfl⟩
abbrev main_v289 : Ref sig .tc := ⟨.hbm, 436, rfl⟩
abbrev main_v290 : Ref sig .tc := ⟨.hbm, 437, rfl⟩
abbrev main_v291 : Ref sig .tc := ⟨.hbm, 438, rfl⟩
abbrev main_v292 : Ref sig .tc := ⟨.hbm, 439, rfl⟩
abbrev main_v293 : Ref sig .tc := ⟨.hbm, 440, rfl⟩
abbrev main_v294 : Ref sig .tc := ⟨.hbm, 441, rfl⟩
abbrev main_v295 : Ref sig .tc := ⟨.hbm, 442, rfl⟩
abbrev main_v296 : Ref sig .tc := ⟨.hbm, 443, rfl⟩
abbrev main_v297 : Ref sig .tc := ⟨.hbm, 444, rfl⟩
abbrev main_v298 : Ref sig .tc := ⟨.hbm, 445, rfl⟩
abbrev main_v299 : Ref sig .tc := ⟨.hbm, 446, rfl⟩
abbrev main_cst_33 : Ref sig .tc := ⟨.hbm, 447, rfl⟩
abbrev main_v300 : Ref sig .tc := ⟨.hbm, 448, rfl⟩
abbrev main_v301 : Ref sig .tc := ⟨.hbm, 449, rfl⟩
abbrev main_cst_34 : Ref sig .tc := ⟨.hbm, 450, rfl⟩
abbrev main_v302 : Ref sig .tc := ⟨.hbm, 451, rfl⟩
abbrev main_cst_35 : Ref sig .tc := ⟨.hbm, 452, rfl⟩
abbrev main_v303 : Ref sig .tc := ⟨.hbm, 453, rfl⟩
abbrev main_v304 : Ref sig .tc := ⟨.hbm, 454, rfl⟩
abbrev main_v305 : Ref sig .tc := ⟨.hbm, 455, rfl⟩
abbrev main_v306 : Ref sig .tc := ⟨.hbm, 456, rfl⟩
abbrev main_v307 : Ref sig .tc := ⟨.hbm, 457, rfl⟩
abbrev main_v308 : Ref sig .tc := ⟨.hbm, 458, rfl⟩
abbrev main_cst_36 : Ref sig .tc := ⟨.hbm, 459, rfl⟩
abbrev main_v309 : Ref sig .tc := ⟨.hbm, 460, rfl⟩
abbrev main_v310 : Ref sig .tc := ⟨.hbm, 461, rfl⟩
abbrev main_v311 : Ref sig .tc := ⟨.hbm, 462, rfl⟩
abbrev main_v312 : Ref sig .tc := ⟨.hbm, 463, rfl⟩
abbrev main_v313 : Ref sig .tc := ⟨.hbm, 464, rfl⟩
abbrev main_v314 : Ref sig .tc := ⟨.hbm, 465, rfl⟩
abbrev main_v315 : Ref sig .tc := ⟨.hbm, 466, rfl⟩
abbrev main_v316 : Ref sig .tc := ⟨.hbm, 467, rfl⟩
abbrev main_v317 : Ref sig .tc := ⟨.hbm, 468, rfl⟩
abbrev main_v318 : Ref sig .tc := ⟨.hbm, 469, rfl⟩
abbrev main_v319 : Ref sig .tc := ⟨.hbm, 470, rfl⟩
abbrev main_v320 : Ref sig .tc := ⟨.hbm, 471, rfl⟩
abbrev main_v321 : Ref sig .tc := ⟨.hbm, 472, rfl⟩
abbrev main_v322 : Ref sig .tc := ⟨.hbm, 473, rfl⟩
abbrev main_v323 : Ref sig .tc := ⟨.hbm, 474, rfl⟩
abbrev main_v324 : Ref sig .tc := ⟨.hbm, 475, rfl⟩
abbrev main_v325 : Ref sig .tc := ⟨.hbm, 476, rfl⟩
abbrev main_v326 : Ref sig .tc := ⟨.hbm, 477, rfl⟩
abbrev main_v327 : Ref sig .tc := ⟨.hbm, 478, rfl⟩
abbrev main_v328 : Ref sig .tc := ⟨.hbm, 479, rfl⟩
abbrev main_v329 : Ref sig .tc := ⟨.hbm, 480, rfl⟩
abbrev main_call8_v0 : Ref sig .tc := ⟨.hbm, 481, rfl⟩
abbrev main_call8_v1 : Ref sig .tc := ⟨.hbm, 482, rfl⟩
abbrev main_v330 : Ref sig .tc := ⟨.hbm, 483, rfl⟩
abbrev main_c_37 : Ref sig .tc := ⟨.hbm, 484, rfl⟩
abbrev main_v331 : Ref sig .tc := ⟨.hbm, 485, rfl⟩
abbrev main_v332 : Ref sig .tc := ⟨.hbm, 486, rfl⟩

abbrev nD : Nat := 1
abbrev τ : Topo := Topo.v7x

variable {F : FTy → Type} [FloatOps F]
-- ==== Proof.Cut.lean ====
module

public import proofs.«01_k».proof.Proof.Gen.KernelIdeal.Launch
public import proofs.«01_k».proof.Proof.Gen.KernelIdeal.Skeleton
public import Idealize.ShloMosaic.Lib.Tactic
public import Idealize.ShloMosaic.Lib.Tactic.Stretches

@[expose] public section

noncomputable section

namespace Cert.Fused

open Cert.KernelIdeal Cert.KernelIdeal.Gen
open Idealize.ShloMosaic Idealize.ShloMosaic.TcCoe

variable {F : FTy → Type} [FloatOps F] [Named F]

cut_chain sec := Cert.KernelIdeal.Gen.cc0_fused_vit_skel at 2, 3, 4, 5, 6, 7, 8, 9

end Cert.Fused
-- ==== Proof.Pool.lean ====
module

public import proofs.«01_k».proof.Proof.Cut
public import Idealize.ShloMosaic.Lib.VecWindow
public import Idealize.ShloMosaic.Lib.Pipeline.TableIdle

@[expose] public section

noncomputable section

namespace Cert.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open VecWindow

abbrev KProg (F : FTy → Type) (R : Type) : Type 1 := Prog (TpuEff nD τ sig (Elt F) Λ₀ .tc) R

/-! ## The pooling stretch, frame by frame and channel by channel -/

/-- What one frame and channel stores: the image's mean and its mean over the box, along the 128 lanes. -/
def poolPay (w0 w1 w2 w3 : Elt F .i32) (img : Vec F S1x1x1x224x224 .f32) : FVec F S1x1x1x128 .f32 :=
  k0_pay19 (iota .tc S224x224 32 [1] iota_S224x224_d1_w32) w0 w1 w2 w3 (k0_pay15 (F := F) w1 w3) (k0_pay16 (F := F) w0) img

theorem pool_in (tt : Fin 4) (ch : Fin 3) : ∀ a, (![0, ch.val, tt.val, 0, 0] : Fin 5 → ℕ) a + S1x1x1x224x224.size a ≤ S1x3x4x224x224.size a := by
  revert tt ch; decide +kernel

theorem pool_out (tt : Fin 4) (ch : Fin 3) : ∀ a, (![0, tt.val, ch.val, 0] : Fin 4 → ℕ) a + S1x1x1x128.size a ≤ S1x4x3x128.size a := by
  revert tt ch; decide +kernel

/-- One frame and channel. -/
def poolRow (ax : Memref sig .tc .vmem S1x3x4x224x224 .f32) (ao : Memref sig .tc .vmem S1x4x3x128 .f32) (w0 w1 w2 w3 : Elt F .i32) (tt : Fin 4) (ch : Fin 3) :
    KProg F PUnit := do
  let img : Vec F S1x1x1x224x224 .f32 ← Prog.lift (.load ax (Rect.unit (s := S1x3x4x224x224) ![0, ch.val, tt.val, 0, 0] S1x1x1x224x224.size (pool_in tt ch)).toLoadRect (View.loadsAt_vmem h_S1x1x1x224x224))
  let _ : Vec F S1x1x1x128 .f32 ← Prog.lift (.load ao (Rect.unit (s := S1x4x3x128) ![0, tt.val, ch.val, 0] S1x1x1x128.size (pool_out tt ch)).toLoadRect (View.loadsAt_vmem h_S1x1x1x128))
  Prog.lift (.store ao (Rect.unit (s := S1x4x3x128) ![0, tt.val, ch.val, 0] S1x1x1x128.size (pool_out tt ch)) (poolPay w0 w1 w2 w3 img) Finset.univ (View.stores_vmem_bits_univ h_S1x1x1x128 rfl) (.inl rfl))

/-- One frame: its four box words, then its three channels. -/
def poolTile (a1 : Memref sig .tc .smem S640 .i32) (ax : Memref sig .tc .vmem S1x3x4x224x224 .f32) (ao : Memref sig .tc .vmem S1x4x3x128 .f32)
    (o : Fin 4 → Fin 1 → ℕ) (ho : ∀ k a, o k a + S1.size a ≤ S640.size a) (tt : Fin 4) : KProg F PUnit := do
  let w0 : Elt F .i32 ← smemLoad a1 (Rect.unit (s := S640) (o 0) S1.size (ho 0)) numel1_S1 rfl
  let w1 : Elt F .i32 ← smemLoad a1 (Rect.unit (s := S640) (o 1) S1.size (ho 1)) numel1_S1 rfl
  let w2 : Elt F .i32 ← smemLoad a1 (Rect.unit (s := S640) (o 2) S1.size (ho 2)) numel1_S1 rfl
  let w3 : Elt F .i32 ← smemLoad a1 (Rect.unit (s := S640) (o 3) S1.size (ho 3)) numel1_S1 rfl
  poolRow ax ao w0 w1 w2 w3 tt 0
  poolRow ax ao w0 w1 w2 w3 tt 1
  poolRow ax ao w0 w1 w2 w3 tt 2

/-- The four word offsets of a frame, of the block's own batch and of the batch four further on. -/
def offLo (i : grid0.Coords) (tt : Fin 4) : Fin 4 → Fin 1 → ℕ :=
  ![k0_off1 i (BitVec.ofNat 32 tt.val), k0_off2 i (BitVec.ofNat 32 tt.val) 1#32, k0_off2 i (BitVec.ofNat 32 tt.val) 2#32, k0_off2 i (BitVec.ofNat 32 tt.val) 3#32]
def offHi (i : grid0.Coords) (tt : Fin 4) : Fin 4 → Fin 1 → ℕ :=
  ![k0_off3 i (BitVec.ofNat 32 tt.val), k0_off4 i (BitVec.ofNat 32 tt.val) 1#32, k0_off4 i (BitVec.ofNat 32 tt.val) 2#32, k0_off4 i (BitVec.ofNat 32 tt.val) 3#32]

theorem offLo_eq : ∀ (i : grid0.Coords), k0_cond1 i = 1#1 → ∀ (tt k : Fin 4),
    offLo i tt k = ![(((i 0).val / 5) * 20 + ((i 0).val % 5) * 4 + tt.val) * 4 + k.val] := by decide +kernel
theorem offHi_eq : ∀ (i : grid0.Coords), k0_cond1 i = 1#1 → ∀ (tt k : Fin 4),
    offHi i tt k = ![(((i 0).val / 5 + 4) * 20 + ((i 0).val % 5) * 4 + tt.val) * 4 + k.val] := by decide +kernel
theorem offLo_in : ∀ (i : grid0.Coords), k0_cond1 i = 1#1 → ∀ (tt k : Fin 4), ∀ a, offLo i tt k a + S1.size a ≤ S640.size a := by decide +kernel
theorem offHi_in : ∀ (i : grid0.Coords), k0_cond1 i = 1#1 → ∀ (tt k : Fin 4), ∀ a, offHi i tt k a + S1.size a ≤ S640.size a := by decide +kernel

/-- The whole stretch. -/
def poolAll (i : grid0.Coords) (h : k0_cond1 i = 1#1) (a1 : Memref sig .tc .smem S640 .i32) (ax ax' : Memref sig .tc .vmem S1x3x4x224x224 .f32)
    (ao ao' : Memref sig .tc .vmem S1x4x3x128 .f32) : KProg F PUnit := do
  poolTile a1 ax ao (offLo i 0) (offLo_in i h 0) 0
  poolTile a1 ax ao (offLo i 1) (offLo_in i h 1) 1
  poolTile a1 ax ao (offLo i 2) (offLo_in i h 2) 2
  poolTile a1 ax ao (offLo i 3) (offLo_in i h 3) 3
  poolTile a1 ax' ao' (offHi i 0) (offHi_in i h 0) 0
  poolTile a1 ax' ao' (offHi i 1) (offHi_in i h 1) 1
  poolTile a1 ax' ao' (offHi i 2) (offHi_in i h 2) 2
  poolTile a1 ax' ao' (offHi i 3) (offHi_in i h 3) 3

section
variable (c : Dev nD) (i : grid0.Coords)
  (arg1 : Memref sig .tc .smem S640 .i32) (harg1 : arg1.IsWhole)
  (arg2 : Memref sig .tc .smem S8 .f32) (harg2 : arg2.IsWhole)
  (arg3 : Memref sig .tc .vmem S1x3x4x224x224 .f32) (harg3 : arg3.IsWhole)
  (arg4 : Memref sig .tc .vmem S1x3x4x224x224 .f32) (harg4 : arg4.IsWhole)
  (arg5 : Memref sig .tc .vmem S8x20x1536 .f32) (harg5 : arg5.IsWhole)
  (arg6 : Memref sig .tc .vmem S128x1536 .f32) (harg6 : arg6.IsWhole)
  (arg7 : Memref sig .tc .vmem S1x1536 .f32) (harg7 : arg7.IsWhole)
  (arg8 : Memref sig .tc .vmem S20x1536 .f32) (harg8 : arg8.IsWhole)
  (arg9 : Memref sig .tc .vmem S1x1536 .f32) (harg9 : arg9.IsWhole)
  (arg10 : Memref sig .tc .vmem S1x1536 .f32) (harg10 : arg10.IsWhole)
  (arg11 : Memref sig .tc .vmem S5x1536 .f32) (harg11 : arg11.IsWhole)
  (arg12 : Memref sig .tc .vmem S1x1536 .f32) (harg12 : arg12.IsWhole)
  (arg13 : Memref sig .tc .vmem S1x1536 .f32) (harg13 : arg13.IsWhole)
  (arg14 : Memref sig .tc .vmem S288x1536 .f32) (harg14 : arg14.IsWhole)
  (arg15 : Memref sig .tc .vmem S128x1536 .f32) (harg15 : arg15.IsWhole)
  (arg16 : Memref sig .tc .vmem S1x1536 .f32) (harg16 : arg16.IsWhole)
  (arg17 : Memref sig .tc .vmem S128x1536 .f32) (harg17 : arg17.IsWhole)
  (arg18 : Memref sig .tc .vmem S1x1536 .f32) (harg18 : arg18.IsWhole)
  (arg19 : Memref sig .tc .vmem S1x4x3x128 .f32) (harg19 : arg19.IsWhole)
  (arg20 : Memref sig .tc .vmem S1x4x3x128 .f32) (harg20 : arg20.IsWhole)
  (arg21 : Memref sig .tc .vmem S8x5x5x1536 .f32) (harg21 : arg21.IsWhole)
  (arg22 : Memref sig .tc .vmem S8x1536 .f32) (harg22 : arg22.IsWhole)
  (arg23 : Memref sig .tc .vmem S4608x1536 .bf16) (harg23 : arg23.IsWhole)
  (arg24 : Memref sig .tc .vmem S1536x1536 .bf16) (harg24 : arg24.IsWhole)
  (arg25 : Memref sig .tc .vmem S1536x1536 .bf16) (harg25 : arg25.IsWhole)
  (arg26 : Memref sig .tc .vmem S160x1536 .f32) (harg26 : arg26.IsWhole)
  (arg27 : Memref sig .tc .vmem S40x1536 .f32) (harg27 : arg27.IsWhole)
  (arg28 : Memref sig .tc .vmem S160x1536 .f32) (harg28 : arg28.IsWhole)
variable {R : Type} (κ : KProg F R)

set_option maxRecDepth 65536 in
theorem sec1_eq (h : k0_cond1 i = 1#1) :
    sec1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ = (poolAll i h arg1 arg3 arg4 arg19 arg20 >>= fun _ => κ) := by
  unfold sec1; rw [dif_pos h]
  rfl
end

/-! ## One pass of the tokens -/

/-- The two hundred token rows after one pass: norm, attention within groups, the two projections, the residual. -/
def pass (cl : Vec F S40x1536 .f32) (gr : Vec F S160x1536 .f32) (X12 X13 : Vec F S1x1536 .f32) (X23 : Vec F S4608x1536 .bf16)
    (X24 : Vec F S1536x1536 .bf16) (X16 : Vec F S1x1536 .f32) (X25 : Vec F S1536x1536 .bf16) (X18 : Vec F S1x1536 .f32) : FVec F S200x1536 .f32 :=
  have v28 := k0_pay84 X12
  have v30 := k0_pay85 X13
  have v49 := k0_pay86 (F := F)
  have v50 := k0_pay87 (F := F)
  have v53 := k0_pay88 cl gr
  have v59 := k0_pay89 cl gr
  have v66 := k0_pay90 cl gr
  have v76 := k0_pay91 v28 v30 v59 v66 X23
  have v92 := k0_pay92 v28 v30 v49 v50 v59 v66 X23
  have v108 := k0_pay93 v28 v30 v49 v50 v59 v66 X23
  have v111 := k0_pay94 v28 v30 v59 v66 X23
  have v112 := k0_pay95 v28 v30 v59 v66 X23
  have v113 := k0_pay96 (F := F)
  have v124 := k0_pay97 v49 v50 v111 v112 v113
  have v140 := k0_pay98 v49 v50 v76
  have v156 := k0_pay99 v49 v50 v76
  have v172 := k0_pay103 v49 v50 (k0_pay100 v76) (k0_pay101 v76) (k0_pay102 (F := F))
  have v188 := k0_pay104 v49 v50 v76
  have v204 := k0_pay105 v49 v50 v76
  have v220 := k0_pay109 v49 v50 (k0_pay106 v76) (k0_pay107 v76) (k0_pay108 (F := F))
  have v236 := k0_pay110 v49 v50 v76
  have v252 := k0_pay111 v49 v50 v76
  have v262 := k0_pay115 v49 v50 (k0_pay112 v76) (k0_pay113 v76) (k0_pay114 (F := F))
  have v269 := k0_pay116 v92 v108 v124 v140 v156 v172 v188 v204 v220 v236 v252 v262
  k0_pay117 v53 v269 X24 X16 X25 X18

/-- One pass as memory operations. -/
def passAll (a12 a13 : Memref sig .tc .vmem S1x1536 .f32) (a23 : Memref sig .tc .vmem S4608x1536 .bf16) (a24 : Memref sig .tc .vmem S1536x1536 .bf16)
    (a16 : Memref sig .tc .vmem S1x1536 .f32) (a25 : Memref sig .tc .vmem S1536x1536 .bf16) (a18 : Memref sig .tc .vmem S1x1536 .f32)
    (a27 : Memref sig .tc .vmem S40x1536 .f32) (a28 : Memref sig .tc .vmem S160x1536 .f32) : KProg F PUnit := do
  let x12 : Vec F S1x1536 .f32 ← Prog.lift (.load a12 (Rect.unit (s := S1x1536) ![0, 0] S1x1536.size inb_S1x1536_S1x1536_0_0).toLoadRect (View.loadsAt_vmem h_S1x1536))
  let x13 : Vec F S1x1536 .f32 ← Prog.lift (.load a13 (Rect.unit (s := S1x1536) ![0, 0] S1x1536.size inb_S1x1536_S1x1536_0_0).toLoadRect (View.loadsAt_vmem h_S1x1536))
  let cl : Vec F S40x1536 .f32 ← Prog.lift (.load a27 (Rect.unit (s := S40x1536) ![0, 0] S40x1536.size inb_S40x1536_S40x1536_0_0).toLoadRect (View.loadsAt_vmem h_S40x1536))
  let gr : Vec F S160x1536 .f32 ← Prog.lift (.load a28 (Rect.unit (s := S160x1536) ![0, 0] S160x1536.size inb_S160x1536_S160x1536_0_0).toLoadRect (View.loadsAt_vmem h_S160x1536))
  let x23 : Vec F S4608x1536 .bf16 ← Prog.lift (.load a23 (Rect.unit (s := S4608x1536) ![0, 0] S4608x1536.size inb_S4608x1536_S4608x1536_0_0).toLoadRect (View.loadsAt_vmem h_S4608x1536))
  let x24 : Vec F S1536x1536 .bf16 ← Prog.lift (.load a24 (Rect.unit (s := S1536x1536) ![0, 0] S1536x1536.size inb_S1536x1536_S1536x1536_0_0).toLoadRect (View.loadsAt_vmem h_S1536x1536))
  let x16 : Vec F S1x1536 .f32 ← Prog.lift (.load a16 (Rect.unit (s := S1x1536) ![0, 0] S1x1536.size inb_S1x1536_S1x1536_0_0).toLoadRect (View.loadsAt_vmem h_S1x1536))
  let x25 : Vec F S1536x1536 .bf16 ← Prog.lift (.load a25 (Rect.unit (s := S1536x1536) ![0, 0] S1536x1536.size inb_S1536x1536_S1536x1536_0_0).toLoadRect (View.loadsAt_vmem h_S1536x1536))
  let x18 : Vec F S1x1536 .f32 ← Prog.lift (.load a18 (Rect.unit (s := S1x1536) ![0, 0] S1x1536.size inb_S1x1536_S1x1536_0_0).toLoadRect (View.loadsAt_vmem h_S1x1536))
  let _ : Vec F S40x1536 .f32 ← Prog.lift (.load a27 (Rect.unit (s := S40x1536) ![0, 0] S40x1536.size inb_S40x1536_S40x1536_0_0).toLoadRect (View.loadsAt_vmem h_S40x1536))
  Prog.lift (.store a27 (Rect.unit (s := S40x1536) ![0, 0] S40x1536.size inb_S40x1536_S40x1536_0_0) (k0_pay118 (pass cl gr x12 x13 x23 x24 x16 x25 x18)) Finset.univ (View.stores_vmem_bits_univ h_S40x1536 rfl) (.inl rfl))
  let _ : Vec F S160x1536 .f32 ← Prog.lift (.load a28 (Rect.unit (s := S160x1536) ![0, 0] S160x1536.size inb_S160x1536_S160x1536_0_0).toLoadRect (View.loadsAt_vmem h_S160x1536))
  Prog.lift (.store a28 (Rect.unit (s := S160x1536) ![0, 0] S160x1536.size inb_S160x1536_S160x1536_0_0) (k0_pay9 (k0_pay119 (pass cl gr x12 x13 x23 x24 x16 x25 x18))) Finset.univ (View.stores_vmem_bits_univ h_S160x1536 rfl) (.inl rfl))

section
variable (c : Dev nD) (i : grid0.Coords)
  (arg1 : Memref sig .tc .smem S640 .i32) (harg1 : arg1.IsWhole)
  (arg2 : Memref sig .tc .smem S8 .f32) (harg2 : arg2.IsWhole)
  (arg3 : Memref sig .tc .vmem S1x3x4x224x224 .f32) (harg3 : arg3.IsWhole)
  (arg4 : Memref sig .tc .vmem S1x3x4x224x224 .f32) (harg4 : arg4.IsWhole)
  (arg5 : Memref sig .tc .vmem S8x20x1536 .f32) (harg5 : arg5.IsWhole)
  (arg6 : Memref sig .tc .vmem S128x1536 .f32) (harg6 : arg6.IsWhole)
  (arg7 : Memref sig .tc .vmem S1x1536 .f32) (harg7 : arg7.IsWhole)
  (arg8 : Memref sig .tc .vmem S20x1536 .f32) (harg8 : arg8.IsWhole)
  (arg9 : Memref sig .tc .vmem S1x1536 .f32) (harg9 : arg9.IsWhole)
  (arg10 : Memref sig .tc .vmem S1x1536 .f32) (harg10 : arg10.IsWhole)
  (arg11 : Memref sig .tc .vmem S5x1536 .f32) (harg11 : arg11.IsWhole)
  (arg12 : Memref sig .tc .vmem S1x1536 .f32) (harg12 : arg12.IsWhole)
  (arg13 : Memref sig .tc .vmem S1x1536 .f32) (harg13 : arg13.IsWhole)
  (arg14 : Memref sig .tc .vmem S288x1536 .f32) (harg14 : arg14.IsWhole)
  (arg15 : Memref sig .tc .vmem S128x1536 .f32) (harg15 : arg15.IsWhole)
  (arg16 : Memref sig .tc .vmem S1x1536 .f32) (harg16 : arg16.IsWhole)
  (arg17 : Memref sig .tc .vmem S128x1536 .f32) (harg17 : arg17.IsWhole)
  (arg18 : Memref sig .tc .vmem S1x1536 .f32) (harg18 : arg18.IsWhole)
  (arg19 : Memref sig .tc .vmem S1x4x3x128 .f32) (harg19 : arg19.IsWhole)
  (arg20 : Memref sig .tc .vmem S1x4x3x128 .f32) (harg20 : arg20.IsWhole)
  (arg21 : Memref sig .tc .vmem S8x5x5x1536 .f32) (harg21 : arg21.IsWhole)
  (arg22 : Memref sig .tc .vmem S8x1536 .f32) (harg22 : arg22.IsWhole)
  (arg23 : Memref sig .tc .vmem S4608x1536 .bf16) (harg23 : arg23.IsWhole)
  (arg24 : Memref sig .tc .vmem S1536x1536 .bf16) (harg24 : arg24.IsWhole)
  (arg25 : Memref sig .tc .vmem S1536x1536 .bf16) (harg25 : arg25.IsWhole)
  (arg26 : Memref sig .tc .vmem S160x1536 .f32) (harg26 : arg26.IsWhole)
  (arg27 : Memref sig .tc .vmem S40x1536 .f32) (harg27 : arg27.IsWhole)
  (arg28 : Memref sig .tc .vmem S160x1536 .f32) (harg28 : arg28.IsWhole)
variable {R : Type} (κ : KProg F R)

theorem sec5_skip (h : ¬ Scalar.cmpi .ne (Scalar.extui (Scalar.cmpi .eq (BitVec.ofNat 32 (i 0).val) 17#32)) (0#32 : BitVec 32) = 1#1) :
    sec5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ = κ := by
  unfold sec5; rw [dif_neg h]

set_option maxRecDepth 65536 in
theorem sec5_eq (h : Scalar.cmpi .ne (Scalar.extui (Scalar.cmpi .eq (BitVec.ofNat 32 (i 0).val) 17#32)) (0#32 : BitVec 32) = 1#1) :
    sec5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ = (passAll arg12 arg13 arg23 arg24 arg16 arg25 arg18 arg27 arg28 >>= fun _ => κ) := by
  unfold sec5; rw [dif_pos h]
  rfl

theorem sec6_skip (h : ¬ Scalar.cmpi .ne (Scalar.extui (Scalar.cmpi .eq (BitVec.ofNat 32 (i 0).val) 18#32)) (0#32 : BitVec 32) = 1#1) :
    sec6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ = κ := by
  unfold sec6; rw [dif_neg h]

set_option maxRecDepth 65536 in
theorem sec6_eq (h : Scalar.cmpi .ne (Scalar.extui (Scalar.cmpi .eq (BitVec.ofNat 32 (i 0).val) 18#32)) (0#32 : BitVec 32) = 1#1) :
    sec6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ = (passAll arg12 arg13 arg23 arg24 arg16 arg25 arg18 arg27 arg28 >>= fun _ => κ) := by
  unfold sec6; rw [dif_pos h]
  rfl

theorem sec7_skip (h : ¬ Scalar.cmpi .ne (Scalar.extui (Scalar.cmpi .eq (BitVec.ofNat 32 (i 0).val) 19#32)) (0#32 : BitVec 32) = 1#1) :
    sec7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ = κ := by
  unfold sec7; rw [dif_neg h]

set_option maxRecDepth 65536 in
theorem sec7_eq (h : Scalar.cmpi .ne (Scalar.extui (Scalar.cmpi .eq (BitVec.ofNat 32 (i 0).val) 19#32)) (0#32 : BitVec 32) = 1#1) :
    sec7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ = (passAll arg12 arg13 arg23 arg24 arg16 arg25 arg18 arg27 arg28 >>= fun _ => κ) := by
  unfold sec7; rw [dif_pos h]
  rfl

theorem sec8_skip (h : ¬ Scalar.cmpi .ne (Scalar.extui (Scalar.cmpi .eq (BitVec.ofNat 32 (i 0).val) 20#32)) (0#32 : BitVec 32) = 1#1) :
    sec8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ = κ := by
  unfold sec8; rw [dif_neg h]

set_option maxRecDepth 65536 in
theorem sec8_eq (h : Scalar.cmpi .ne (Scalar.extui (Scalar.cmpi .eq (BitVec.ofNat 32 (i 0).val) 20#32)) (0#32 : BitVec 32) = 1#1) :
    sec8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ = (passAll arg12 arg13 arg23 arg24 arg16 arg25 arg18 arg27 arg28 >>= fun _ => κ) := by
  unfold sec8; rw [dif_pos h]
  rfl
end

end Cert.Fused
-- ==== Proof.Stretch.lean ====
module

public import proofs.«01_k».proof.Proof.Pool

@[expose] public section

noncomputable section

namespace Cert.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open VecWindow

/-- Memref `m` of core `c` held whole at the values `X`. -/
abbrev at' (c : Dev nD) {sp : Space} {s : Shape} {e : EltTy} (m : Memref sig .tc sp s e) (X : s.Idx → Elt F e) : sProp 𝕄 :=
  owns (c : Thread nD τ) m fullShare X

/-- The weakest precondition of a stretch on core `c`. -/
abbrev wpK (c : Dev nD) {R : Type} (p : Prog (TpuEff nD τ sig (Elt F) Λ₀ .tc) R) (Q : R → sProp 𝕄) : sProp 𝕄 :=
  wp frame (wpE (defs₀ (F := F)) Variants.none (c : Thread nD τ) none) Set.univ p Q

/-! ## The pooling stretch's values -/

/-- The word at the one index `o` names. -/
abbrev wordAt (X1 : S640.Idx → Elt F .i32) (o : Fin 1 → ℕ) (h : ∀ a, o a + S1.size a ≤ S640.size a) : Elt F .i32 :=
  X1 fun a => ⟨o a, lt_of_lt_of_le (Nat.lt_add_of_pos_right (by revert a; decide)) (h a)⟩

theorem readAt_word {m : Memref sig .tc .smem S640 .i32} (X1 : S640.Idx → Elt F .i32) (o : Fin 1 → ℕ) (h : ∀ a, o a + S1.size a ≤ S640.size a) (hp) :
    View.readAt (Elt F) m.view (Rect.unit (s := S640) o S1.size h).toLoadRect (m.view.rep X1) (Shape.Idx.first hp) = wordAt X1 o h := by
  rw [View.readAt_rep_unit _ _ _ rfl h]
  unfold window
  congr 1

/-- One row of the pooled block. -/
def rowOf (w0 w1 w2 w3 : Elt F .i32) (X : S1x3x4x224x224.Idx → Elt F .f32) (tt : Fin 4) (ch : Fin 3) : FVec F S1x1x1x128 .f32 :=
  poolPay w0 w1 w2 w3 (window X ![0, ch.val, tt.val, 0, 0] S1x1x1x224x224.size (pool_in tt ch))

section
variable (c : Dev nD) (q : PosShare TreeShare) (a1 : Memref sig .tc .smem S640 .i32) (ax : Memref sig .tc .vmem S1x3x4x224x224 .f32) (ao : Memref sig .tc .vmem S1x4x3x128 .f32)
  {R : Type} (κ : KProg F R)

theorem poolRow_run (Q : R → sProp 𝕄) (w0 w1 w2 w3 : Elt F .i32) (tt : Fin 4) (ch : Fin 3) (X : S1x3x4x224x224.Idx → Elt F .f32) (Y : S1x4x3x128.Idx → Elt F .f32) :
    iprop(at' c ax X ∗ at' c ao Y
      ∗ (iprop(at' c ax X ∗ at' c ao (put Y ![0, tt.val, ch.val, 0] S1x1x1x128.size (rowOf w0 w1 w2 w3 X tt ch))) -∗ wpK c κ Q))
      ⊢ wpK c (poolRow ax ao w0 w1 w2 w3 tt ch >>= fun _ => κ) Q := by
  unfold at' wpK
  simp only [owns_eq_rep]
  iintro ⟨Hx, Ho, Hk⟩
  unfold poolRow
  sl_exec
  iapply Hk
  isplitl [Hx]; · iexact Hx
  ihave H := (pointsTo_rep_of_read (c : Thread nD τ) ao _ fullShare _ (View.read_writes_rep_unit _ _ _ _ rfl)) $$ Ho
  rw [View.readAt_rep_unit _ _ _ rfl (pool_in tt ch)]
  iexact H

theorem word_run (Q : R → sProp 𝕄) (o : Fin 1 → ℕ) (ho : ∀ a, o a + S1.size a ≤ S640.size a) (X1 : S640.Idx → Elt F .i32) (κ : Elt F .i32 → KProg F R) :
    iprop(owns (c : Thread nD τ) a1 q X1 ∗ (owns (c : Thread nD τ) a1 q X1 -∗ wpK c (κ (wordAt X1 o ho)) Q))
      ⊢ wpK c (smemLoad a1 (Rect.unit (s := S640) o S1.size ho) numel1_S1 rfl >>= κ) Q := by
  unfold wpK
  simp only [owns_eq_rep]
  iintro ⟨H1, Hk⟩
  sl_exec
  unfold word_run.sl.r
  rw [readAt_word]
  ihave Hk := Hk $$ H1
  iexact Hk
end

section

variable (c : Dev nD) (i : grid0.Coords)
  (arg5 : Memref sig .tc .vmem S8x20x1536 .f32)
  (arg6 : Memref sig .tc .vmem S128x1536 .f32)
  (arg14 : Memref sig .tc .vmem S288x1536 .f32)
  (arg15 : Memref sig .tc .vmem S128x1536 .f32)
  (arg17 : Memref sig .tc .vmem S128x1536 .f32)
  (arg21 : Memref sig .tc .vmem S8x5x5x1536 .f32)
  (arg26 : Memref sig .tc .vmem S160x1536 .f32)
  (arg27 : Memref sig .tc .vmem S40x1536 .f32)
  (arg28 : Memref sig .tc .vmem S160x1536 .f32)
  (arg23 : Memref sig .tc .vmem S4608x1536 .bf16) (harg23 : arg23.IsWhole)
  (arg24 : Memref sig .tc .vmem S1536x1536 .bf16) (harg24 : arg24.IsWhole)
  (arg25 : Memref sig .tc .vmem S1536x1536 .bf16) (harg25 : arg25.IsWhole)
variable {R : Type} (κ : Prog (TpuEff nD τ sig (Elt F) Λ₀ .tc) R)

theorem sec2_skip (h : ¬ k0_cond2 i = 1#1) : sec2 (F := F) i arg14 arg23 harg23 κ = κ := by
  unfold sec2; rw [dif_neg h]

theorem sec2_run (Q : R → sProp 𝕄) (h : k0_cond2 i = 1#1) (X14 : S288x1536.Idx → Elt F .f32) (X23 : S4608x1536.Idx → Elt F .bf16) :
    iprop(at' c arg14 X14 ∗ at' c arg23 X23
      ∗ (iprop(at' c arg14 X14 ∗ at' c arg23 (put X23 (k0_off5 i) S288x1536.size (k0_pay2 X14))) -∗ wpK c κ Q))
      ⊢ wpK c (sec2 i arg14 arg23 harg23 κ) Q := by
  unfold at' wpK
  simp only [owns_eq_rep]
  iintro ⟨H14, H23, Hk⟩
  unfold sec2
  sl_exec
  iapply Hk
  isplitl [H14]; · iexact H14
  ihave H := (pointsTo_rep_of_read (c : Thread nD τ) arg23 _ fullShare _ (View.read_writes_rep_unit _ _ _ _ rfl)) $$ H23
  rw [View.readAt_rep_full]
  iexact H

theorem sec3_skip (h : ¬ k0_cond3 i = 1#1) : sec3 (F := F) i arg5 arg6 arg15 arg17 arg24 harg24 arg25 harg25 arg26 κ = κ := by
  unfold sec3; rw [dif_neg h]

theorem sec3_run (Q : R → sProp 𝕄) (h : k0_cond3 i = 1#1) (X5 : S8x20x1536.Idx → Elt F .f32) (X6 X15 X17 : S128x1536.Idx → Elt F .f32)
    (X24 X25 : S1536x1536.Idx → Elt F .bf16) (X26 : S160x1536.Idx → Elt F .f32) :
    iprop(at' c arg5 X5 ∗ at' c arg6 X6 ∗ at' c arg15 X15 ∗ at' c arg17 X17 ∗ at' c arg24 X24 ∗ at' c arg25 X25 ∗ at' c arg26 X26
      ∗ (iprop(at' c arg5 X5 ∗ at' c arg6 X6 ∗ at' c arg15 X15 ∗ at' c arg17 X17
          ∗ at' c arg24 (put X24 (k0_off6 i) S128x1536.size (k0_pay3 X15)) ∗ at' c arg25 (put X25 (k0_off6 i) S128x1536.size (k0_pay4 X17))
          ∗ at' c arg26 (put X26 (k0_off7 i) S160x128.size (k0_pay5 X5 X6))) -∗ wpK c κ Q))
      ⊢ wpK c (sec3 i arg5 arg6 arg15 arg17 arg24 harg24 arg25 harg25 arg26 κ) Q := by
  unfold at' wpK
  simp only [owns_eq_rep]
  iintro ⟨H5, H6, H15, H17, H24, H25, H26, Hk⟩
  unfold sec3
  sl_exec
  iapply Hk
  isplitl [H5]; · iexact H5
  isplitl [H6]; · iexact H6
  isplitl [H15]; · iexact H15
  isplitl [H17]; · iexact H17
  isplitl [H24]
  · ihave H := (pointsTo_rep_of_read (c : Thread nD τ) arg24 _ fullShare _ (View.read_writes_rep_unit _ _ _ _ rfl)) $$ H24
    rw [View.readAt_rep_full]
    iexact H
  isplitl [H25]
  · ihave H := (pointsTo_rep_of_read (c : Thread nD τ) arg25 _ fullShare _ (View.read_writes_rep_unit _ _ _ _ rfl)) $$ H25
    rw [View.readAt_rep_full]
    iexact H
  ihave H := (pointsTo_rep_of_read (c : Thread nD τ) arg26 _ fullShare _ (View.read_writes_rep_unit _ _ _ _ rfl)) $$ H26
  rw [View.readAt_rep_full, View.readAt_rep_full]
  iexact H

theorem sec9_skip (h : ¬ k0_cond9 i = 1#1) : sec9 (F := F) i arg21 arg27 arg28 κ = κ := by
  unfold sec9; rw [dif_neg h]

/-- The last output from the two token arrays. -/
def finish (cl : S40x1536.Idx → Elt F .f32) (gr : S160x1536.Idx → Elt F .f32) (X : S8x5x5x1536.Idx → Elt F .f32) : S8x5x5x1536.Idx → Elt F .f32 :=
  put (put X ![0, 0, 0, 0] S8x5x1x1536.size (k0_pay13 cl)) ![0, 0, 1, 0] S8x5x4x1536.size (k0_pay14 gr)

theorem sec9_run (Q : R → sProp 𝕄) (h : k0_cond9 i = 1#1) (X21 : S8x5x5x1536.Idx → Elt F .f32) (X27 : S40x1536.Idx → Elt F .f32) (X28 : S160x1536.Idx → Elt F .f32) :
    iprop(at' c arg21 X21 ∗ at' c arg27 X27 ∗ at' c arg28 X28
      ∗ (iprop(at' c arg21 (finish X27 X28 X21) ∗ at' c arg27 X27 ∗ at' c arg28 X28) -∗ wpK c κ Q))
      ⊢ wpK c (sec9 i arg21 arg27 arg28 κ) Q := by
  unfold at' wpK
  simp only [owns_eq_rep]
  iintro ⟨H21, H27, H28, Hk⟩
  unfold sec9
  sl_exec
  iapply Hk
  isplitl [H21]
  · ihave H := (pointsTo_rep_of_read (c : Thread nD τ) arg21 _ fullShare _ ((View.read_writes_cons_put _ _ _ _ _ rfl).trans (congrArg (put · _ _ _) (View.read_writes_rep_unit _ _ _ _ rfl)))) $$ H21
    rw [View.readAt_rep_full, View.readAt_rep_full]
    iexact H
  isplitl [H27]; · iexact H27
  iexact H28

end

section

variable (c : Dev nD) (i : grid0.Coords)
  (arg1 : Memref sig .tc .smem S640 .i32) (harg1 : arg1.IsWhole)
  (arg2 : Memref sig .tc .smem S8 .f32) (harg2 : arg2.IsWhole)
  (arg3 : Memref sig .tc .vmem S1x3x4x224x224 .f32) (harg3 : arg3.IsWhole)
  (arg4 : Memref sig .tc .vmem S1x3x4x224x224 .f32) (harg4 : arg4.IsWhole)
  (arg5 : Memref sig .tc .vmem S8x20x1536 .f32) (harg5 : arg5.IsWhole)
  (arg6 : Memref sig .tc .vmem S128x1536 .f32) (harg6 : arg6.IsWhole)
  (arg7 : Memref sig .tc .vmem S1x1536 .f32) (harg7 : arg7.IsWhole)
  (arg8 : Memref sig .tc .vmem S20x1536 .f32) (harg8 : arg8.IsWhole)
  (arg9 : Memref sig .tc .vmem S1x1536 .f32) (harg9 : arg9.IsWhole)
  (arg10 : Memref sig .tc .vmem S1x1536 .f32) (harg10 : arg10.IsWhole)
  (arg11 : Memref sig .tc .vmem S5x1536 .f32) (harg11 : arg11.IsWhole)
  (arg12 : Memref sig .tc .vmem S1x1536 .f32) (harg12 : arg12.IsWhole)
  (arg13 : Memref sig .tc .vmem S1x1536 .f32) (harg13 : arg13.IsWhole)
  (arg14 : Memref sig .tc .vmem S288x1536 .f32) (harg14 : arg14.IsWhole)
  (arg15 : Memref sig .tc .vmem S128x1536 .f32) (harg15 : arg15.IsWhole)
  (arg16 : Memref sig .tc .vmem S1x1536 .f32) (harg16 : arg16.IsWhole)
  (arg17 : Memref sig .tc .vmem S128x1536 .f32) (harg17 : arg17.IsWhole)
  (arg18 : Memref sig .tc .vmem S1x1536 .f32) (harg18 : arg18.IsWhole)
  (arg19 : Memref sig .tc .vmem S1x4x3x128 .f32) (harg19 : arg19.IsWhole)
  (arg20 : Memref sig .tc .vmem S1x4x3x128 .f32) (harg20 : arg20.IsWhole)
  (arg21 : Memref sig .tc .vmem S8x5x5x1536 .f32) (harg21 : arg21.IsWhole)
  (arg22 : Memref sig .tc .vmem S8x1536 .f32) (harg22 : arg22.IsWhole)
  (arg23 : Memref sig .tc .vmem S4608x1536 .bf16) (harg23 : arg23.IsWhole)
  (arg24 : Memref sig .tc .vmem S1536x1536 .bf16) (harg24 : arg24.IsWhole)
  (arg25 : Memref sig .tc .vmem S1536x1536 .bf16) (harg25 : arg25.IsWhole)
  (arg26 : Memref sig .tc .vmem S160x1536 .f32) (harg26 : arg26.IsWhole)
  (arg27 : Memref sig .tc .vmem S40x1536 .f32) (harg27 : arg27.IsWhole)
  (arg28 : Memref sig .tc .vmem S160x1536 .f32) (harg28 : arg28.IsWhole)
variable {R : Type} (κ : Prog (TpuEff nD τ sig (Elt F) Λ₀ .tc) R)

theorem sec4_skip (h : ¬ k0_cond4 i = 1#1) : sec4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ = κ := by
  unfold sec4; rw [dif_neg h]

/-- The timestamp at the one index `o` names. -/
abbrev tsAt (X2 : S8.Idx → Elt F .f32) (o : Fin 1 → ℕ) (h : ∀ a, o a + S1.size a ≤ S8.size a) : Elt F .f32 :=
  X2 fun a => ⟨o a, lt_of_lt_of_le (Nat.lt_add_of_pos_right (by revert a; decide)) (h a)⟩

theorem readAt_ts {m : Memref sig .tc .smem S8 .f32} (X2 : S8.Idx → Elt F .f32) (o : Fin 1 → ℕ) (h : ∀ a, o a + S1.size a ≤ S8.size a) (hp) :
    View.readAt (Elt F) m.view (Rect.unit (s := S8) o S1.size h).toLoadRect (m.view.rep X2) (Shape.Idx.first hp) = tsAt X2 o h := by
  rw [View.readAt_rep_unit _ _ _ rfl h]
  unfold window
  congr 1

/-- The twenty token rows of every batch after the embedding, from the timestamps, the bias, the time embedding and the projected features. -/
def embed (X2 : S8.Idx → Elt F .f32) (X7 : S1x1536.Idx → Elt F .f32) (X8 : S20x1536.Idx → Elt F .f32) (X9 X10 : S1x1536.Idx → Elt F .f32)
    (X26 : S160x1536.Idx → Elt F .f32) : FVec F S8x20x1536 .f32 :=
  k0_pay83 (tsAt X2 ![0] inb_S8_S1_0) (tsAt X2 ![1] inb_S8_S1_1) (tsAt X2 ![2] inb_S8_S1_2) (tsAt X2 ![3] inb_S8_S1_3) (tsAt X2 ![4] inb_S8_S1_4) (tsAt X2 ![5] inb_S8_S1_5) (tsAt X2 ![6] inb_S8_S1_6) (tsAt X2 ![7] inb_S8_S1_7) X9 X10 X26 X8 X7

theorem sec4_run (Q : R → sProp 𝕄) (h : k0_cond4 i = 1#1) (X2 : S8.Idx → Elt F .f32) (X7 X9 X10 : S1x1536.Idx → Elt F .f32) (X8 : S20x1536.Idx → Elt F .f32)
    (X11 : S5x1536.Idx → Elt F .f32) (X22 : S8x1536.Idx → Elt F .f32) (X26 : S160x1536.Idx → Elt F .f32) (X27 : S40x1536.Idx → Elt F .f32) (X28 : S160x1536.Idx → Elt F .f32) :
    iprop(at' c arg2 X2 ∗ at' c arg7 X7 ∗ at' c arg8 X8 ∗ at' c arg9 X9 ∗ at' c arg10 X10 ∗ at' c arg11 X11 ∗ at' c arg22 X22 ∗ at' c arg26 X26 ∗ at' c arg27 X27 ∗ at' c arg28 X28
      ∗ (iprop(at' c arg2 X2 ∗ at' c arg7 X7 ∗ at' c arg8 X8 ∗ at' c arg9 X9 ∗ at' c arg10 X10 ∗ at' c arg11 X11 ∗ at' c arg22 (k0_pay6 (embed X2 X7 X8 X9 X10 X26))
          ∗ at' c arg26 X26 ∗ at' c arg27 (k0_pay8 X11) ∗ at' c arg28 (k0_pay7 (embed X2 X7 X8 X9 X10 X26))) -∗ wpK c κ Q))
      ⊢ wpK c (sec4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ) Q := by
  unfold at' wpK
  simp only [owns_eq_rep]
  iintro ⟨H2, H7, H8, H9, H10, H11, H22, H26, H27, H28, Hk⟩
  unfold sec4
  rw [k0_part22_eq_skeleton]
  unfold k0_part22_skel
  sl_exec
  iapply Hk
  isplitl [H2]; · iexact H2
  isplitl [H7]; · iexact H7
  isplitl [H8]; · iexact H8
  isplitl [H9]; · iexact H9
  isplitl [H10]; · iexact H10
  isplitl [H11]; · iexact H11
  isplitl [H22]
  · ihave H := (pointsTo_rep_of_read (c : Thread nD τ) arg22 _ fullShare _ (View.read_writes_full _ _ _ _ _)) $$ H22
    unfold embed sec4_run.sl.r sec4_run.sl.r_1 sec4_run.sl.r_2 sec4_run.sl.r_3 sec4_run.sl.r_4 sec4_run.sl.r_5 sec4_run.sl.r_6 sec4_run.sl.r_7
    rw [readAt_ts X2 ![0] inb_S8_S1_0, readAt_ts X2 ![1] inb_S8_S1_1, readAt_ts X2 ![2] inb_S8_S1_2, readAt_ts X2 ![3] inb_S8_S1_3, readAt_ts X2 ![4] inb_S8_S1_4, readAt_ts X2 ![5] inb_S8_S1_5, readAt_ts X2 ![6] inb_S8_S1_6, readAt_ts X2 ![7] inb_S8_S1_7,
      View.readAt_rep_full, View.readAt_rep_full, View.readAt_rep_full, View.readAt_rep_full, View.readAt_rep_full]
    iexact H
  isplitl [H26]; · iexact H26
  isplitl [H27]
  · ihave H := (pointsTo_rep_of_read (c : Thread nD τ) arg27 _ fullShare _ (View.read_writes_full _ _ _ _ _)) $$ H27
    rw [View.readAt_rep_full]
    iexact H
  · ihave H := (pointsTo_rep_of_read (c : Thread nD τ) arg28 _ fullShare _ (View.read_writes_full _ _ _ _ _)) $$ H28
    unfold embed sec4_run.sl.r sec4_run.sl.r_1 sec4_run.sl.r_2 sec4_run.sl.r_3 sec4_run.sl.r_4 sec4_run.sl.r_5 sec4_run.sl.r_6 sec4_run.sl.r_7
    rw [readAt_ts X2 ![0] inb_S8_S1_0, readAt_ts X2 ![1] inb_S8_S1_1, readAt_ts X2 ![2] inb_S8_S1_2, readAt_ts X2 ![3] inb_S8_S1_3, readAt_ts X2 ![4] inb_S8_S1_4, readAt_ts X2 ![5] inb_S8_S1_5, readAt_ts X2 ![6] inb_S8_S1_6, readAt_ts X2 ![7] inb_S8_S1_7,
      View.readAt_rep_full, View.readAt_rep_full, View.readAt_rep_full, View.readAt_rep_full, View.readAt_rep_full]
    iexact H

end

end Cert.Fused
-- ==== Proof.Runs.lean ====
module

public import proofs.«01_k».proof.Proof.Stretch
public import Idealize.ShloMosaic.Lib.Pointwise.Index

@[expose] public section

noncomputable section

namespace Cert.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open VecWindow

section
variable (c : Dev nD) (q : PosShare TreeShare) (a1 : Memref sig .tc .smem S640 .i32) (ax : Memref sig .tc .vmem S1x3x4x224x224 .f32) (ao : Memref sig .tc .vmem S1x4x3x128 .f32)
  {R : Type} (κ : KProg F R)

/-- The three rows of a frame over what the block held. -/
def tilePut (w0 w1 w2 w3 : Elt F .i32) (X : S1x3x4x224x224.Idx → Elt F .f32) (tt : Fin 4) (Y : S1x4x3x128.Idx → Elt F .f32) : S1x4x3x128.Idx → Elt F .f32 :=
  put (put (put Y ![0, tt.val, (0 : Fin 3).val, 0] S1x1x1x128.size (rowOf w0 w1 w2 w3 X tt 0)) ![0, tt.val, (1 : Fin 3).val, 0] S1x1x1x128.size (rowOf w0 w1 w2 w3 X tt 1))
    ![0, tt.val, (2 : Fin 3).val, 0] S1x1x1x128.size (rowOf w0 w1 w2 w3 X tt 2)

theorem poolTile_run (Q : R → sProp 𝕄) (o : Fin 4 → Fin 1 → ℕ) (ho : ∀ k a, o k a + S1.size a ≤ S640.size a) (tt : Fin 4)
    (X1 : S640.Idx → Elt F .i32) (X : S1x3x4x224x224.Idx → Elt F .f32) (Y : S1x4x3x128.Idx → Elt F .f32) :
    iprop(owns (c : Thread nD τ) a1 q X1 ∗ at' c ax X ∗ at' c ao Y
      ∗ (iprop(owns (c : Thread nD τ) a1 q X1 ∗ at' c ax X
          ∗ at' c ao (tilePut (wordAt X1 (o 0) (ho 0)) (wordAt X1 (o 1) (ho 1)) (wordAt X1 (o 2) (ho 2)) (wordAt X1 (o 3) (ho 3)) X tt Y)) -∗ wpK c κ Q))
      ⊢ wpK c (poolTile a1 ax ao o ho tt >>= fun _ => κ) Q := by
  iintro ⟨H1, Hx, Ho, Hk⟩
  unfold poolTile tilePut
  simp only [bind_assoc]
  iapply (word_run c q a1 Q (o 0) (ho 0) X1 _); isplitl [H1]; · iexact H1
  iintro H1
  iapply (word_run c q a1 Q (o 1) (ho 1) X1 _); isplitl [H1]; · iexact H1
  iintro H1
  iapply (word_run c q a1 Q (o 2) (ho 2) X1 _); isplitl [H1]; · iexact H1
  iintro H1
  iapply (word_run c q a1 Q (o 3) (ho 3) X1 _); isplitl [H1]; · iexact H1
  iintro H1
  iapply (poolRow_run c ax ao _ Q _ _ _ _ tt 0 X _); isplitl [Hx]; · iexact Hx
  isplitl [Ho]; · iexact Ho
  iintro ⟨Hx, Ho⟩
  iapply (poolRow_run c ax ao _ Q _ _ _ _ tt 1 X _); isplitl [Hx]; · iexact Hx
  isplitl [Ho]; · iexact Ho
  iintro ⟨Hx, Ho⟩
  iapply (poolRow_run c ax ao _ Q _ _ _ _ tt 2 X _); isplitl [Hx]; · iexact Hx
  isplitl [Ho]; · iexact Ho
  iintro ⟨Hx, Ho⟩
  iapply Hk
  isplitl [H1]; · iexact H1
  isplitl [Hx]; · iexact Hx
  iexact Ho
end

/-! ## The pooled block by index -/

/-- The frame, the channel and the lane of a pooled index. -/
abbrev fr (j : S1x4x3x128.Idx) : Fin 4 := j 1
abbrev chn (j : S1x4x3x128.Idx) : Fin 3 := j 2
abbrev lane (j : S1x4x3x128.Idx) : S1x1x1x128.Idx := ix4 (0 : Fin 1) (0 : Fin 1) (0 : Fin 1) (show Fin 128 from j 3)

theorem put_row (Y : S1x4x3x128.Idx → Elt F .f32) (tt : Fin 4) (ch : Fin 3) (r : S1x1x1x128.Idx → Elt F .f32) (j : S1x4x3x128.Idx) :
    put Y ![0, tt.val, ch.val, 0] S1x1x1x128.size r j = if fr j = tt ∧ chn j = ch then r (lane j) else Y j := by
  unfold put
  by_cases h : fr j = tt ∧ chn j = ch
  · rw [if_pos h, dif_pos]
    · congr 1
      funext a
      apply Fin.ext
      obtain ⟨h1, h2⟩ := h
      fin_cases a
      · have : (show Fin 1 from j 0).val = 0 := by omega
        simpa [Rect.unitLocal, lane] using this
      · simp [Rect.unitLocal, lane, h1]
      · simp [Rect.unitLocal, lane, h2]
      · simp [Rect.unitLocal, lane]
    · obtain ⟨h1, h2⟩ := h
      intro a
      fin_cases a
      · have := (j 0).isLt; simp at this ⊢; omega
      · subst h1; simp
      · subst h2; simp
      · have := (j 3).isLt; simp at this ⊢; omega
  · rw [if_neg h, dif_neg]
    intro h'
    apply h
    have h1 : tt.val ≤ (fr j).val ∧ (fr j).val < tt.val + 1 := h' 1
    have h2 : ch.val ≤ (chn j).val ∧ (chn j).val < ch.val + 1 := h' 2
    exact ⟨Fin.ext (by omega), Fin.ext (by omega)⟩

/-- The words of the four frames as a table. -/
abbrev boxWords (X1 : S640.Idx → Elt F .i32) (o : Fin 4 → Fin 4 → Fin 1 → ℕ) (ho : ∀ t k a, o t k a + S1.size a ≤ S640.size a) : Fin 4 → Fin 4 → Elt F .i32 :=
  fun t k => wordAt X1 (o t k) (ho t k)

/-- The pooled block: frame, channel and lane. -/
def poolOut (W : Fin 4 → Fin 4 → Elt F .i32) (X : S1x3x4x224x224.Idx → Elt F .f32) : S1x4x3x128.Idx → Elt F .f32 :=
  fun j => rowOf (W (fr j) 0) (W (fr j) 1) (W (fr j) 2) (W (fr j) 3) X (fr j) (chn j) (lane j)

theorem tilePut_at (w0 w1 w2 w3 : Elt F .i32) (X : S1x3x4x224x224.Idx → Elt F .f32) (tt : Fin 4) (Y : S1x4x3x128.Idx → Elt F .f32) (j : S1x4x3x128.Idx) :
    tilePut w0 w1 w2 w3 X tt Y j = if fr j = tt then rowOf w0 w1 w2 w3 X tt (chn j) (lane j) else Y j := by
  unfold tilePut
  rw [put_row, put_row, put_row]
  have h2 : ∀ t : Fin 3, t = 0 ∨ t = 1 ∨ t = 2 := by decide
  by_cases h : fr j = tt
  · rw [if_pos h]
    rcases h2 (chn j) with e | e | e <;> rw [e]
    · rw [if_neg (fun x => absurd x.2 (by decide)), if_neg (fun x => absurd x.2 (by decide)), if_pos ⟨h, rfl⟩]
    · rw [if_neg (fun x => absurd x.2 (by decide)), if_pos ⟨h, rfl⟩]
    · rw [if_pos ⟨h, rfl⟩]
  · rw [if_neg h, if_neg (fun x => h x.1), if_neg (fun x => h x.1), if_neg (fun x => h x.1)]

theorem poolOut_eq (W : Fin 4 → Fin 4 → Elt F .i32) (X : S1x3x4x224x224.Idx → Elt F .f32) (Y : S1x4x3x128.Idx → Elt F .f32) :
    tilePut (W 3 0) (W 3 1) (W 3 2) (W 3 3) X 3 (tilePut (W 2 0) (W 2 1) (W 2 2) (W 2 3) X 2 (tilePut (W 1 0) (W 1 1) (W 1 2) (W 1 3) X 1 (tilePut (W 0 0) (W 0 1) (W 0 2) (W 0 3) X 0 Y)))
      = poolOut W X := by
  funext j
  unfold poolOut
  rw [tilePut_at, tilePut_at, tilePut_at, tilePut_at]
  have h1 : ∀ t : Fin 4, t = 0 ∨ t = 1 ∨ t = 2 ∨ t = 3 := by decide
  rcases h1 (fr j) with e | e | e | e <;> rw [e]
  · rw [if_neg (by decide), if_neg (by decide), if_neg (by decide), if_pos rfl]
  · rw [if_neg (by decide), if_neg (by decide), if_pos rfl]
  · rw [if_neg (by decide), if_pos rfl]
  · rw [if_pos rfl]

section
variable (c : Dev nD) (q : PosShare TreeShare) (a1 : Memref sig .tc .smem S640 .i32) (ax ax' : Memref sig .tc .vmem S1x3x4x224x224 .f32) (ao ao' : Memref sig .tc .vmem S1x4x3x128 .f32)
  {R : Type} (κ : KProg F R)

theorem poolAll_run (Q : R → sProp 𝕄) (i : grid0.Coords) (h : k0_cond1 i = 1#1)
    (X1 : S640.Idx → Elt F .i32) (X X' : S1x3x4x224x224.Idx → Elt F .f32) (Y Y' : S1x4x3x128.Idx → Elt F .f32) :
    iprop(owns (c : Thread nD τ) a1 q X1 ∗ at' c ax X ∗ at' c ax' X' ∗ at' c ao Y ∗ at' c ao' Y'
      ∗ (iprop(owns (c : Thread nD τ) a1 q X1 ∗ at' c ax X ∗ at' c ax' X'
          ∗ at' c ao (poolOut (boxWords X1 (offLo i) (offLo_in i h)) X) ∗ at' c ao' (poolOut (boxWords X1 (offHi i) (offHi_in i h)) X')) -∗ wpK c κ Q))
      ⊢ wpK c (poolAll i h a1 ax ax' ao ao' >>= fun _ => κ) Q := by
  iintro ⟨H1, Hx, Hx', Ho, Ho', Hk⟩
  unfold poolAll
  simp only [bind_assoc]
  iapply (poolTile_run c q a1 ax ao _ Q (offLo i 0) (offLo_in i h 0) 0 X1 X _); isplitl [H1]; · iexact H1
  isplitl [Hx]; · iexact Hx
  isplitl [Ho]; · iexact Ho
  iintro ⟨H1, Hx, Ho⟩
  iapply (poolTile_run c q a1 ax ao _ Q (offLo i 1) (offLo_in i h 1) 1 X1 X _); isplitl [H1]; · iexact H1
  isplitl [Hx]; · iexact Hx
  isplitl [Ho]; · iexact Ho
  iintro ⟨H1, Hx, Ho⟩
  iapply (poolTile_run c q a1 ax ao _ Q (offLo i 2) (offLo_in i h 2) 2 X1 X _); isplitl [H1]; · iexact H1
  isplitl [Hx]; · iexact Hx
  isplitl [Ho]; · iexact Ho
  iintro ⟨H1, Hx, Ho⟩
  iapply (poolTile_run c q a1 ax ao _ Q (offLo i 3) (offLo_in i h 3) 3 X1 X _); isplitl [H1]; · iexact H1
  isplitl [Hx]; · iexact Hx
  isplitl [Ho]; · iexact Ho
  iintro ⟨H1, Hx, Ho⟩
  iapply (poolTile_run c q a1 ax' ao' _ Q (offHi i 0) (offHi_in i h 0) 0 X1 X' _); isplitl [H1]; · iexact H1
  isplitl [Hx']; · iexact Hx'
  isplitl [Ho']; · iexact Ho'
  iintro ⟨H1, Hx', Ho'⟩
  iapply (poolTile_run c q a1 ax' ao' _ Q (offHi i 1) (offHi_in i h 1) 1 X1 X' _); isplitl [H1]; · iexact H1
  isplitl [Hx']; · iexact Hx'
  isplitl [Ho']; · iexact Ho'
  iintro ⟨H1, Hx', Ho'⟩
  iapply (poolTile_run c q a1 ax' ao' _ Q (offHi i 2) (offHi_in i h 2) 2 X1 X' _); isplitl [H1]; · iexact H1
  isplitl [Hx']; · iexact Hx'
  isplitl [Ho']; · iexact Ho'
  iintro ⟨H1, Hx', Ho'⟩
  iapply (poolTile_run c q a1 ax' ao' _ Q (offHi i 3) (offHi_in i h 3) 3 X1 X' _); isplitl [H1]; · iexact H1
  isplitl [Hx']; · iexact Hx'
  isplitl [Ho']; · iexact Ho'
  iintro ⟨H1, Hx', Ho'⟩
  iapply Hk
  rw [← poolOut_eq _ X Y, ← poolOut_eq _ X' Y']
  isplitl [H1]; · iexact H1
  isplitl [Hx]; · iexact Hx
  isplitl [Hx']; · iexact Hx'
  isplitl [Ho]; · iexact Ho
  iexact Ho'
end

/-! ## One pass -/

/-- The class rows and the token rows after one pass. -/
def passCl (cl : S40x1536.Idx → Elt F .f32) (gr : S160x1536.Idx → Elt F .f32) (X12 X13 : S1x1536.Idx → Elt F .f32) (X23 : S4608x1536.Idx → Elt F .bf16)
    (X24 : S1536x1536.Idx → Elt F .bf16) (X16 : S1x1536.Idx → Elt F .f32) (X25 : S1536x1536.Idx → Elt F .bf16) (X18 : S1x1536.Idx → Elt F .f32) : S40x1536.Idx → Elt F .f32 :=
  k0_pay118 (pass cl gr X12 X13 X23 X24 X16 X25 X18)
def passGr (cl : S40x1536.Idx → Elt F .f32) (gr : S160x1536.Idx → Elt F .f32) (X12 X13 : S1x1536.Idx → Elt F .f32) (X23 : S4608x1536.Idx → Elt F .bf16)
    (X24 : S1536x1536.Idx → Elt F .bf16) (X16 : S1x1536.Idx → Elt F .f32) (X25 : S1536x1536.Idx → Elt F .bf16) (X18 : S1x1536.Idx → Elt F .f32) : S160x1536.Idx → Elt F .f32 :=
  k0_pay9 (k0_pay119 (pass cl gr X12 X13 X23 X24 X16 X25 X18))

section
variable (c : Dev nD) (a12 a13 : Memref sig .tc .vmem S1x1536 .f32) (a23 : Memref sig .tc .vmem S4608x1536 .bf16) (a24 : Memref sig .tc .vmem S1536x1536 .bf16)
    (a16 : Memref sig .tc .vmem S1x1536 .f32) (a25 : Memref sig .tc .vmem S1536x1536 .bf16) (a18 : Memref sig .tc .vmem S1x1536 .f32)
    (a27 : Memref sig .tc .vmem S40x1536 .f32) (a28 : Memref sig .tc .vmem S160x1536 .f32)
  {R : Type} (κ : KProg F R)

theorem passAll_run (Q : R → sProp 𝕄) (cl : S40x1536.Idx → Elt F .f32) (gr : S160x1536.Idx → Elt F .f32) (X12 X13 : S1x1536.Idx → Elt F .f32) (X23 : S4608x1536.Idx → Elt F .bf16)
    (X24 : S1536x1536.Idx → Elt F .bf16) (X16 : S1x1536.Idx → Elt F .f32) (X25 : S1536x1536.Idx → Elt F .bf16) (X18 : S1x1536.Idx → Elt F .f32) :
    iprop(at' c a12 X12 ∗ at' c a13 X13 ∗ at' c a23 X23 ∗ at' c a24 X24 ∗ at' c a16 X16 ∗ at' c a25 X25 ∗ at' c a18 X18 ∗ at' c a27 cl ∗ at' c a28 gr
      ∗ (iprop(at' c a12 X12 ∗ at' c a13 X13 ∗ at' c a23 X23 ∗ at' c a24 X24 ∗ at' c a16 X16 ∗ at' c a25 X25 ∗ at' c a18 X18
          ∗ at' c a27 (passCl cl gr X12 X13 X23 X24 X16 X25 X18) ∗ at' c a28 (passGr cl gr X12 X13 X23 X24 X16 X25 X18)) -∗ wpK c κ Q))
      ⊢ wpK c (passAll a12 a13 a23 a24 a16 a25 a18 a27 a28 >>= fun _ => κ) Q := by
  unfold at' wpK
  simp only [owns_eq_rep]
  iintro ⟨H12, H13, H23, H24, H16, H25, H18, H27, H28, Hk⟩
  unfold passAll
  sl_exec
  iapply Hk
  isplitl [H12]; · iexact H12
  isplitl [H13]; · iexact H13
  isplitl [H23]; · iexact H23
  isplitl [H24]; · iexact H24
  isplitl [H16]; · iexact H16
  isplitl [H25]; · iexact H25
  isplitl [H18]; · iexact H18
  isplitl [H27]
  · ihave H := (pointsTo_rep_of_read (c : Thread nD τ) a27 _ fullShare _ (View.read_writes_full _ _ _ _ _)) $$ H27
    unfold passCl
    iterate 9 rw [View.readAt_rep_full]
    iexact H
  · ihave H := (pointsTo_rep_of_read (c : Thread nD τ) a28 _ fullShare _ (View.read_writes_full _ _ _ _ _)) $$ H28
    unfold passGr
    iterate 9 rw [View.readAt_rep_full]
    iexact H
end

end Cert.Fused
-- ==== Proof.Body.lean ====
module

public import proofs.«01_k».proof.Proof.Runs

@[expose] public section

noncomputable section

namespace Cert.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open VecWindow

/-! ## What a grid point makes of each buffer, whether its stretches run or not -/

/-- The point's number is `t`, as the body's later conditions ask it. -/
abbrev atPoint (i : grid0.Coords) (t : BitVec 32) : Prop :=
  Scalar.cmpi .ne (Scalar.extui (Scalar.cmpi .eq (BitVec.ofNat 32 (i 0).val) t)) (0#32 : BitVec 32) = 1#1

def nextLo (i : grid0.Coords) (X1 : S640.Idx → Elt F .i32) (X : S1x3x4x224x224.Idx → Elt F .f32) (Y : S1x4x3x128.Idx → Elt F .f32) : S1x4x3x128.Idx → Elt F .f32 :=
  if h : k0_cond1 i = 1#1 then poolOut (boxWords X1 (offLo i) (offLo_in i h)) X else Y
def nextHi (i : grid0.Coords) (X1 : S640.Idx → Elt F .i32) (X : S1x3x4x224x224.Idx → Elt F .f32) (Y : S1x4x3x128.Idx → Elt F .f32) : S1x4x3x128.Idx → Elt F .f32 :=
  if h : k0_cond1 i = 1#1 then poolOut (boxWords X1 (offHi i) (offHi_in i h)) X else Y
def nextQkv (i : grid0.Coords) (X14 : S288x1536.Idx → Elt F .f32) (X : S4608x1536.Idx → Elt F .bf16) : S4608x1536.Idx → Elt F .bf16 :=
  if k0_cond2 i = 1#1 then put X (k0_off5 i) S288x1536.size (k0_pay2 X14) else X
def nextProj (i : grid0.Coords) (X15 : S128x1536.Idx → Elt F .f32) (X : S1536x1536.Idx → Elt F .bf16) : S1536x1536.Idx → Elt F .bf16 :=
  if k0_cond3 i = 1#1 then put X (k0_off6 i) S128x1536.size (k0_pay3 X15) else X
def nextTfc (i : grid0.Coords) (X17 : S128x1536.Idx → Elt F .f32) (X : S1536x1536.Idx → Elt F .bf16) : S1536x1536.Idx → Elt F .bf16 :=
  if k0_cond3 i = 1#1 then put X (k0_off6 i) S128x1536.size (k0_pay4 X17) else X
def nextXt (i : grid0.Coords) (X5 : S8x20x1536.Idx → Elt F .f32) (X6 : S128x1536.Idx → Elt F .f32) (X : S160x1536.Idx → Elt F .f32) : S160x1536.Idx → Elt F .f32 :=
  if k0_cond3 i = 1#1 then put X (k0_off7 i) S160x128.size (k0_pay5 X5 X6) else X

/-- The class rows and the token rows. -/
abbrev Tok (F : FTy → Type) : Type := (S40x1536.Idx → Elt F .f32) × (S160x1536.Idx → Elt F .f32)

def nextPooled (i : grid0.Coords) (e : FVec F S8x20x1536 .f32) (X : S8x1536.Idx → Elt F .f32) : S8x1536.Idx → Elt F .f32 :=
  if k0_cond4 i = 1#1 then k0_pay6 e else X
def embTok (i : grid0.Coords) (e : FVec F S8x20x1536 .f32) (X11 : S5x1536.Idx → Elt F .f32) (T : Tok F) : Tok F :=
  if k0_cond4 i = 1#1 then (k0_pay8 X11, k0_pay7 e) else T

/-- The weights and vectors that a pass reads. -/
structure PassIn (F : FTy → Type) where
  x12 : S1x1536.Idx → Elt F .f32
  x13 : S1x1536.Idx → Elt F .f32
  x23 : S4608x1536.Idx → Elt F .bf16
  x24 : S1536x1536.Idx → Elt F .bf16
  x16 : S1x1536.Idx → Elt F .f32
  x25 : S1536x1536.Idx → Elt F .bf16
  x18 : S1x1536.Idx → Elt F .f32

/-- One pass on the tokens. -/
def passTok (P : PassIn F) (T : Tok F) : Tok F :=
  (passCl T.1 T.2 P.x12 P.x13 P.x23 P.x24 P.x16 P.x25 P.x18, passGr T.1 T.2 P.x12 P.x13 P.x23 P.x24 P.x16 P.x25 P.x18)
open scoped Classical in
def passIf (i : grid0.Coords) (t : BitVec 32) (P : PassIn F) (T : Tok F) : Tok F := if atPoint i t then passTok P T else T
def nextG (i : grid0.Coords) (T : Tok F) (X : S8x5x5x1536.Idx → Elt F .f32) : S8x5x5x1536.Idx → Elt F .f32 :=
  if k0_cond9 i = 1#1 then finish T.1 T.2 X else X

section
variable (c : Dev nD) (q : PosShare TreeShare) (i : grid0.Coords)
  (arg1 : Memref sig .tc .smem S640 .i32) (harg1 : arg1.IsWhole)
  (arg2 : Memref sig .tc .smem S8 .f32) (harg2 : arg2.IsWhole)
  (arg3 : Memref sig .tc .vmem S1x3x4x224x224 .f32) (harg3 : arg3.IsWhole)
  (arg4 : Memref sig .tc .vmem S1x3x4x224x224 .f32) (harg4 : arg4.IsWhole)
  (arg5 : Memref sig .tc .vmem S8x20x1536 .f32) (harg5 : arg5.IsWhole)
  (arg6 : Memref sig .tc .vmem S128x1536 .f32) (harg6 : arg6.IsWhole)
  (arg7 : Memref sig .tc .vmem S1x1536 .f32) (harg7 : arg7.IsWhole)
  (arg8 : Memref sig .tc .vmem S20x1536 .f32) (harg8 : arg8.IsWhole)
  (arg9 : Memref sig .tc .vmem S1x1536 .f32) (harg9 : arg9.IsWhole)
  (arg10 : Memref sig .tc .vmem S1x1536 .f32) (harg10 : arg10.IsWhole)
  (arg11 : Memref sig .tc .vmem S5x1536 .f32) (harg11 : arg11.IsWhole)
  (arg12 : Memref sig .tc .vmem S1x1536 .f32) (harg12 : arg12.IsWhole)
  (arg13 : Memref sig .tc .vmem S1x1536 .f32) (harg13 : arg13.IsWhole)
  (arg14 : Memref sig .tc .vmem S288x1536 .f32) (harg14 : arg14.IsWhole)
  (arg15 : Memref sig .tc .vmem S128x1536 .f32) (harg15 : arg15.IsWhole)
  (arg16 : Memref sig .tc .vmem S1x1536 .f32) (harg16 : arg16.IsWhole)
  (arg17 : Memref sig .tc .vmem S128x1536 .f32) (harg17 : arg17.IsWhole)
  (arg18 : Memref sig .tc .vmem S1x1536 .f32) (harg18 : arg18.IsWhole)
  (arg19 : Memref sig .tc .vmem S1x4x3x128 .f32) (harg19 : arg19.IsWhole)
  (arg20 : Memref sig .tc .vmem S1x4x3x128 .f32) (harg20 : arg20.IsWhole)
  (arg21 : Memref sig .tc .vmem S8x5x5x1536 .f32) (harg21 : arg21.IsWhole)
  (arg22 : Memref sig .tc .vmem S8x1536 .f32) (harg22 : arg22.IsWhole)
  (arg23 : Memref sig .tc .vmem S4608x1536 .bf16) (harg23 : arg23.IsWhole)
  (arg24 : Memref sig .tc .vmem S1536x1536 .bf16) (harg24 : arg24.IsWhole)
  (arg25 : Memref sig .tc .vmem S1536x1536 .bf16) (harg25 : arg25.IsWhole)
  (arg26 : Memref sig .tc .vmem S160x1536 .f32) (harg26 : arg26.IsWhole)
  (arg27 : Memref sig .tc .vmem S40x1536 .f32) (harg27 : arg27.IsWhole)
  (arg28 : Memref sig .tc .vmem S160x1536 .f32) (harg28 : arg28.IsWhole)
variable {R : Type} (κ : KProg F R)

theorem sec1_skip (h : ¬ k0_cond1 i = 1#1) : sec1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ = κ := by
  unfold sec1; rw [dif_neg h]

theorem sec1_step (Q : R → sProp 𝕄) (X1 : S640.Idx → Elt F .i32) (X3 : S1x3x4x224x224.Idx → Elt F .f32) (X4 : S1x3x4x224x224.Idx → Elt F .f32) (X19 : S1x4x3x128.Idx → Elt F .f32) (X20 : S1x4x3x128.Idx → Elt F .f32) :
    iprop(owns (c : Thread nD τ) arg1 q X1 ∗ at' c arg3 X3 ∗ at' c arg4 X4 ∗ at' c arg19 X19 ∗ at' c arg20 X20
      ∗ (iprop(owns (c : Thread nD τ) arg1 q X1 ∗ at' c arg3 X3 ∗ at' c arg4 X4 ∗ at' c arg19 (nextLo i X1 X3 X19) ∗ at' c arg20 (nextHi i X1 X4 X20)) -∗ wpK c κ Q))
      ⊢ wpK c (sec1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ) Q := by
  iintro ⟨H1, H3, H4, H19, H20, Hk⟩
  by_cases h : k0_cond1 i = 1#1
  · rw [sec1_eq (h := h)]
    iapply (poolAll_run c q arg1 arg3 arg4 arg19 arg20 κ Q i h X1 X3 X4 X19 X20)
    isplitl [H1]; · iexact H1
    isplitl [H3]; · iexact H3
    isplitl [H4]; · iexact H4
    isplitl [H19]; · iexact H19
    isplitl [H20]; · iexact H20
    iintro ⟨H1, H3, H4, H19, H20⟩
    iapply Hk
    unfold nextLo nextHi
    rw [dif_pos h, dif_pos h]
    isplitl [H1]; · iexact H1
    isplitl [H3]; · iexact H3
    isplitl [H4]; · iexact H4
    isplitl [H19]; · iexact H19
    iexact H20
  · rw [sec1_skip (h := h)]
    iapply Hk
    unfold nextLo nextHi
    rw [dif_neg h, dif_neg h]
    isplitl [H1]; · iexact H1
    isplitl [H3]; · iexact H3
    isplitl [H4]; · iexact H4
    isplitl [H19]; · iexact H19
    iexact H20

theorem sec2_step (Q : R → sProp 𝕄) (X14 : S288x1536.Idx → Elt F .f32) (X23 : S4608x1536.Idx → Elt F .bf16) :
    iprop(at' c arg14 X14 ∗ at' c arg23 X23
      ∗ (iprop(at' c arg14 X14 ∗ at' c arg23 (nextQkv i X14 X23)) -∗ wpK c κ Q))
      ⊢ wpK c (sec2 i arg14 arg23 harg23 κ) Q := by
  iintro ⟨H14, H23, Hk⟩
  by_cases h : k0_cond2 i = 1#1
  · iapply (sec2_run (h := h) (X14 := X14) (X23 := X23))
    isplitl [H14]; · iexact H14
    isplitl [H23]; · iexact H23
    iintro ⟨H14, H23⟩
    iapply Hk
    unfold nextQkv
    simp only [if_pos h]
    isplitl [H14]; · iexact H14
    iexact H23
  · rw [sec2_skip (h := h)]
    iapply Hk
    unfold nextQkv
    simp only [if_neg h]
    isplitl [H14]; · iexact H14
    iexact H23

theorem sec3_step (Q : R → sProp 𝕄) (X5 : S8x20x1536.Idx → Elt F .f32) (X6 : S128x1536.Idx → Elt F .f32) (X15 : S128x1536.Idx → Elt F .f32) (X17 : S128x1536.Idx → Elt F .f32) (X24 : S1536x1536.Idx → Elt F .bf16) (X25 : S1536x1536.Idx → Elt F .bf16) (X26 : S160x1536.Idx → Elt F .f32) :
    iprop(at' c arg5 X5 ∗ at' c arg6 X6 ∗ at' c arg15 X15 ∗ at' c arg17 X17 ∗ at' c arg24 X24 ∗ at' c arg25 X25 ∗ at' c arg26 X26
      ∗ (iprop(at' c arg5 X5 ∗ at' c arg6 X6 ∗ at' c arg15 X15 ∗ at' c arg17 X17 ∗ at' c arg24 (nextProj i X15 X24) ∗ at' c arg25 (nextTfc i X17 X25) ∗ at' c arg26 (nextXt i X5 X6 X26)) -∗ wpK c κ Q))
      ⊢ wpK c (sec3 i arg5 arg6 arg15 arg17 arg24 harg24 arg25 harg25 arg26 κ) Q := by
  iintro ⟨H5, H6, H15, H17, H24, H25, H26, Hk⟩
  by_cases h : k0_cond3 i = 1#1
  · iapply (sec3_run (h := h) (X5 := X5) (X6 := X6) (X15 := X15) (X17 := X17) (X24 := X24) (X25 := X25) (X26 := X26))
    isplitl [H5]; · iexact H5
    isplitl [H6]; · iexact H6
    isplitl [H15]; · iexact H15
    isplitl [H17]; · iexact H17
    isplitl [H24]; · iexact H24
    isplitl [H25]; · iexact H25
    isplitl [H26]; · iexact H26
    iintro ⟨H5, H6, H15, H17, H24, H25, H26⟩
    iapply Hk
    unfold nextProj nextTfc nextXt
    simp only [if_pos h]
    isplitl [H5]; · iexact H5
    isplitl [H6]; · iexact H6
    isplitl [H15]; · iexact H15
    isplitl [H17]; · iexact H17
    isplitl [H24]; · iexact H24
    isplitl [H25]; · iexact H25
    iexact H26
  · rw [sec3_skip (h := h)]
    iapply Hk
    unfold nextProj nextTfc nextXt
    simp only [if_neg h]
    isplitl [H5]; · iexact H5
    isplitl [H6]; · iexact H6
    isplitl [H15]; · iexact H15
    isplitl [H17]; · iexact H17
    isplitl [H24]; · iexact H24
    isplitl [H25]; · iexact H25
    iexact H26

theorem sec4_step (Q : R → sProp 𝕄) (X2 : S8.Idx → Elt F .f32) (X7 : S1x1536.Idx → Elt F .f32) (X8 : S20x1536.Idx → Elt F .f32) (X9 : S1x1536.Idx → Elt F .f32) (X10 : S1x1536.Idx → Elt F .f32) (X11 : S5x1536.Idx → Elt F .f32) (X22 : S8x1536.Idx → Elt F .f32) (X26 : S160x1536.Idx → Elt F .f32) (T : Tok F) :
    iprop(at' c arg2 X2 ∗ at' c arg7 X7 ∗ at' c arg8 X8 ∗ at' c arg9 X9 ∗ at' c arg10 X10 ∗ at' c arg11 X11 ∗ at' c arg22 X22 ∗ at' c arg26 X26 ∗ at' c arg27 T.1 ∗ at' c arg28 T.2
      ∗ (iprop(at' c arg2 X2 ∗ at' c arg7 X7 ∗ at' c arg8 X8 ∗ at' c arg9 X9 ∗ at' c arg10 X10 ∗ at' c arg11 X11 ∗ at' c arg22 (nextPooled i (embed X2 X7 X8 X9 X10 X26) X22) ∗ at' c arg26 X26 ∗ at' c arg27 (embTok i (embed X2 X7 X8 X9 X10 X26) X11 T).1 ∗ at' c arg28 (embTok i (embed X2 X7 X8 X9 X10 X26) X11 T).2) -∗ wpK c κ Q))
      ⊢ wpK c (sec4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ) Q := by
  iintro ⟨H2, H7, H8, H9, H10, H11, H22, H26, H27, H28, Hk⟩
  by_cases h : k0_cond4 i = 1#1
  · iapply (sec4_run (h := h) (X2 := X2) (X7 := X7) (X8 := X8) (X9 := X9) (X10 := X10) (X11 := X11) (X22 := X22) (X26 := X26) (X27 := T.1) (X28 := T.2))
    isplitl [H2]; · iexact H2
    isplitl [H7]; · iexact H7
    isplitl [H8]; · iexact H8
    isplitl [H9]; · iexact H9
    isplitl [H10]; · iexact H10
    isplitl [H11]; · iexact H11
    isplitl [H22]; · iexact H22
    isplitl [H26]; · iexact H26
    isplitl [H27]; · iexact H27
    isplitl [H28]; · iexact H28
    iintro ⟨H2, H7, H8, H9, H10, H11, H22, H26, H27, H28⟩
    iapply Hk
    unfold nextPooled embTok
    simp only [if_pos h]
    isplitl [H2]; · iexact H2
    isplitl [H7]; · iexact H7
    isplitl [H8]; · iexact H8
    isplitl [H9]; · iexact H9
    isplitl [H10]; · iexact H10
    isplitl [H11]; · iexact H11
    isplitl [H22]; · iexact H22
    isplitl [H26]; · iexact H26
    isplitl [H27]; · iexact H27
    iexact H28
  · rw [sec4_skip (h := h)]
    iapply Hk
    unfold nextPooled embTok
    simp only [if_neg h]
    isplitl [H2]; · iexact H2
    isplitl [H7]; · iexact H7
    isplitl [H8]; · iexact H8
    isplitl [H9]; · iexact H9
    isplitl [H10]; · iexact H10
    isplitl [H11]; · iexact H11
    isplitl [H22]; · iexact H22
    isplitl [H26]; · iexact H26
    isplitl [H27]; · iexact H27
    iexact H28

theorem sec5_step (Q : R → sProp 𝕄)  (P : PassIn F) (T : Tok F) :
    iprop(at' c arg12 P.x12 ∗ at' c arg13 P.x13 ∗ at' c arg23 P.x23 ∗ at' c arg24 P.x24 ∗ at' c arg16 P.x16 ∗ at' c arg25 P.x25 ∗ at' c arg18 P.x18 ∗ at' c arg27 T.1 ∗ at' c arg28 T.2
      ∗ (iprop(at' c arg12 P.x12 ∗ at' c arg13 P.x13 ∗ at' c arg23 P.x23 ∗ at' c arg24 P.x24 ∗ at' c arg16 P.x16 ∗ at' c arg25 P.x25 ∗ at' c arg18 P.x18 ∗ at' c arg27 (passIf i 17#32 P T).1 ∗ at' c arg28 (passIf i 17#32 P T).2) -∗ wpK c κ Q))
      ⊢ wpK c (sec5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ) Q := by
  iintro ⟨H12, H13, H23, H24, H16, H25, H18, H27, H28, Hk⟩
  by_cases h : atPoint i 17#32
  · rw [sec5_eq (h := h)]
    iapply (passAll_run c arg12 arg13 arg23 arg24 arg16 arg25 arg18 arg27 arg28 κ Q T.1 T.2 P.x12 P.x13 P.x23 P.x24 P.x16 P.x25 P.x18)
    isplitl [H12]; · iexact H12
    isplitl [H13]; · iexact H13
    isplitl [H23]; · iexact H23
    isplitl [H24]; · iexact H24
    isplitl [H16]; · iexact H16
    isplitl [H25]; · iexact H25
    isplitl [H18]; · iexact H18
    isplitl [H27]; · iexact H27
    isplitl [H28]; · iexact H28
    iintro ⟨H12, H13, H23, H24, H16, H25, H18, H27, H28⟩
    iapply Hk
    unfold passIf
    simp only [if_pos h]
    isplitl [H12]; · iexact H12
    isplitl [H13]; · iexact H13
    isplitl [H23]; · iexact H23
    isplitl [H24]; · iexact H24
    isplitl [H16]; · iexact H16
    isplitl [H25]; · iexact H25
    isplitl [H18]; · iexact H18
    isplitl [H27]; · iexact H27
    iexact H28
  · rw [sec5_skip (h := h)]
    iapply Hk
    unfold passIf
    simp only [if_neg h]
    isplitl [H12]; · iexact H12
    isplitl [H13]; · iexact H13
    isplitl [H23]; · iexact H23
    isplitl [H24]; · iexact H24
    isplitl [H16]; · iexact H16
    isplitl [H25]; · iexact H25
    isplitl [H18]; · iexact H18
    isplitl [H27]; · iexact H27
    iexact H28

theorem sec6_step (Q : R → sProp 𝕄)  (P : PassIn F) (T : Tok F) :
    iprop(at' c arg12 P.x12 ∗ at' c arg13 P.x13 ∗ at' c arg23 P.x23 ∗ at' c arg24 P.x24 ∗ at' c arg16 P.x16 ∗ at' c arg25 P.x25 ∗ at' c arg18 P.x18 ∗ at' c arg27 T.1 ∗ at' c arg28 T.2
      ∗ (iprop(at' c arg12 P.x12 ∗ at' c arg13 P.x13 ∗ at' c arg23 P.x23 ∗ at' c arg24 P.x24 ∗ at' c arg16 P.x16 ∗ at' c arg25 P.x25 ∗ at' c arg18 P.x18 ∗ at' c arg27 (passIf i 18#32 P T).1 ∗ at' c arg28 (passIf i 18#32 P T).2) -∗ wpK c κ Q))
      ⊢ wpK c (sec6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ) Q := by
  iintro ⟨H12, H13, H23, H24, H16, H25, H18, H27, H28, Hk⟩
  by_cases h : atPoint i 18#32
  · rw [sec6_eq (h := h)]
    iapply (passAll_run c arg12 arg13 arg23 arg24 arg16 arg25 arg18 arg27 arg28 κ Q T.1 T.2 P.x12 P.x13 P.x23 P.x24 P.x16 P.x25 P.x18)
    isplitl [H12]; · iexact H12
    isplitl [H13]; · iexact H13
    isplitl [H23]; · iexact H23
    isplitl [H24]; · iexact H24
    isplitl [H16]; · iexact H16
    isplitl [H25]; · iexact H25
    isplitl [H18]; · iexact H18
    isplitl [H27]; · iexact H27
    isplitl [H28]; · iexact H28
    iintro ⟨H12, H13, H23, H24, H16, H25, H18, H27, H28⟩
    iapply Hk
    unfold passIf
    simp only [if_pos h]
    isplitl [H12]; · iexact H12
    isplitl [H13]; · iexact H13
    isplitl [H23]; · iexact H23
    isplitl [H24]; · iexact H24
    isplitl [H16]; · iexact H16
    isplitl [H25]; · iexact H25
    isplitl [H18]; · iexact H18
    isplitl [H27]; · iexact H27
    iexact H28
  · rw [sec6_skip (h := h)]
    iapply Hk
    unfold passIf
    simp only [if_neg h]
    isplitl [H12]; · iexact H12
    isplitl [H13]; · iexact H13
    isplitl [H23]; · iexact H23
    isplitl [H24]; · iexact H24
    isplitl [H16]; · iexact H16
    isplitl [H25]; · iexact H25
    isplitl [H18]; · iexact H18
    isplitl [H27]; · iexact H27
    iexact H28

theorem sec7_step (Q : R → sProp 𝕄)  (P : PassIn F) (T : Tok F) :
    iprop(at' c arg12 P.x12 ∗ at' c arg13 P.x13 ∗ at' c arg23 P.x23 ∗ at' c arg24 P.x24 ∗ at' c arg16 P.x16 ∗ at' c arg25 P.x25 ∗ at' c arg18 P.x18 ∗ at' c arg27 T.1 ∗ at' c arg28 T.2
      ∗ (iprop(at' c arg12 P.x12 ∗ at' c arg13 P.x13 ∗ at' c arg23 P.x23 ∗ at' c arg24 P.x24 ∗ at' c arg16 P.x16 ∗ at' c arg25 P.x25 ∗ at' c arg18 P.x18 ∗ at' c arg27 (passIf i 19#32 P T).1 ∗ at' c arg28 (passIf i 19#32 P T).2) -∗ wpK c κ Q))
      ⊢ wpK c (sec7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ) Q := by
  iintro ⟨H12, H13, H23, H24, H16, H25, H18, H27, H28, Hk⟩
  by_cases h : atPoint i 19#32
  · rw [sec7_eq (h := h)]
    iapply (passAll_run c arg12 arg13 arg23 arg24 arg16 arg25 arg18 arg27 arg28 κ Q T.1 T.2 P.x12 P.x13 P.x23 P.x24 P.x16 P.x25 P.x18)
    isplitl [H12]; · iexact H12
    isplitl [H13]; · iexact H13
    isplitl [H23]; · iexact H23
    isplitl [H24]; · iexact H24
    isplitl [H16]; · iexact H16
    isplitl [H25]; · iexact H25
    isplitl [H18]; · iexact H18
    isplitl [H27]; · iexact H27
    isplitl [H28]; · iexact H28
    iintro ⟨H12, H13, H23, H24, H16, H25, H18, H27, H28⟩
    iapply Hk
    unfold passIf
    simp only [if_pos h]
    isplitl [H12]; · iexact H12
    isplitl [H13]; · iexact H13
    isplitl [H23]; · iexact H23
    isplitl [H24]; · iexact H24
    isplitl [H16]; · iexact H16
    isplitl [H25]; · iexact H25
    isplitl [H18]; · iexact H18
    isplitl [H27]; · iexact H27
    iexact H28
  · rw [sec7_skip (h := h)]
    iapply Hk
    unfold passIf
    simp only [if_neg h]
    isplitl [H12]; · iexact H12
    isplitl [H13]; · iexact H13
    isplitl [H23]; · iexact H23
    isplitl [H24]; · iexact H24
    isplitl [H16]; · iexact H16
    isplitl [H25]; · iexact H25
    isplitl [H18]; · iexact H18
    isplitl [H27]; · iexact H27
    iexact H28

theorem sec8_step (Q : R → sProp 𝕄)  (P : PassIn F) (T : Tok F) :
    iprop(at' c arg12 P.x12 ∗ at' c arg13 P.x13 ∗ at' c arg23 P.x23 ∗ at' c arg24 P.x24 ∗ at' c arg16 P.x16 ∗ at' c arg25 P.x25 ∗ at' c arg18 P.x18 ∗ at' c arg27 T.1 ∗ at' c arg28 T.2
      ∗ (iprop(at' c arg12 P.x12 ∗ at' c arg13 P.x13 ∗ at' c arg23 P.x23 ∗ at' c arg24 P.x24 ∗ at' c arg16 P.x16 ∗ at' c arg25 P.x25 ∗ at' c arg18 P.x18 ∗ at' c arg27 (passIf i 20#32 P T).1 ∗ at' c arg28 (passIf i 20#32 P T).2) -∗ wpK c κ Q))
      ⊢ wpK c (sec8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 κ) Q := by
  iintro ⟨H12, H13, H23, H24, H16, H25, H18, H27, H28, Hk⟩
  by_cases h : atPoint i 20#32
  · rw [sec8_eq (h := h)]
    iapply (passAll_run c arg12 arg13 arg23 arg24 arg16 arg25 arg18 arg27 arg28 κ Q T.1 T.2 P.x12 P.x13 P.x23 P.x24 P.x16 P.x25 P.x18)
    isplitl [H12]; · iexact H12
    isplitl [H13]; · iexact H13
    isplitl [H23]; · iexact H23
    isplitl [H24]; · iexact H24
    isplitl [H16]; · iexact H16
    isplitl [H25]; · iexact H25
    isplitl [H18]; · iexact H18
    isplitl [H27]; · iexact H27
    isplitl [H28]; · iexact H28
    iintro ⟨H12, H13, H23, H24, H16, H25, H18, H27, H28⟩
    iapply Hk
    unfold passIf
    simp only [if_pos h]
    isplitl [H12]; · iexact H12
    isplitl [H13]; · iexact H13
    isplitl [H23]; · iexact H23
    isplitl [H24]; · iexact H24
    isplitl [H16]; · iexact H16
    isplitl [H25]; · iexact H25
    isplitl [H18]; · iexact H18
    isplitl [H27]; · iexact H27
    iexact H28
  · rw [sec8_skip (h := h)]
    iapply Hk
    unfold passIf
    simp only [if_neg h]
    isplitl [H12]; · iexact H12
    isplitl [H13]; · iexact H13
    isplitl [H23]; · iexact H23
    isplitl [H24]; · iexact H24
    isplitl [H16]; · iexact H16
    isplitl [H25]; · iexact H25
    isplitl [H18]; · iexact H18
    isplitl [H27]; · iexact H27
    iexact H28

theorem sec9_step (Q : R → sProp 𝕄) (X21 : S8x5x5x1536.Idx → Elt F .f32) (T : Tok F) :
    iprop(at' c arg21 X21 ∗ at' c arg27 T.1 ∗ at' c arg28 T.2
      ∗ (iprop(at' c arg21 (nextG i T X21) ∗ at' c arg27 T.1 ∗ at' c arg28 T.2) -∗ wpK c κ Q))
      ⊢ wpK c (sec9 i arg21 arg27 arg28 κ) Q := by
  iintro ⟨H21, H27, H28, Hk⟩
  by_cases h : k0_cond9 i = 1#1
  · iapply (sec9_run (h := h) (X21 := X21) (X27 := T.1) (X28 := T.2))
    isplitl [H21]; · iexact H21
    isplitl [H27]; · iexact H27
    isplitl [H28]; · iexact H28
    iintro ⟨H21, H27, H28⟩
    iapply Hk
    unfold nextG
    simp only [if_pos h]
    isplitl [H21]; · iexact H21
    isplitl [H27]; · iexact H27
    iexact H28
  · rw [sec9_skip (h := h)]
    iapply Hk
    unfold nextG
    simp only [if_neg h]
    isplitl [H21]; · iexact H21
    isplitl [H27]; · iexact H27
    iexact H28

/-- The tokens after a grid point: embedded, passed on, or left. -/
def nextTok (i : grid0.Coords) (e : FVec F S8x20x1536 .f32) (X11 : S5x1536.Idx → Elt F .f32) (P : PassIn F) (T : Tok F) : Tok F :=
  (passIf i 20#32 P (passIf i 19#32 P (passIf i 18#32 P (passIf i 17#32 P (embTok i e X11 T)))))

/-- The whole body at a grid point. -/
theorem body_run (Q : PUnit → sProp 𝕄) (X1 : S640.Idx → Elt F .i32) (X2 : S8.Idx → Elt F .f32) (X3 : S1x3x4x224x224.Idx → Elt F .f32) (X4 : S1x3x4x224x224.Idx → Elt F .f32) (X5 : S8x20x1536.Idx → Elt F .f32) (X6 : S128x1536.Idx → Elt F .f32) (X7 : S1x1536.Idx → Elt F .f32) (X8 : S20x1536.Idx → Elt F .f32) (X9 : S1x1536.Idx → Elt F .f32) (X10 : S1x1536.Idx → Elt F .f32) (X11 : S5x1536.Idx → Elt F .f32) (X12 : S1x1536.Idx → Elt F .f32) (X13 : S1x1536.Idx → Elt F .f32) (X14 : S288x1536.Idx → Elt F .f32) (X15 : S128x1536.Idx → Elt F .f32) (X16 : S1x1536.Idx → Elt F .f32) (X17 : S128x1536.Idx → Elt F .f32) (X18 : S1x1536.Idx → Elt F .f32) (X19 : S1x4x3x128.Idx → Elt F .f32) (X20 : S1x4x3x128.Idx → Elt F .f32) (X21 : S8x5x5x1536.Idx → Elt F .f32) (X22 : S8x1536.Idx → Elt F .f32) (X23 : S4608x1536.Idx → Elt F .bf16) (X24 : S1536x1536.Idx → Elt F .bf16) (X25 : S1536x1536.Idx → Elt F .bf16) (X26 : S160x1536.Idx → Elt F .f32) (T : Tok F) :
    iprop(owns (c : Thread nD τ) arg1 q X1 ∗ at' c arg2 X2 ∗ at' c arg3 X3 ∗ at' c arg4 X4 ∗ at' c arg5 X5 ∗ at' c arg6 X6 ∗ at' c arg7 X7 ∗ at' c arg8 X8 ∗ at' c arg9 X9 ∗ at' c arg10 X10 ∗ at' c arg11 X11 ∗ at' c arg12 X12 ∗ at' c arg13 X13 ∗ at' c arg14 X14 ∗ at' c arg15 X15 ∗ at' c arg16 X16 ∗ at' c arg17 X17 ∗ at' c arg18 X18 ∗ at' c arg19 X19 ∗ at' c arg20 X20 ∗ at' c arg21 X21 ∗ at' c arg22 X22 ∗ at' c arg23 X23 ∗ at' c arg24 X24 ∗ at' c arg25 X25 ∗ at' c arg26 X26 ∗ at' c arg27 T.1 ∗ at' c arg28 T.2
      ∗ (iprop(owns (c : Thread nD τ) arg1 q X1 ∗ at' c arg2 X2 ∗ at' c arg3 X3 ∗ at' c arg4 X4 ∗ at' c arg5 X5 ∗ at' c arg6 X6 ∗ at' c arg7 X7 ∗ at' c arg8 X8 ∗ at' c arg9 X9 ∗ at' c arg10 X10 ∗ at' c arg11 X11 ∗ at' c arg12 X12 ∗ at' c arg13 X13 ∗ at' c arg14 X14 ∗ at' c arg15 X15 ∗ at' c arg16 X16 ∗ at' c arg17 X17 ∗ at' c arg18 X18 ∗ at' c arg19 (nextLo i X1 X3 X19) ∗ at' c arg20 (nextHi i X1 X4 X20) ∗ at' c arg21 (nextG i (nextTok i (embed X2 X7 X8 X9 X10 (nextXt i X5 X6 X26)) X11 (⟨X12, X13, nextQkv i X14 X23, nextProj i X15 X24, X16, nextTfc i X17 X25, X18⟩ : PassIn F) T) X21) ∗ at' c arg22 (nextPooled i (embed X2 X7 X8 X9 X10 (nextXt i X5 X6 X26)) X22) ∗ at' c arg23 (nextQkv i X14 X23) ∗ at' c arg24 (nextProj i X15 X24) ∗ at' c arg25 (nextTfc i X17 X25) ∗ at' c arg26 (nextXt i X5 X6 X26) ∗ at' c arg27 (nextTok i (embed X2 X7 X8 X9 X10 (nextXt i X5 X6 X26)) X11 (⟨X12, X13, nextQkv i X14 X23, nextProj i X15 X24, X16, nextTfc i X17 X25, X18⟩ : PassIn F) T).1 ∗ at' c arg28 (nextTok i (embed X2 X7 X8 X9 X10 (nextXt i X5 X6 X26)) X11 (⟨X12, X13, nextQkv i X14 X23, nextProj i X15 X24, X16, nextTfc i X17 X25, X18⟩ : PassIn F) T).2) -∗ Q ⟨⟩))
      ⊢ wpK c (cc0_fused_vit i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) Q := by
  iintro ⟨H1, H2, H3, H4, H5, H6, H7, H8, H9, H10, H11, H12, H13, H14, H15, H16, H17, H18, H19, H20, H21, H22, H23, H24, H25, H26, H27, H28, Hk⟩
  rw [cc0_fused_vit_eq_skeleton]
  rw [sec1.eq]
  iapply (sec1_step (X1 := X1) (X3 := X3) (X4 := X4) (X19 := X19) (X20 := X20))
  isplitl [H1]; · iexact H1
  isplitl [H3]; · iexact H3
  isplitl [H4]; · iexact H4
  isplitl [H19]; · iexact H19
  isplitl [H20]; · iexact H20
  iintro ⟨H1, H3, H4, H19, H20⟩
  rw [sec2.eq]
  iapply (sec2_step (X14 := X14) (X23 := X23))
  isplitl [H14]; · iexact H14
  isplitl [H23]; · iexact H23
  iintro ⟨H14, H23⟩
  rw [sec3.eq]
  iapply (sec3_step (X5 := X5) (X6 := X6) (X15 := X15) (X17 := X17) (X24 := X24) (X25 := X25) (X26 := X26))
  isplitl [H5]; · iexact H5
  isplitl [H6]; · iexact H6
  isplitl [H15]; · iexact H15
  isplitl [H17]; · iexact H17
  isplitl [H24]; · iexact H24
  isplitl [H25]; · iexact H25
  isplitl [H26]; · iexact H26
  iintro ⟨H5, H6, H15, H17, H24, H25, H26⟩
  rw [sec4.eq]
  iapply (sec4_step (X2 := X2) (X7 := X7) (X8 := X8) (X9 := X9) (X10 := X10) (X11 := X11) (X22 := X22) (X26 := nextXt i X5 X6 X26) (T := T))
  isplitl [H2]; · iexact H2
  isplitl [H7]; · iexact H7
  isplitl [H8]; · iexact H8
  isplitl [H9]; · iexact H9
  isplitl [H10]; · iexact H10
  isplitl [H11]; · iexact H11
  isplitl [H22]; · iexact H22
  isplitl [H26]; · iexact H26
  isplitl [H27]; · iexact H27
  isplitl [H28]; · iexact H28
  iintro ⟨H2, H7, H8, H9, H10, H11, H22, H26, H27, H28⟩
  rw [sec5.eq]
  iapply (sec5_step (P := (⟨X12, X13, nextQkv i X14 X23, nextProj i X15 X24, X16, nextTfc i X17 X25, X18⟩ : PassIn F)) (T := (embTok i (embed X2 X7 X8 X9 X10 (nextXt i X5 X6 X26)) X11 T)))
  isplitl [H12]; · iexact H12
  isplitl [H13]; · iexact H13
  isplitl [H23]; · iexact H23
  isplitl [H24]; · iexact H24
  isplitl [H16]; · iexact H16
  isplitl [H25]; · iexact H25
  isplitl [H18]; · iexact H18
  isplitl [H27]; · iexact H27
  isplitl [H28]; · iexact H28
  iintro ⟨H12, H13, H23, H24, H16, H25, H18, H27, H28⟩
  rw [sec6.eq]
  iapply (sec6_step (P := (⟨X12, X13, nextQkv i X14 X23, nextProj i X15 X24, X16, nextTfc i X17 X25, X18⟩ : PassIn F)) (T := (passIf i 17#32 (⟨X12, X13, nextQkv i X14 X23, nextProj i X15 X24, X16, nextTfc i X17 X25, X18⟩ : PassIn F) (embTok i (embed X2 X7 X8 X9 X10 (nextXt i X5 X6 X26)) X11 T))))
  isplitl [H12]; · iexact H12
  isplitl [H13]; · iexact H13
  isplitl [H23]; · iexact H23
  isplitl [H24]; · iexact H24
  isplitl [H16]; · iexact H16
  isplitl [H25]; · iexact H25
  isplitl [H18]; · iexact H18
  isplitl [H27]; · iexact H27
  isplitl [H28]; · iexact H28
  iintro ⟨H12, H13, H23, H24, H16, H25, H18, H27, H28⟩
  rw [sec7.eq]
  iapply (sec7_step (P := (⟨X12, X13, nextQkv i X14 X23, nextProj i X15 X24, X16, nextTfc i X17 X25, X18⟩ : PassIn F)) (T := (passIf i 18#32 (⟨X12, X13, nextQkv i X14 X23, nextProj i X15 X24, X16, nextTfc i X17 X25, X18⟩ : PassIn F) (passIf i 17#32 (⟨X12, X13, nextQkv i X14 X23, nextProj i X15 X24, X16, nextTfc i X17 X25, X18⟩ : PassIn F) (embTok i (embed X2 X7 X8 X9 X10 (nextXt i X5 X6 X26)) X11 T)))))
  isplitl [H12]; · iexact H12
  isplitl [H13]; · iexact H13
  isplitl [H23]; · iexact H23
  isplitl [H24]; · iexact H24
  isplitl [H16]; · iexact H16
  isplitl [H25]; · iexact H25
  isplitl [H18]; · iexact H18
  isplitl [H27]; · iexact H27
  isplitl [H28]; · iexact H28
  iintro ⟨H12, H13, H23, H24, H16, H25, H18, H27, H28⟩
  rw [sec8.eq]
  iapply (sec8_step (P := (⟨X12, X13, nextQkv i X14 X23, nextProj i X15 X24, X16, nextTfc i X17 X25, X18⟩ : PassIn F)) (T := (passIf i 19#32 (⟨X12, X13, nextQkv i X14 X23, nextProj i X15 X24, X16, nextTfc i X17 X25, X18⟩ : PassIn F) (passIf i 18#32 (⟨X12, X13, nextQkv i X14 X23, nextProj i X15 X24, X16, nextTfc i X17 X25, X18⟩ : PassIn F) (passIf i 17#32 (⟨X12, X13, nextQkv i X14 X23, nextProj i X15 X24, X16, nextTfc i X17 X25, X18⟩ : PassIn F) (embTok i (embed X2 X7 X8 X9 X10 (nextXt i X5 X6 X26)) X11 T))))))
  isplitl [H12]; · iexact H12
  isplitl [H13]; · iexact H13
  isplitl [H23]; · iexact H23
  isplitl [H24]; · iexact H24
  isplitl [H16]; · iexact H16
  isplitl [H25]; · iexact H25
  isplitl [H18]; · iexact H18
  isplitl [H27]; · iexact H27
  isplitl [H28]; · iexact H28
  iintro ⟨H12, H13, H23, H24, H16, H25, H18, H27, H28⟩
  rw [sec9.eq]
  iapply (sec9_step (X21 := X21) (T := (nextTok i (embed X2 X7 X8 X9 X10 (nextXt i X5 X6 X26)) X11 (⟨X12, X13, nextQkv i X14 X23, nextProj i X15 X24, X16, nextTfc i X17 X25, X18⟩ : PassIn F) T)))
  isplitl [H21]; · iexact H21
  isplitl [H27]; · iexact H27
  isplitl [H28]; · iexact H28
  iintro ⟨H21, H27, H28⟩
  unfold sec9.tail
  unfold wpK
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28
end

end Cert.Fused
-- ==== Proof.Inv.lean ====
module

public import proofs.«01_k».proof.Proof.Body

@[expose] public section

noncomputable section

namespace Cert.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open VecWindow

/-! ## What the buffers hold from point to point -/

/-- The table and, for each input window, its block at each grid point. -/
structure Ins (F : FTy → Type) where
  x1 : S640.Idx → Elt F .i32
  b2 : Fin grid0.N → S8.Idx → Elt F .f32
  b3 : Fin grid0.N → S1x3x4x224x224.Idx → Elt F .f32
  b4 : Fin grid0.N → S1x3x4x224x224.Idx → Elt F .f32
  b5 : Fin grid0.N → S8x20x1536.Idx → Elt F .f32
  b6 : Fin grid0.N → S128x1536.Idx → Elt F .f32
  b7 : Fin grid0.N → S1x1536.Idx → Elt F .f32
  b8 : Fin grid0.N → S20x1536.Idx → Elt F .f32
  b9 : Fin grid0.N → S1x1536.Idx → Elt F .f32
  b10 : Fin grid0.N → S1x1536.Idx → Elt F .f32
  b11 : Fin grid0.N → S5x1536.Idx → Elt F .f32
  b12 : Fin grid0.N → S1x1536.Idx → Elt F .f32
  b13 : Fin grid0.N → S1x1536.Idx → Elt F .f32
  b14 : Fin grid0.N → S288x1536.Idx → Elt F .f32
  b15 : Fin grid0.N → S128x1536.Idx → Elt F .f32
  b16 : Fin grid0.N → S1x1536.Idx → Elt F .f32
  b17 : Fin grid0.N → S128x1536.Idx → Elt F .f32
  b18 : Fin grid0.N → S1x1536.Idx → Elt F .f32

/-- The grid point of number `n`. -/
def pt (n : ℕ) : Fin grid0.N := ⟨min n 20, lt_of_le_of_lt (Nat.min_le_right n 20) (by decide)⟩

theorem pt_val (t : Fin grid0.N) : pt t.val = t := by
  apply Fin.ext
  have : t.val < 21 := lt_of_lt_of_eq t.isLt N_0
  simp only [pt]; omega

/-- The point's only coordinate is its number. -/
theorem coord_val : ∀ t : Fin grid0.N, (grid0.coords t 0).val = t.val := by decide +kernel

theorem cond1_iff : ∀ t : Fin grid0.N, k0_cond1 (grid0.coords t) = 1#1 ↔ t.val < 20 := by decide +kernel
theorem cond2_iff : ∀ t : Fin grid0.N, k0_cond2 (grid0.coords t) = 1#1 ↔ t.val < 16 := by decide +kernel
theorem cond3_iff : ∀ t : Fin grid0.N, k0_cond3 (grid0.coords t) = 1#1 ↔ t.val < 12 := by decide +kernel
theorem cond4_iff : ∀ t : Fin grid0.N, k0_cond4 (grid0.coords t) = 1#1 ↔ t.val = 12 := by decide +kernel
theorem cond9_iff : ∀ t : Fin grid0.N, k0_cond9 (grid0.coords t) = 1#1 ↔ t.val = 20 := by decide +kernel
theorem at17_iff : ∀ t : Fin grid0.N, atPoint (grid0.coords t) 17#32 ↔ t.val = 17 := by decide +kernel
theorem at18_iff : ∀ t : Fin grid0.N, atPoint (grid0.coords t) 18#32 ↔ t.val = 18 := by decide +kernel
theorem at19_iff : ∀ t : Fin grid0.N, atPoint (grid0.coords t) 19#32 ↔ t.val = 19 := by decide +kernel
theorem at20_iff : ∀ t : Fin grid0.N, atPoint (grid0.coords t) 20#32 ↔ t.val = 20 := by decide +kernel

/-- The whole weight matrices, in the order in which the points bring their rows. -/
def fullQkv (b : Fin grid0.N → S288x1536.Idx → Elt F .f32) : S4608x1536.Idx → Elt F .bf16 := fun j =>
  k0_pay2 (b (pt ((show Fin 4608 from j 0).val / 288))) (ix2 (⟨(show Fin 4608 from j 0).val % 288, Nat.mod_lt _ (by decide)⟩ : Fin 288) (show Fin 1536 from j 1))
def fullProj (b : Fin grid0.N → S128x1536.Idx → Elt F .f32) : S1536x1536.Idx → Elt F .bf16 := fun j =>
  k0_pay3 (b (pt ((show Fin 1536 from j 0).val / 128))) (ix2 (⟨(show Fin 1536 from j 0).val % 128, Nat.mod_lt _ (by decide)⟩ : Fin 128) (show Fin 1536 from j 1))
def fullTfc (b : Fin grid0.N → S128x1536.Idx → Elt F .f32) : S1536x1536.Idx → Elt F .bf16 := fun j =>
  k0_pay4 (b (pt ((show Fin 1536 from j 0).val / 128))) (ix2 (⟨(show Fin 1536 from j 0).val % 128, Nat.mod_lt _ (by decide)⟩ : Fin 128) (show Fin 1536 from j 1))
/-- The projected features, whose columns the points bring. -/
def fullXt (b5 : Fin grid0.N → S8x20x1536.Idx → Elt F .f32) (b6 : Fin grid0.N → S128x1536.Idx → Elt F .f32) : S160x1536.Idx → Elt F .f32 := fun j =>
  k0_pay5 (b5 (pt ((show Fin 1536 from j 1).val / 128))) (b6 (pt ((show Fin 1536 from j 1).val / 128)))
    (ix2 (show Fin 160 from j 0) (⟨(show Fin 1536 from j 1).val % 128, Nat.mod_lt _ (by decide)⟩ : Fin 128))

/-- A block of `h` rows put at row `h * n` of a matrix whose first `h * n` rows are done makes `h * (n + 1)` done. -/
theorem put_rows {α : Type} {N h : ℕ} (X G : (⟨2, ![N, 1536]⟩ : Shape).Idx → α) (w : (⟨2, ![h, 1536]⟩ : Shape).Idx → α) (n : ℕ) (hh : 0 < h)
    (hX : ∀ j, (show Fin N from j 0).val < h * n → X j = G j)
    (hw : ∀ (j : (⟨2, ![N, 1536]⟩ : Shape).Idx) (y : Fin h), (show Fin N from j 0).val = h * n + y.val → w (ix2 y (show Fin 1536 from j 1)) = G j)
    (j : (⟨2, ![N, 1536]⟩ : Shape).Idx) (hj : (show Fin N from j 0).val < h * (n + 1)) :
    put X ![h * n, 0] (⟨2, ![h, 1536]⟩ : Shape).size w j = G j := by
  unfold put
  have e : h * (n + 1) = h * n + h := Nat.mul_succ h n
  split_ifs with hin
  · have h0 : h * n ≤ (show Fin N from j 0).val ∧ (show Fin N from j 0).val < h * n + h := hin 0
    rw [← hw j ⟨(show Fin N from j 0).val - h * n, by omega⟩ (Nat.add_sub_of_le h0.1).symm]
    congr 1
    funext a
    apply Fin.ext
    fin_cases a
    · simp [Rect.unitLocal, ix2]
    · simp [Rect.unitLocal, ix2]
  · apply hX
    by_contra hlt
    apply hin
    have q1 : h * n ≤ (show Fin N from j 0).val := Nat.le_of_not_lt hlt
    have q2 : (show Fin N from j 0).val < h * n + h := by rw [← e]; exact hj
    intro a
    fin_cases a
    · exact ⟨q1, q2⟩
    · exact ⟨Nat.zero_le _, by simpa using (show Fin 1536 from j 1).isLt⟩

/-- The same for columns. -/
theorem put_cols {α : Type} {N h : ℕ} (X G : (⟨2, ![160, N]⟩ : Shape).Idx → α) (w : (⟨2, ![160, h]⟩ : Shape).Idx → α) (n : ℕ) (hh : 0 < h)
    (hX : ∀ j, (show Fin N from j 1).val < h * n → X j = G j)
    (hw : ∀ (j : (⟨2, ![160, N]⟩ : Shape).Idx) (y : Fin h), (show Fin N from j 1).val = h * n + y.val → w (ix2 (show Fin 160 from j 0) y) = G j)
    (j : (⟨2, ![160, N]⟩ : Shape).Idx) (hj : (show Fin N from j 1).val < h * (n + 1)) :
    put X ![0, h * n] (⟨2, ![160, h]⟩ : Shape).size w j = G j := by
  unfold put
  have e : h * (n + 1) = h * n + h := Nat.mul_succ h n
  split_ifs with hin
  · have h0 : h * n ≤ (show Fin N from j 1).val ∧ (show Fin N from j 1).val < h * n + h := hin 1
    rw [← hw j ⟨(show Fin N from j 1).val - h * n, by omega⟩ (Nat.add_sub_of_le h0.1).symm]
    congr 1
    funext a
    apply Fin.ext
    fin_cases a
    · simp [Rect.unitLocal, ix2]
    · simp [Rect.unitLocal, ix2]
  · apply hX
    by_contra hlt
    apply hin
    have q1 : h * n ≤ (show Fin N from j 1).val := Nat.le_of_not_lt hlt
    have q2 : (show Fin N from j 1).val < h * n + h := by rw [← e]; exact hj
    intro a
    fin_cases a
    · exact ⟨Nat.zero_le _, by simpa using (show Fin 160 from j 0).isLt⟩
    · exact ⟨q1, q2⟩

theorem nextQkv_inv (b : Fin grid0.N → S288x1536.Idx → Elt F .f32) (t : Fin grid0.N) (X : S4608x1536.Idx → Elt F .bf16)
    (hX : ∀ j : S4608x1536.Idx, (show Fin 4608 from j 0).val < 288 * t.val → X j = fullQkv b j)
    (j : S4608x1536.Idx) (hj : (show Fin 4608 from j 0).val < 288 * (t.val + 1)) : nextQkv (grid0.coords t) (b t) X j = fullQkv b j := by
  unfold nextQkv
  by_cases h : k0_cond2 (grid0.coords t) = 1#1
  · have ht := (cond2_iff t).mp h
    rw [if_pos h, k0_off5_eq, coord_val]
    refine put_rows (N := 4608) (h := 288) X (fullQkv b) _ t.val (by decide) hX ?_ j hj
    intro j y hy
    unfold fullQkv
    have e1 : (show Fin 4608 from j 0).val / 288 = t.val := by omega
    have e2 : (show Fin 4608 from j 0).val % 288 = y.val := by omega
    rw [e1, pt_val]
    congr 2
    exact Fin.ext e2.symm
  · have ht : ¬ t.val < 16 := fun x => h ((cond2_iff t).mpr x)
    rw [if_neg h]
    exact hX j (by have := (show Fin 4608 from j 0).isLt; omega)

theorem nextProj_inv (b : Fin grid0.N → S128x1536.Idx → Elt F .f32) (t : Fin grid0.N) (X : S1536x1536.Idx → Elt F .bf16)
    (hX : ∀ j : S1536x1536.Idx, (show Fin 1536 from j 0).val < 128 * t.val → X j = fullProj b j)
    (j : S1536x1536.Idx) (hj : (show Fin 1536 from j 0).val < 128 * (t.val + 1)) : nextProj (grid0.coords t) (b t) X j = fullProj b j := by
  unfold nextProj
  by_cases h : k0_cond3 (grid0.coords t) = 1#1
  · have ht := (cond3_iff t).mp h
    rw [if_pos h, k0_off6_eq, coord_val]
    refine put_rows (N := 1536) (h := 128) X (fullProj b) _ t.val (by decide) hX ?_ j hj
    intro j y hy
    unfold fullProj
    have e1 : (show Fin 1536 from j 0).val / 128 = t.val := by omega
    have e2 : (show Fin 1536 from j 0).val % 128 = y.val := by omega
    rw [e1, pt_val]
    congr 2
    exact Fin.ext e2.symm
  · have ht : ¬ t.val < 12 := fun x => h ((cond3_iff t).mpr x)
    rw [if_neg h]
    exact hX j (by have := (show Fin 1536 from j 0).isLt; omega)

theorem nextTfc_inv (b : Fin grid0.N → S128x1536.Idx → Elt F .f32) (t : Fin grid0.N) (X : S1536x1536.Idx → Elt F .bf16)
    (hX : ∀ j : S1536x1536.Idx, (show Fin 1536 from j 0).val < 128 * t.val → X j = fullTfc b j)
    (j : S1536x1536.Idx) (hj : (show Fin 1536 from j 0).val < 128 * (t.val + 1)) : nextTfc (grid0.coords t) (b t) X j = fullTfc b j := by
  unfold nextTfc
  by_cases h : k0_cond3 (grid0.coords t) = 1#1
  · have ht := (cond3_iff t).mp h
    rw [if_pos h, k0_off6_eq, coord_val]
    refine put_rows (N := 1536) (h := 128) X (fullTfc b) _ t.val (by decide) hX ?_ j hj
    intro j y hy
    unfold fullTfc
    have e1 : (show Fin 1536 from j 0).val / 128 = t.val := by omega
    have e2 : (show Fin 1536 from j 0).val % 128 = y.val := by omega
    rw [e1, pt_val]
    congr 2
    exact Fin.ext e2.symm
  · have ht : ¬ t.val < 12 := fun x => h ((cond3_iff t).mpr x)
    rw [if_neg h]
    exact hX j (by have := (show Fin 1536 from j 0).isLt; omega)

theorem nextXt_inv (b5 : Fin grid0.N → S8x20x1536.Idx → Elt F .f32) (b6 : Fin grid0.N → S128x1536.Idx → Elt F .f32) (t : Fin grid0.N) (X : S160x1536.Idx → Elt F .f32)
    (hX : ∀ j : S160x1536.Idx, (show Fin 1536 from j 1).val < 128 * t.val → X j = fullXt b5 b6 j)
    (j : S160x1536.Idx) (hj : (show Fin 1536 from j 1).val < 128 * (t.val + 1)) : nextXt (grid0.coords t) (b5 t) (b6 t) X j = fullXt b5 b6 j := by
  unfold nextXt
  by_cases h : k0_cond3 (grid0.coords t) = 1#1
  · have ht := (cond3_iff t).mp h
    rw [if_pos h, k0_off7_eq, coord_val]
    refine put_cols (N := 1536) (h := 128) X (fullXt b5 b6) _ t.val (by decide) hX ?_ j hj
    intro j y hy
    unfold fullXt
    have e1 : (show Fin 1536 from j 1).val / 128 = t.val := by omega
    have e2 : (show Fin 1536 from j 1).val % 128 = y.val := by omega
    rw [e1, pt_val]
    congr 2
    exact Fin.ext e2.symm
  · have ht : ¬ t.val < 12 := fun x => h ((cond3_iff t).mpr x)
    rw [if_neg h]
    exact hX j (by have := (show Fin 1536 from j 1).isLt; omega)

/-! ## The tokens -/

/-- The embedding, at its point. -/
def embAt (D : Ins F) : FVec F S8x20x1536 .f32 :=
  embed (D.b2 (pt 12)) (D.b7 (pt 12)) (D.b8 (pt 12)) (D.b9 (pt 12)) (D.b10 (pt 12)) (fullXt D.b5 D.b6)

/-- What the pass at point `n` reads. -/
def passAt (D : Ins F) (n : ℕ) : PassIn F :=
  ⟨D.b12 (pt n), D.b13 (pt n), fullQkv D.b14, fullProj D.b15, D.b16 (pt n), fullTfc D.b17, D.b18 (pt n)⟩

/-- The tokens after `k` passes. -/
def tokK (D : Ins F) : ℕ → Tok F
  | 0 => (k0_pay8 (D.b11 (pt 12)), k0_pay7 (embAt D))
  | k + 1 => passTok (passAt D (17 + k)) (tokK D k)

/-- What is known of the scratch buffers before point `n`. -/
structure Inv (D : Ins F) (n : ℕ) (X23 : S4608x1536.Idx → Elt F .bf16) (X24 X25 : S1536x1536.Idx → Elt F .bf16) (X26 : S160x1536.Idx → Elt F .f32) (T : Tok F) : Prop where
  qkv : ∀ j : S4608x1536.Idx, (show Fin 4608 from j 0).val < 288 * n → X23 j = fullQkv D.b14 j
  proj : ∀ j : S1536x1536.Idx, (show Fin 1536 from j 0).val < 128 * n → X24 j = fullProj D.b15 j
  tfc : ∀ j : S1536x1536.Idx, (show Fin 1536 from j 0).val < 128 * n → X25 j = fullTfc D.b17 j
  xt : ∀ j : S160x1536.Idx, (show Fin 1536 from j 1).val < 128 * n → X26 j = fullXt D.b5 D.b6 j
  tok : 13 ≤ n → T = tokK D (n - 17)

theorem inv_zero (D : Ins F) (X23 : S4608x1536.Idx → Elt F .bf16) (X24 X25 : S1536x1536.Idx → Elt F .bf16) (X26 : S160x1536.Idx → Elt F .f32) (T : Tok F) : Inv D 0 X23 X24 X25 X26 T :=
  ⟨fun _ h => absurd h (Nat.not_lt_zero _), fun _ h => absurd h (Nat.not_lt_zero _), fun _ h => absurd h (Nat.not_lt_zero _), fun _ h => absurd h (Nat.not_lt_zero _),
    fun h => absurd h (by decide)⟩

/-- The embedding that point `t` would compute. -/
abbrev embOf (D : Ins F) (t : Fin grid0.N) (X26 : S160x1536.Idx → Elt F .f32) : FVec F S8x20x1536 .f32 :=
  embed (D.b2 t) (D.b7 t) (D.b8 t) (D.b9 t) (D.b10 t) (nextXt (grid0.coords t) (D.b5 t) (D.b6 t) X26)
abbrev passOf (D : Ins F) (t : Fin grid0.N) (X23 : S4608x1536.Idx → Elt F .bf16) (X24 X25 : S1536x1536.Idx → Elt F .bf16) : PassIn F :=
  ⟨D.b12 t, D.b13 t, nextQkv (grid0.coords t) (D.b14 t) X23, nextProj (grid0.coords t) (D.b15 t) X24, D.b16 t, nextTfc (grid0.coords t) (D.b17 t) X25, D.b18 t⟩

section
variable (D : Ins F) (t : Fin grid0.N) (X23 : S4608x1536.Idx → Elt F .bf16) (X24 X25 : S1536x1536.Idx → Elt F .bf16) (X26 : S160x1536.Idx → Elt F .f32) (T : Tok F)
  (H : Inv D t.val X23 X24 X25 X26 T)
include H

theorem emb_eq (ht : t.val = 12) : embOf D t X26 = embAt D := by
  have e : t = pt 12 := by rw [← ht, pt_val]
  unfold embOf embAt
  rw [show nextXt (grid0.coords t) (D.b5 t) (D.b6 t) X26 = fullXt D.b5 D.b6 from
    funext fun j => nextXt_inv D.b5 D.b6 t X26 H.xt j (by have := (show Fin 1536 from j 1).isLt; omega), ← e]

theorem pass_eq (ht : 17 ≤ t.val) : passOf D t X23 X24 X25 = passAt D t.val := by
  unfold passOf passAt
  rw [pt_val,
    show nextQkv (grid0.coords t) (D.b14 t) X23 = fullQkv D.b14 from funext fun j => nextQkv_inv D.b14 t X23 H.qkv j (by have := (show Fin 4608 from j 0).isLt; omega),
    show nextProj (grid0.coords t) (D.b15 t) X24 = fullProj D.b15 from funext fun j => nextProj_inv D.b15 t X24 H.proj j (by have := (show Fin 1536 from j 0).isLt; omega),
    show nextTfc (grid0.coords t) (D.b17 t) X25 = fullTfc D.b17 from funext fun j => nextTfc_inv D.b17 t X25 H.tfc j (by have := (show Fin 1536 from j 0).isLt; omega)]

theorem tok_eq (ht : 12 ≤ t.val) : nextTok (grid0.coords t) (embOf D t X26) (D.b11 t) (passOf D t X23 X24 X25) T = tokK D (t.val + 1 - 17) := by
  have hN : t.val < 21 := lt_of_lt_of_eq t.isLt N_0
  unfold nextTok passIf embTok
  simp only [cond4_iff, at17_iff, at18_iff, at19_iff, at20_iff]
  by_cases h12 : t.val = 12
  · rw [emb_eq D t X23 X24 X25 X26 T H h12]
    simp only [h12]
    have e : t = pt 12 := by rw [← h12, pt_val]
    rw [e]
    rfl
  · have hT := H.tok (by omega)
    by_cases h17 : 17 ≤ t.val
    · rw [pass_eq D t X23 X24 X25 X26 T H h17]
      have hs : tokK D (t.val + 1 - 17) = passTok (passAt D t.val) T := by
        rw [show t.val + 1 - 17 = (t.val - 17) + 1 by omega, hT]
        show passTok (passAt D (17 + (t.val - 17))) _ = _
        rw [show 17 + (t.val - 17) = t.val by omega]
      rw [hs]
      rcases (by omega : t.val = 17 ∨ t.val = 18 ∨ t.val = 19 ∨ t.val = 20) with e | e | e | e <;> simp [e]
    · rw [show t.val + 1 - 17 = t.val - 17 by omega, ← hT]
      simp [h12, show ¬ t.val = 17 by omega, show ¬ t.val = 18 by omega, show ¬ t.val = 19 by omega, show ¬ t.val = 20 by omega]

/-- The body carries what is known from a point to the next. -/
theorem inv_succ :
    Inv D (t.val + 1) (nextQkv (grid0.coords t) (D.b14 t) X23) (nextProj (grid0.coords t) (D.b15 t) X24) (nextTfc (grid0.coords t) (D.b17 t) X25)
      (nextXt (grid0.coords t) (D.b5 t) (D.b6 t) X26) (nextTok (grid0.coords t) (embOf D t X26) (D.b11 t) (passOf D t X23 X24 X25) T) :=
  ⟨nextQkv_inv D.b14 t X23 H.qkv, nextProj_inv D.b15 t X24 H.proj, nextTfc_inv D.b17 t X25 H.tfc, nextXt_inv D.b5 D.b6 t X26 H.xt,
    fun h => tok_eq D t X23 X24 X25 X26 T H (by omega)⟩
end

/-! ## The four results' blocks -/

/-- The pooled blocks of a point; the last point leaves those of the one before. -/
def loAt (D : Ins F) (t : Fin grid0.N) : S1x4x3x128.Idx → Elt F .f32 :=
  nextLo (grid0.coords t) D.x1 (D.b3 t) (nextLo (grid0.coords (pt 19)) D.x1 (D.b3 (pt 19)) fun _ => D.b2 (pt 0) (ix1 (0 : Fin 8)))
def hiAt (D : Ins F) (t : Fin grid0.N) : S1x4x3x128.Idx → Elt F .f32 :=
  nextHi (grid0.coords t) D.x1 (D.b4 t) (nextHi (grid0.coords (pt 19)) D.x1 (D.b4 (pt 19)) fun _ => D.b2 (pt 0) (ix1 (0 : Fin 8)))
def pooledAt (D : Ins F) : S8x1536.Idx → Elt F .f32 := k0_pay6 (embAt D)
/-- The tokens after the four passes, class row first. -/
def gAt (D : Ins F) : S8x5x5x1536.Idx → Elt F .f32 := finish (tokK D 4).1 (tokK D 4).2 fun _ => D.b2 (pt 0) (ix1 (0 : Fin 8))

theorem loAt_lt (D : Ins F) (t : Fin grid0.N) (ht : t.val < 20) (Y : S1x4x3x128.Idx → Elt F .f32) : nextLo (grid0.coords t) D.x1 (D.b3 t) Y = loAt D t := by
  unfold loAt; unfold nextLo; rw [dif_pos ((cond1_iff t).mpr ht), dif_pos ((cond1_iff t).mpr ht)]
theorem hiAt_lt (D : Ins F) (t : Fin grid0.N) (ht : t.val < 20) (Y : S1x4x3x128.Idx → Elt F .f32) : nextHi (grid0.coords t) D.x1 (D.b4 t) Y = hiAt D t := by
  unfold hiAt; unfold nextHi; rw [dif_pos ((cond1_iff t).mpr ht), dif_pos ((cond1_iff t).mpr ht)]
theorem loAt_last (D : Ins F) (t : Fin grid0.N) (ht : ¬ t.val < 20) : nextLo (grid0.coords t) D.x1 (D.b3 t) (loAt D (pt 19)) = loAt D t := by
  rw [← loAt_lt D (pt 19) (by decide) fun _ => D.b2 (pt 0) (ix1 (0 : Fin 8))]; rfl
theorem hiAt_last (D : Ins F) (t : Fin grid0.N) (ht : ¬ t.val < 20) : nextHi (grid0.coords t) D.x1 (D.b4 t) (hiAt D (pt 19)) = hiAt D t := by
  rw [← hiAt_lt D (pt 19) (by decide) fun _ => D.b2 (pt 0) (ix1 (0 : Fin 8))]; rfl

/-- The two stores of the last stretch cover the block, so what it held does not matter. -/
theorem finish_any (cl : S40x1536.Idx → Elt F .f32) (gr : S160x1536.Idx → Elt F .f32) (X Y : S8x5x5x1536.Idx → Elt F .f32) : finish cl gr X = finish cl gr Y := by
  funext j
  unfold finish
  unfold put
  have h0 := (show Fin 8 from j 0).isLt
  have h1 := (show Fin 5 from j 1).isLt
  have h2 := (show Fin 5 from j 2).isLt
  have h3 := (show Fin 1536 from j 3).isLt
  split_ifs with ha hb
  · rfl
  · rfl
  · exfalso
    by_cases h : (show Fin 5 from j 2).val = 0
    · apply hb; intro a
      fin_cases a
      · exact ⟨Nat.zero_le _, by simpa using h0⟩
      · exact ⟨Nat.zero_le _, by simpa using h1⟩
      · exact ⟨Nat.zero_le _, by simpa using (by omega : (show Fin 5 from j 2).val < 1)⟩
      · exact ⟨Nat.zero_le _, by simpa using h3⟩
    · apply ha; intro a
      fin_cases a
      · exact ⟨Nat.zero_le _, by simpa using h0⟩
      · exact ⟨Nat.zero_le _, by simpa using h1⟩
      · exact ⟨by simpa using (by omega : 1 ≤ (show Fin 5 from j 2).val), by simpa using (by omega : (show Fin 5 from j 2).val < 1 + 4)⟩
      · exact ⟨Nat.zero_le _, by simpa using h3⟩

end Cert.Fused
-- ==== Proof.Data.lean ====
module

public import proofs.«01_k».proof.Proof.Inv

@[expose] public section

noncomputable section

namespace Cert.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open VecWindow
open Idealize.ShloMosaic.Pipeline (Dat Cfg Window BodyObligation BodyObligationLoose arrRef)

/-! ## The pipeline's proof data -/

variable (V : Valuation τ sig (Elt F)) (a : (pcfg0 (F := F)).Adm)

/-- An input window's block at a point: its array read through the window's block. -/
abbrev blkAt (w : Fin 21) (t : Fin grid0.N) := ((win0 a w).blk t).view.read (Elt F) (V (Proc.devRef .tc (arrRef spec0 w)))

/-- What the body finds in its inputs. -/
def ins : Ins F where
  x1 := a.1 0
  b2 := blkAt V a 0
  b3 := blkAt V a 1
  b4 := blkAt V a 2
  b5 := blkAt V a 3
  b6 := blkAt V a 4
  b7 := blkAt V a 5
  b8 := blkAt V a 6
  b9 := blkAt V a 7
  b10 := blkAt V a 8
  b11 := blkAt V a 9
  b12 := blkAt V a 10
  b13 := blkAt V a 11
  b14 := blkAt V a 12
  b15 := blkAt V a 13
  b16 := blkAt V a 14
  b17 := blkAt V a 15
  b18 := blkAt V a 16

/-- What the scratch buffers, the table and the register hold before point `n`. -/
def carried (c : Dev nD) (n : ℕ) : sProp 𝕄 :=
  iprop(owns (c : Thread nD τ) (Memref.whole main_v0) fullShare.right (ins V a).x1 ∗ (∃ r, prngReg c r)
    ∗ ∃ X23 X24 X25 X26, ∃ T : Tok F, ⌜Inv (ins V a) n X23 X24 X25 X26 T⌝
      ∗ at' c (Memref.whole cc0_scratch0) X23 ∗ at' c (Memref.whole cc0_scratch1) X24 ∗ at' c (Memref.whole cc0_scratch2) X25
      ∗ at' c (Memref.whole cc0_scratch3) X26 ∗ at' c (Memref.whole cc0_scratch4) T.1 ∗ at' c (Memref.whole cc0_scratch5) T.2)

/-- What the body leaves in each window's buffer. -/
def afterAt : (w : Fin 21) → Fin grid0.N → (win0 a w).block.Idx → Elt F (win0 a w).elt
  | ⟨0, _⟩ => (ins V a).b2
  | ⟨1, _⟩ => (ins V a).b3
  | ⟨2, _⟩ => (ins V a).b4
  | ⟨3, _⟩ => (ins V a).b5
  | ⟨4, _⟩ => (ins V a).b6
  | ⟨5, _⟩ => (ins V a).b7
  | ⟨6, _⟩ => (ins V a).b8
  | ⟨7, _⟩ => (ins V a).b9
  | ⟨8, _⟩ => (ins V a).b10
  | ⟨9, _⟩ => (ins V a).b11
  | ⟨10, _⟩ => (ins V a).b12
  | ⟨11, _⟩ => (ins V a).b13
  | ⟨12, _⟩ => (ins V a).b14
  | ⟨13, _⟩ => (ins V a).b15
  | ⟨14, _⟩ => (ins V a).b16
  | ⟨15, _⟩ => (ins V a).b17
  | ⟨16, _⟩ => (ins V a).b18
  | ⟨17, _⟩ => loAt (ins V a)
  | ⟨18, _⟩ => hiAt (ins V a)
  | ⟨19, _⟩ => fun _ => gAt (ins V a)
  | ⟨20, _⟩ => fun _ => pooledAt (ins V a)
  | ⟨_ + 21, h⟩ => absurd h (Nat.not_lt.2 (Nat.le_add_left _ _))

/-- The proof data: the arrays at the entry contents; the inputs' buffers hold their blocks, the results' what `Inv` derives. -/
def dat (c : Dev nD) : Dat τ (Elt F) Unit ℕ (UR sig nD τ) ℕ (cfg0 a) c where
  A w := V (Proc.devRef .tc (arrRef spec0 w))
  after w t := afterAt V a w t
  Φ t := carried V a c t.val
  q w := Pipeline.shareOf spec0 w
  owed _ := 0

theorem before_0 (c : Dev nD) (t : Fin grid0.N) (d : (win0 a 0).block.Idx → Elt F (win0 a 0).elt) : (dat V a c).before 0 t d = (ins V a).b2 t :=
  (dat V a c).before_in_eq_fetched 0 rfl (fun _ => rfl) (fun _ _ _ => rfl) (fun _ => rfl) t d
theorem before_1 (c : Dev nD) (t : Fin grid0.N) (d : (win0 a 1).block.Idx → Elt F (win0 a 1).elt) : (dat V a c).before 1 t d = (ins V a).b3 t :=
  (dat V a c).before_in_eq_fetched 1 rfl (fun _ => rfl) (fun _ _ _ => rfl) (fun _ => rfl) t d
theorem before_2 (c : Dev nD) (t : Fin grid0.N) (d : (win0 a 2).block.Idx → Elt F (win0 a 2).elt) : (dat V a c).before 2 t d = (ins V a).b4 t :=
  (dat V a c).before_in_eq_fetched 2 rfl (fun _ => rfl) (fun _ _ _ => rfl) (fun _ => rfl) t d
theorem before_3 (c : Dev nD) (t : Fin grid0.N) (d : (win0 a 3).block.Idx → Elt F (win0 a 3).elt) : (dat V a c).before 3 t d = (ins V a).b5 t :=
  (dat V a c).before_in_eq_fetched 3 rfl (fun _ => rfl) (fun _ _ _ => rfl) (fun _ => rfl) t d
theorem before_4 (c : Dev nD) (t : Fin grid0.N) (d : (win0 a 4).block.Idx → Elt F (win0 a 4).elt) : (dat V a c).before 4 t d = (ins V a).b6 t :=
  (dat V a c).before_in_eq_fetched 4 rfl (fun _ => rfl) (fun _ _ _ => rfl) (fun _ => rfl) t d
theorem before_5 (c : Dev nD) (t : Fin grid0.N) (d : (win0 a 5).block.Idx → Elt F (win0 a 5).elt) : (dat V a c).before 5 t d = (ins V a).b7 t :=
  (dat V a c).before_in_eq_fetched 5 rfl (fun _ => rfl) (fun _ _ _ => rfl) (fun _ => rfl) t d
theorem before_6 (c : Dev nD) (t : Fin grid0.N) (d : (win0 a 6).block.Idx → Elt F (win0 a 6).elt) : (dat V a c).before 6 t d = (ins V a).b8 t :=
  (dat V a c).before_in_eq_fetched 6 rfl (fun _ => rfl) (fun _ _ _ => rfl) (fun _ => rfl) t d
theorem before_7 (c : Dev nD) (t : Fin grid0.N) (d : (win0 a 7).block.Idx → Elt F (win0 a 7).elt) : (dat V a c).before 7 t d = (ins V a).b9 t :=
  (dat V a c).before_in_eq_fetched 7 rfl (fun _ => rfl) (fun _ _ _ => rfl) (fun _ => rfl) t d
theorem before_8 (c : Dev nD) (t : Fin grid0.N) (d : (win0 a 8).block.Idx → Elt F (win0 a 8).elt) : (dat V a c).before 8 t d = (ins V a).b10 t :=
  (dat V a c).before_in_eq_fetched 8 rfl (fun _ => rfl) (fun _ _ _ => rfl) (fun _ => rfl) t d
theorem before_9 (c : Dev nD) (t : Fin grid0.N) (d : (win0 a 9).block.Idx → Elt F (win0 a 9).elt) : (dat V a c).before 9 t d = (ins V a).b11 t :=
  (dat V a c).before_in_eq_fetched 9 rfl (fun _ => rfl) (fun _ _ _ => rfl) (fun _ => rfl) t d
theorem before_10 (c : Dev nD) (t : Fin grid0.N) (d : (win0 a 10).block.Idx → Elt F (win0 a 10).elt) : (dat V a c).before 10 t d = (ins V a).b12 t :=
  (dat V a c).before_in_eq_fetched 10 rfl (fun _ => rfl) (fun _ _ _ => rfl) (fun _ => rfl) t d
theorem before_11 (c : Dev nD) (t : Fin grid0.N) (d : (win0 a 11).block.Idx → Elt F (win0 a 11).elt) : (dat V a c).before 11 t d = (ins V a).b13 t :=
  (dat V a c).before_in_eq_fetched 11 rfl (fun _ => rfl) (fun _ _ _ => rfl) (fun _ => rfl) t d
theorem before_12 (c : Dev nD) (t : Fin grid0.N) (d : (win0 a 12).block.Idx → Elt F (win0 a 12).elt) : (dat V a c).before 12 t d = (ins V a).b14 t :=
  (dat V a c).before_in_eq_fetched 12 rfl (fun _ => rfl) (fun _ _ _ => rfl) (fun _ => rfl) t d
theorem before_13 (c : Dev nD) (t : Fin grid0.N) (d : (win0 a 13).block.Idx → Elt F (win0 a 13).elt) : (dat V a c).before 13 t d = (ins V a).b15 t :=
  (dat V a c).before_in_eq_fetched 13 rfl (fun _ => rfl) (fun _ _ _ => rfl) (fun _ => rfl) t d
theorem before_14 (c : Dev nD) (t : Fin grid0.N) (d : (win0 a 14).block.Idx → Elt F (win0 a 14).elt) : (dat V a c).before 14 t d = (ins V a).b16 t :=
  (dat V a c).before_in_eq_fetched 14 rfl (fun _ => rfl) (fun _ _ _ => rfl) (fun _ => rfl) t d
theorem before_15 (c : Dev nD) (t : Fin grid0.N) (d : (win0 a 15).block.Idx → Elt F (win0 a 15).elt) : (dat V a c).before 15 t d = (ins V a).b17 t :=
  (dat V a c).before_in_eq_fetched 15 rfl (fun _ => rfl) (fun _ _ _ => rfl) (fun _ => rfl) t d
theorem before_16 (c : Dev nD) (t : Fin grid0.N) (d : (win0 a 16).block.Idx → Elt F (win0 a 16).elt) : (dat V a c).before 16 t d = (ins V a).b18 t :=
  (dat V a c).before_in_eq_fetched 16 rfl (fun _ => rfl) (fun _ _ _ => rfl) (fun _ => rfl) t d

/-! ### When the results' buffers are written back -/

theorem flush_17_tab : ∀ t : Fin grid0.N, (true && (decide (t.val + 1 = grid0.N) || decide (∃ h : t.val + 1 < grid0.N, ∃ b, cc0_transform_17 (grid0.coords ⟨t.val + 1, h⟩) b ≠ cc0_transform_17 (grid0.coords t) b))) = true ↔ t.val ≠ 19 := by
  decide +kernel
theorem flush_17 (t : Fin grid0.N) : (win0 a 17).flush t = true ↔ t.val ≠ 19 := by
  rw [Window.flush_eq_flushF]; exact flush_17_tab t
theorem flush_18_tab : ∀ t : Fin grid0.N, (true && (decide (t.val + 1 = grid0.N) || decide (∃ h : t.val + 1 < grid0.N, ∃ b, cc0_transform_18 (grid0.coords ⟨t.val + 1, h⟩) b ≠ cc0_transform_18 (grid0.coords t) b))) = true ↔ t.val ≠ 19 := by
  decide +kernel
theorem flush_18 (t : Fin grid0.N) : (win0 a 18).flush t = true ↔ t.val ≠ 19 := by
  rw [Window.flush_eq_flushF]; exact flush_18_tab t
theorem flush_19_tab : ∀ t : Fin grid0.N, (true && (decide (t.val + 1 = grid0.N) || decide (∃ h : t.val + 1 < grid0.N, ∃ b, cc0_transform_19 (grid0.coords ⟨t.val + 1, h⟩) b ≠ cc0_transform_19 (grid0.coords t) b))) = true ↔ t.val = 20 := by
  decide +kernel
theorem flush_19 (t : Fin grid0.N) : (win0 a 19).flush t = true ↔ t.val = 20 := by
  rw [Window.flush_eq_flushF]; exact flush_19_tab t
theorem flush_20_tab : ∀ t : Fin grid0.N, (true && (decide (t.val + 1 = grid0.N) || decide (∃ h : t.val + 1 < grid0.N, ∃ b, cc0_transform_20 (grid0.coords ⟨t.val + 1, h⟩) b ≠ cc0_transform_20 (grid0.coords t) b))) = true ↔ t.val = 20 := by
  decide +kernel
theorem flush_20 (t : Fin grid0.N) : (win0 a 20).flush t = true ↔ t.val = 20 := by
  rw [Window.flush_eq_flushF]; exact flush_20_tab t

/-! ### The body obligation -/

theorem live_17 : ∀ t : Fin grid0.N, idle0 17 (grid0.coords t) = decide (t.val = 20) := by decide +kernel
theorem live_18 : ∀ t : Fin grid0.N, idle0 18 (grid0.coords t) = decide (t.val = 20) := by decide +kernel
theorem live_19 : ∀ t : Fin grid0.N, idle0 19 (grid0.coords t) = decide (t.val ≠ 20) := by decide +kernel
theorem live_20 : ∀ t : Fin grid0.N, idle0 20 (grid0.coords t) = decide (t.val ≠ 12) := by decide +kernel

variable (c : Dev nD) (t : Fin grid0.N)

theorem eq_pt20 (ht : t.val = 20) : t = pt 20 := by rw [← ht, pt_val]

theorem after_17 : (dat V a c).after 17 t = loAt (ins V a) t := by rfl
theorem after_18 : (dat V a c).after 18 t = hiAt (ins V a) t := by rfl
theorem after_19 : (dat V a c).after 19 t = gAt (ins V a) := by rfl
theorem after_20 : (dat V a c).after 20 t = pooledAt (ins V a) := by rfl
theorem pred_pt20 (h) : (⟨(pt 20).val - 1, h⟩ : Fin grid0.N) = pt 19 := Fin.ext (show (pt 20).val - 1 = (pt 19).val by decide)

/-- The last point finds in the first two results' buffers what point 19 left. -/
theorem before_17_last (d) : (dat V a c).before 17 (pt 20) d = loAt (ins V a) (pt 19) := by
  have hf : (cfg0 a).fresh 17 20 = false := by
    rw [Pipeline.Cfg.fresh_tab (cfg0 a) 17 (fun n => decide (n ≠ 20)) rfl ?_ 20 (show 20 ≤ grid0.N by decide)]
    · rfl
    · intro t
      have h1 := flush_17 a t
      have h2 := live_17 t
      have hN : t.val < 21 := lt_of_lt_of_eq t.isLt N_0
      change _ = ((win0 a 17).flush t || (idle0 17 (grid0.coords t) && _))
      rw [h2, Bool.eq_iff_iff]
      simp only [Bool.or_eq_true, Bool.and_eq_true, decide_eq_true_eq, h1]
      omega
  have hcarry : ∀ (t : Fin (cfg0 a).N) (_ : t.val ≠ 0), idle0 17 (grid0.coords t) = true → (cfg0 a).fresh 17 t.val = false →
      (dat V a c).after 17 t = (dat V a c).after 17 ⟨t.val - 1, by have := t.isLt; omega⟩ := fun t h0 hi _ => by
    have hi' := live_17 t ▸ hi
    have ht : t.val = 20 := by simpa using hi'
    obtain rfl : t = pt 20 := eq_pt20 t ht
    refine (after_17 V a c (pt 20)).trans (Eq.trans ?_ ((after_17 V a c _).trans (congrArg _ (pred_pt20 _))).symm)
    rw [← loAt_last _ (pt 20) (by decide)]
    exact dif_neg fun h => absurd ((cond1_iff (pt 20)).mp h) (by decide)
  have h := (dat V a c).before_out_traj 17 rfl (fun _ _ => rfl) hcarry 20 (pt 20) rfl d
  refine h.trans ?_
  rw [if_neg (by rw [show (pt 20).val = 20 from rfl, hf]; decide)]
  exact (after_17 V a c _).trans (congrArg _ (pred_pt20 _))
theorem before_18_last (d) : (dat V a c).before 18 (pt 20) d = hiAt (ins V a) (pt 19) := by
  have hf : (cfg0 a).fresh 18 20 = false := by
    rw [Pipeline.Cfg.fresh_tab (cfg0 a) 18 (fun n => decide (n ≠ 20)) rfl ?_ 20 (show 20 ≤ grid0.N by decide)]
    · rfl
    · intro t
      have h1 := flush_18 a t
      have h2 := live_18 t
      have hN : t.val < 21 := lt_of_lt_of_eq t.isLt N_0
      change _ = ((win0 a 18).flush t || (idle0 18 (grid0.coords t) && _))
      rw [h2, Bool.eq_iff_iff]
      simp only [Bool.or_eq_true, Bool.and_eq_true, decide_eq_true_eq, h1]
      omega
  have hcarry : ∀ (t : Fin (cfg0 a).N) (_ : t.val ≠ 0), idle0 18 (grid0.coords t) = true → (cfg0 a).fresh 18 t.val = false →
      (dat V a c).after 18 t = (dat V a c).after 18 ⟨t.val - 1, by have := t.isLt; omega⟩ := fun t h0 hi _ => by
    have hi' := live_18 t ▸ hi
    have ht : t.val = 20 := by simpa using hi'
    obtain rfl : t = pt 20 := eq_pt20 t ht
    refine (after_18 V a c (pt 20)).trans (Eq.trans ?_ ((after_18 V a c _).trans (congrArg _ (pred_pt20 _))).symm)
    rw [← hiAt_last _ (pt 20) (by decide)]
    exact dif_neg fun h => absurd ((cond1_iff (pt 20)).mp h) (by decide)
  have h := (dat V a c).before_out_traj 18 rfl (fun _ _ => rfl) hcarry 20 (pt 20) rfl d
  refine h.trans ?_
  rw [if_neg (by rw [show (pt 20).val = 20 from rfl, hf]; decide)]
  exact (after_18 V a c _).trans (congrArg _ (pred_pt20 _))
/-- It finds the pooled tokens that point 12 left. -/
theorem before_20_last (d) : (dat V a c).before 20 (pt 20) d = pooledAt (ins V a) := by
  have hf : (cfg0 a).fresh 20 20 = false := by
    rw [Pipeline.Cfg.fresh_tab (cfg0 a) 20 (fun n => decide (n < 13 ∨ n = 21)) rfl ?_ 20 (show 20 ≤ grid0.N by decide)]
    · rfl
    · intro t
      have h1 := flush_20 a t
      have h2 := live_20 t
      have hN : t.val < 21 := lt_of_lt_of_eq t.isLt N_0
      change _ = ((win0 a 20).flush t || (idle0 20 (grid0.coords t) && _))
      rw [h2, Bool.eq_iff_iff]
      simp only [Bool.or_eq_true, Bool.and_eq_true, decide_eq_true_eq, h1]
      omega
  have h := (dat V a c).before_out_traj 20 rfl (fun _ _ => rfl) (fun _ _ _ _ => rfl) 20 (pt 20) rfl d
  refine h.trans ?_
  rw [if_neg (by rw [show (pt 20).val = 20 from rfl, hf]; decide)]
  rfl

end Cert.Fused
-- ==== Proof.Obl.lean ====
module

public import proofs.«01_k».proof.Proof.Data

@[expose] public section

noncomputable section

namespace Cert.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open VecWindow
open Idealize.ShloMosaic.Pipeline (Dat Cfg Window BodyObligation BodyObligationLoose arrRef)

variable (V : Valuation τ sig (Elt F)) (a : (pcfg0 (F := F)).Adm) (c : Dev nD) (t : Fin grid0.N)

/-! ## What each window's buffer is left at -/

/-- The current buffer of window `w` held at `X`. -/
abbrev buf (w : Fin 21) (X : (win0 a w).block.Idx → Elt F (win0 a w).elt) : sProp 𝕄 :=
  owns (c : Thread nD τ) ((win0 a w).stage ((cfg0 a).slots t w)) fullShare X

theorem leaves_after (w : Fin 21) (h : (cfg0 a).idle w (grid0.coords t) = false ∨ (win0 a w).flush t = true) :
    buf a c t w ((dat V a c).after w t) ⊢ (dat V a c).leavesExact w t := by
  have key : ∀ (x y : Bool), (x = false ∨ y = true) → buf a c t w ((dat V a c).after w t) ⊢
      (match x with
        | true => match y with
          | false => iprop(∃ d, buf a c t w ((dat V a c).before w t d))
          | true => buf a c t w ((dat V a c).after w t)
        | false => buf a c t w ((dat V a c).after w t) : sProp 𝕄) := by
    intro x y h
    rcases x with _ | _ <;> rcases y with _ | _ <;> first | exact .rfl | (simp at h)
  exact key _ _ h

theorem leaves_before (w : Fin 21) (h : (cfg0 a).idle w (grid0.coords t) = true) (h' : (win0 a w).flush t = false) (d) :
    buf a c t w ((dat V a c).before w t d) ⊢ (dat V a c).leavesExact w t := by
  rw [(dat V a c).leavesExact_idle w t h h']
  iintro H
  iexists d
  iexact H

theorem leave_17 (d) : buf a c t 17 (nextLo (grid0.coords t) (ins V a).x1 ((ins V a).b3 t) ((dat V a c).before 17 t d)) ⊢ (dat V a c).leavesExact 17 t := by
  have e : nextLo (grid0.coords t) (ins V a).x1 ((ins V a).b3 t) ((dat V a c).before 17 t d) = loAt (ins V a) t := by
    by_cases ht : t.val = 20
    · obtain rfl : t = pt 20 := eq_pt20 t ht
      exact (congrArg _ (before_17_last V a c d)).trans (loAt_last (ins V a) (pt 20) (by decide))
    · have hN : t.val < 21 := lt_of_lt_of_eq t.isLt N_0
      exact loAt_lt (ins V a) t (by omega) _
  refine BIBase.Entails.trans (Entails.of_eq (congrArg (buf a c t 17) e)) (leaves_after V a c t 17 ?_)
  by_cases ht : t.val = 20
  · exact Or.inr ((flush_17 a t).mpr (by omega))
  · exact Or.inl ((live_17 t).trans (by simpa using ht))

theorem leave_18 (d) : buf a c t 18 (nextHi (grid0.coords t) (ins V a).x1 ((ins V a).b4 t) ((dat V a c).before 18 t d)) ⊢ (dat V a c).leavesExact 18 t := by
  have e : nextHi (grid0.coords t) (ins V a).x1 ((ins V a).b4 t) ((dat V a c).before 18 t d) = hiAt (ins V a) t := by
    by_cases ht : t.val = 20
    · obtain rfl : t = pt 20 := eq_pt20 t ht
      exact (congrArg _ (before_18_last V a c d)).trans (hiAt_last (ins V a) (pt 20) (by decide))
    · have hN : t.val < 21 := lt_of_lt_of_eq t.isLt N_0
      exact hiAt_lt (ins V a) t (by omega) _
  refine BIBase.Entails.trans (Entails.of_eq (congrArg (buf a c t 18) e)) (leaves_after V a c t 18 ?_)
  by_cases ht : t.val = 20
  · exact Or.inr ((flush_18 a t).mpr (by omega))
  · exact Or.inl ((live_18 t).trans (by simpa using ht))

theorem leave_19 (NT : Tok F) (hNT : t.val = 20 → NT = tokK (ins V a) 4) (d) :
    buf a c t 19 (nextG (grid0.coords t) NT ((dat V a c).before 19 t d)) ⊢ (dat V a c).leavesExact 19 t := by
  by_cases ht : t.val = 20
  · have e : nextG (grid0.coords t) NT ((dat V a c).before 19 t d) = gAt (ins V a) := by
      unfold nextG
      refine (if_pos ((cond9_iff t).mpr ht)).trans ?_
      rw [hNT ht]
      exact finish_any _ _ _ _
    exact BIBase.Entails.trans (Entails.of_eq (congrArg (buf a c t 19) e)) (leaves_after V a c t 19 (Or.inl ((live_19 t).trans (by simpa using ht))))
  · have e : nextG (grid0.coords t) NT ((dat V a c).before 19 t d) = (dat V a c).before 19 t d := if_neg fun h => ht ((cond9_iff t).mp h)
    exact BIBase.Entails.trans (Entails.of_eq (congrArg (buf a c t 19) e))
      (leaves_before V a c t 19 ((live_19 t).trans (by simpa using ht)) (Bool.eq_false_iff.mpr fun h => ht ((flush_19 a t).mp h)) d)

theorem leave_20 (e : FVec F S8x20x1536 .f32) (he : t.val = 12 → e = embAt (ins V a)) (d) :
    buf a c t 20 (nextPooled (grid0.coords t) e ((dat V a c).before 20 t d)) ⊢ (dat V a c).leavesExact 20 t := by
  by_cases ht : t.val = 12
  · have h : nextPooled (grid0.coords t) e ((dat V a c).before 20 t d) = pooledAt (ins V a) := by
      unfold nextPooled
      refine (if_pos ((cond4_iff t).mpr ht)).trans ?_
      rw [he ht]
      rfl
    exact BIBase.Entails.trans (Entails.of_eq (congrArg (buf a c t 20) h)) (leaves_after V a c t 20 (Or.inl ((live_20 t).trans (by simpa using ht))))
  · have h : nextPooled (grid0.coords t) e ((dat V a c).before 20 t d) = (dat V a c).before 20 t d := if_neg fun h => ht ((cond4_iff t).mp h)
    refine BIBase.Entails.trans (Entails.of_eq (congrArg (buf a c t 20) h)) ?_
    by_cases h20 : t.val = 20
    · obtain rfl : t = pt 20 := eq_pt20 t h20
      exact BIBase.Entails.trans (Entails.of_eq (congrArg (buf a c (pt 20) 20) (before_20_last V a c d))) (leaves_after V a c (pt 20) 20 (Or.inr ((flush_20 a (pt 20)).mpr h20)))
    · exact leaves_before V a c t 20 ((live_20 t).trans (by simpa using ht)) (Bool.eq_false_iff.mpr fun h => h20 ((flush_20 a t).mp h)) d

/-! ## The body obligation -/

/-- The body as the pipeline runs it at a point. -/
abbrev bodyAt : Prog (TpuEff nD τ sig (Elt F) Λ₀ .tc) PUnit :=
  cc0_fused_vit (grid0.coords t) (Memref.whole main_v0) (Memref.isWhole_whole _) (spec0_0.stage (((cfg0 a).slots t) 0)) (hstage0_0 ((((cfg0 a).slots t) 0).cast nbuf0_0)) (spec0_1.stage (((cfg0 a).slots t) 1)) (hstage0_1 ((((cfg0 a).slots t) 1).cast nbuf0_1)) (spec0_2.stage (((cfg0 a).slots t) 2)) (hstage0_2 ((((cfg0 a).slots t) 2).cast nbuf0_2)) (spec0_3.stage (((cfg0 a).slots t) 3)) (hstage0_3 ((((cfg0 a).slots t) 3).cast nbuf0_3)) (spec0_4.stage (((cfg0 a).slots t) 4)) (hstage0_4 ((((cfg0 a).slots t) 4).cast nbuf0_4)) (spec0_5.stage (((cfg0 a).slots t) 5)) (hstage0_5 ((((cfg0 a).slots t) 5).cast nbuf0_5)) (spec0_6.stage (((cfg0 a).slots t) 6)) (hstage0_6 ((((cfg0 a).slots t) 6).cast nbuf0_6)) (spec0_7.stage (((cfg0 a).slots t) 7)) (hstage0_7 ((((cfg0 a).slots t) 7).cast nbuf0_7)) (spec0_8.stage (((cfg0 a).slots t) 8)) (hstage0_8 ((((cfg0 a).slots t) 8).cast nbuf0_8)) (spec0_9.stage (((cfg0 a).slots t) 9)) (hstage0_9 ((((cfg0 a).slots t) 9).cast nbuf0_9)) (spec0_10.stage (((cfg0 a).slots t) 10)) (hstage0_10 ((((cfg0 a).slots t) 10).cast nbuf0_10)) (spec0_11.stage (((cfg0 a).slots t) 11)) (hstage0_11 ((((cfg0 a).slots t) 11).cast nbuf0_11)) (spec0_12.stage (((cfg0 a).slots t) 12)) (hstage0_12 ((((cfg0 a).slots t) 12).cast nbuf0_12)) (spec0_13.stage (((cfg0 a).slots t) 13)) (hstage0_13 ((((cfg0 a).slots t) 13).cast nbuf0_13)) (spec0_14.stage (((cfg0 a).slots t) 14)) (hstage0_14 ((((cfg0 a).slots t) 14).cast nbuf0_14)) (spec0_15.stage (((cfg0 a).slots t) 15)) (hstage0_15 ((((cfg0 a).slots t) 15).cast nbuf0_15)) (spec0_16.stage (((cfg0 a).slots t) 16)) (hstage0_16 ((((cfg0 a).slots t) 16).cast nbuf0_16)) (spec0_17.stage (((cfg0 a).slots t) 17)) (hstage0_17 ((((cfg0 a).slots t) 17).cast nbuf0_17)) (spec0_18.stage (((cfg0 a).slots t) 18)) (hstage0_18 ((((cfg0 a).slots t) 18).cast nbuf0_18)) (spec0_19.stage (((cfg0 a).slots t) 19)) (hstage0_19 ((((cfg0 a).slots t) 19).cast nbuf0_19)) (spec0_20.stage (((cfg0 a).slots t) 20)) (hstage0_20 ((((cfg0 a).slots t) 20).cast nbuf0_20)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

set_option backward.isDefEq.respectTransparency.types false in
/-- At every point the body leaves what the pipeline's proof data say. -/
theorem body_obligation (c : Dev nD) : BodyObligation (dat V a c) (defs₀ (F := F)) Variants.none () Set.univ := fun t => by
  show iprop((dat V a c).Φ t.castSucc ∗ (dat V a c).owesAt () t.castSucc ∗ bigSep Finset.univ fun w : Fin 21 => iprop(∃ d, buf a c t w ((dat V a c).before w t d)))
    ⊢ wp frame (wpE (defs₀ (F := F)) Variants.none (c : Thread nD τ) none) Set.univ (bodyAt a t)
      fun _ => iprop((dat V a c).Φ t.succ ∗ (dat V a c).owesAt () t.castSucc ∗ bigSep Finset.univ fun w : Fin 21 => (dat V a c).leavesExact w t)
  rw [bigSep_W0, bigSep_W0]
  rw [show (dat V a c).Φ t.castSucc = carried V a c t.val from rfl, show (dat V a c).Φ t.succ = carried V a c (t.val + 1) from rfl]
  unfold carried
  iintro ⟨⟨H1, Hp, %X23, %X24, %X25, %X26, %T, %HI, H23, H24, H25, H26, H27, H28⟩, HO, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩, ⟨%d18, H20⟩, ⟨%d19, H21⟩, ⟨%d20, H22⟩⟩
  rw [before_0, before_1, before_2, before_3, before_4, before_5, before_6, before_7, before_8, before_9, before_10, before_11, before_12, before_13, before_14, before_15, before_16]
  iapply (body_run (F := F) c fullShare.right (grid0.coords t) (Memref.whole main_v0) (Memref.isWhole_whole _) (spec0_0.stage (((cfg0 a).slots t) 0)) (hstage0_0 ((((cfg0 a).slots t) 0).cast nbuf0_0)) (spec0_1.stage (((cfg0 a).slots t) 1)) (hstage0_1 ((((cfg0 a).slots t) 1).cast nbuf0_1)) (spec0_2.stage (((cfg0 a).slots t) 2)) (hstage0_2 ((((cfg0 a).slots t) 2).cast nbuf0_2)) (spec0_3.stage (((cfg0 a).slots t) 3)) (hstage0_3 ((((cfg0 a).slots t) 3).cast nbuf0_3)) (spec0_4.stage (((cfg0 a).slots t) 4)) (hstage0_4 ((((cfg0 a).slots t) 4).cast nbuf0_4)) (spec0_5.stage (((cfg0 a).slots t) 5)) (hstage0_5 ((((cfg0 a).slots t) 5).cast nbuf0_5)) (spec0_6.stage (((cfg0 a).slots t) 6)) (hstage0_6 ((((cfg0 a).slots t) 6).cast nbuf0_6)) (spec0_7.stage (((cfg0 a).slots t) 7)) (hstage0_7 ((((cfg0 a).slots t) 7).cast nbuf0_7)) (spec0_8.stage (((cfg0 a).slots t) 8)) (hstage0_8 ((((cfg0 a).slots t) 8).cast nbuf0_8)) (spec0_9.stage (((cfg0 a).slots t) 9)) (hstage0_9 ((((cfg0 a).slots t) 9).cast nbuf0_9)) (spec0_10.stage (((cfg0 a).slots t) 10)) (hstage0_10 ((((cfg0 a).slots t) 10).cast nbuf0_10)) (spec0_11.stage (((cfg0 a).slots t) 11)) (hstage0_11 ((((cfg0 a).slots t) 11).cast nbuf0_11)) (spec0_12.stage (((cfg0 a).slots t) 12)) (hstage0_12 ((((cfg0 a).slots t) 12).cast nbuf0_12)) (spec0_13.stage (((cfg0 a).slots t) 13)) (hstage0_13 ((((cfg0 a).slots t) 13).cast nbuf0_13)) (spec0_14.stage (((cfg0 a).slots t) 14)) (hstage0_14 ((((cfg0 a).slots t) 14).cast nbuf0_14)) (spec0_15.stage (((cfg0 a).slots t) 15)) (hstage0_15 ((((cfg0 a).slots t) 15).cast nbuf0_15)) (spec0_16.stage (((cfg0 a).slots t) 16)) (hstage0_16 ((((cfg0 a).slots t) 16).cast nbuf0_16)) (spec0_17.stage (((cfg0 a).slots t) 17)) (hstage0_17 ((((cfg0 a).slots t) 17).cast nbuf0_17)) (spec0_18.stage (((cfg0 a).slots t) 18)) (hstage0_18 ((((cfg0 a).slots t) 18).cast nbuf0_18)) (spec0_19.stage (((cfg0 a).slots t) 19)) (hstage0_19 ((((cfg0 a).slots t) 19).cast nbuf0_19)) (spec0_20.stage (((cfg0 a).slots t) 20)) (hstage0_20 ((((cfg0 a).slots t) 20).cast nbuf0_20)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (X1 := (ins V a).x1) (X2 := (ins V a).b2 t) (X3 := (ins V a).b3 t) (X4 := (ins V a).b4 t) (X5 := (ins V a).b5 t) (X6 := (ins V a).b6 t) (X7 := (ins V a).b7 t) (X8 := (ins V a).b8 t) (X9 := (ins V a).b9 t) (X10 := (ins V a).b10 t) (X11 := (ins V a).b11 t) (X12 := (ins V a).b12 t) (X13 := (ins V a).b13 t) (X14 := (ins V a).b14 t) (X15 := (ins V a).b15 t) (X16 := (ins V a).b16 t) (X17 := (ins V a).b17 t) (X18 := (ins V a).b18 t)
    (X19 := (dat V a c).before 17 t d17) (X20 := (dat V a c).before 18 t d18) (X21 := (dat V a c).before 19 t d19) (X22 := (dat V a c).before 20 t d20)
    (X23 := X23) (X24 := X24) (X25 := X25) (X26 := X26) (T := T) (Q := _))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iintro ⟨H1, H2, H3, H4, H5, H6, H7, H8, H9, H10, H11, H12, H13, H14, H15, H16, H17, H18, H19, H20, H21, H22, H23, H24, H25, H26, H27, H28⟩
  have HI' := inv_succ (ins V a) t X23 X24 X25 X26 T HI
  isplitl [H1 Hp H23 H24 H25 H26 H27 H28]
  · isplitl [H1]; · iexact H1
    isplitl [Hp]; · iexact Hp
    iexists _, _, _, _, _
    isplitr; · ipureintro; exact HI'
    isplitl [H23]; · iexact H23
    isplitl [H24]; · iexact H24
    isplitl [H25]; · iexact H25
    isplitl [H26]; · iexact H26
    isplitl [H27]; · iexact H27
    iexact H28
  isplitl [HO]; · iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iapply (leave_17 V a c t d17); iexact H19
  isplitl [H20]; · iapply (leave_18 V a c t d18); iexact H20
  isplitl [H21]; · iapply (leave_19 V a c t _ (fun h => (tok_eq (ins V a) t X23 X24 X25 X26 T HI (by omega)).trans (by rw [h])) d19); iexact H21
  iapply (leave_20 V a c t _ (fun h => emb_eq (ins V a) t X23 X24 X25 X26 T HI h) d20); iexact H22

end Cert.Fused
-- ==== Proof.Launch.lean ====
module

public import Idealize.ShloMosaic.Lib.Pipeline.FrameSuffix
public import proofs.«01_k».proof.Proof.Obl

@[expose] public section

noncomputable section

namespace Cert.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open VecWindow
open Idealize.ShloMosaic.Pipeline (Dat Cfg Window BodyObligation BodyObligationLoose arrRef FramePost afterTail pin)

/-! ## The launch -/

variable (m : (ℓ : Loc nD τ sig) → Buf (Elt F) ℓ)

/-- The buffers' contents when the region begins: after the reshapes. -/
abbrev V0 (c : Dev nD) : Valuation τ sig (Elt F) := StableHlo.after [hostOps0].flatten fun b => m (c, b)

/-- The table's contents. -/
def tabs : (p : Fin 1) → (pcfgs (F := F) p).Adm := fun _ => ⟨fun k => V0 m 0 (Proc.devRef .tc (pre0.ref k)), trivial⟩

def dats : (p : Fin 1) → (c : Dev nD) → Dat τ (Elt F) Unit ℕ (UR sig nD τ) ℕ (pin (pcfgs (F := F)) (tabs m) p) c :=
  fun _ c => dat (V0 m c) (tabs m 0) c

/-- The operations after the region touch the arrays and the buffers beside them only. -/
theorem tail_sub : ∀ ops ∈ [hostOps1 (F := F)], ∀ op ∈ ops, op.bufs ⊆ Pipeline.tailRefs (τ := τ) sig pre0 spec0 := by
  intro ops ho op h
  simp only [List.mem_singleton] at ho
  subst ho
  fin_cases h
  · show ({Proc.devRef .tc main_v10_0, Proc.devRef .tc main_v11} : Finset (DevRef τ sig)) ⊆ Pipeline.tailRefs (τ := τ) sig pre0 spec0; decide
  · show ({Proc.devRef .tc main_v11, Proc.devRef .tc main_v12} : Finset (DevRef τ sig)) ⊆ Pipeline.tailRefs (τ := τ) sig pre0 spec0; decide
  · show ({Proc.devRef .tc main_v10_1, Proc.devRef .tc main_v13} : Finset (DevRef τ sig)) ⊆ Pipeline.tailRefs (τ := τ) sig pre0 spec0; decide
  · show ({Proc.devRef .tc main_v13, Proc.devRef .tc main_v14} : Finset (DevRef τ sig)) ⊆ Pipeline.tailRefs (τ := τ) sig pre0 spec0; decide
  · show ({Proc.devRef .tc main_v12, Proc.devRef .tc main_v14, Proc.devRef .tc main_v15} : Finset (DevRef τ sig)) ⊆ Pipeline.tailRefs (τ := τ) sig pre0 spec0; decide

theorem tail_fresh : ∀ ops ∈ [hostOps1 (F := F)], ∀ op ∈ ops, op.fresh = ∅ := by
  intro ops ho op h
  simp only [List.mem_singleton] at ho
  subst ho
  fin_cases h <;> rfl

/-- They write none of the region's arrays. -/
theorem tail_keep : ∀ ops ∈ [hostOps1 (F := F)], ∀ op ∈ ops, ∀ w, Proc.devRef .tc (arrRef spec0 w) ∉ op.writes := by
  intro ops ho op h
  simp only [List.mem_singleton] at ho
  subst ho
  fin_cases h
  · show ∀ w, Proc.devRef .tc (arrRef spec0 w) ∉ ({Proc.devRef .tc main_v11} : Finset (DevRef τ sig)); decide
  · show ∀ w, Proc.devRef .tc (arrRef spec0 w) ∉ ({Proc.devRef .tc main_v12} : Finset (DevRef τ sig)); decide
  · show ∀ w, Proc.devRef .tc (arrRef spec0 w) ∉ ({Proc.devRef .tc main_v13} : Finset (DevRef τ sig)); decide
  · show ∀ w, Proc.devRef .tc (arrRef spec0 w) ∉ ({Proc.devRef .tc main_v14} : Finset (DevRef τ sig)); decide
  · show ∀ w, Proc.devRef .tc (arrRef spec0 w) ∉ ({Proc.devRef .tc main_v15} : Finset (DevRef τ sig)); decide

theorem carried_in (c : Dev nD) : iprop(Pipeline.ΦA (U := UR sig nD τ) spec0 c ∗ Pipeline.ΦT pre0 (tabs m 0).1 c) ⊢ (dats m 0 c).Φ 0 := by
  rw [show (dats m 0 c).Φ 0 = carried (V0 m c) (tabs m 0) c 0 from rfl]
  unfold carried Pipeline.ΦA Pipeline.ΦT Pipeline.prefHeld
  rw [scopedRest0_eq, show (Finset.univ : Finset (Fin pre0.K)) = {0} from rfl, BI.bigSep_singleton]
  unfold at'
  simp only [owns_whole_eq]
  iintro ⟨⟨⟨⟨%f0, H0⟩, ⟨%f1, H1⟩, ⟨%f2, H2⟩, ⟨%f3, H3⟩, ⟨%f4, H4⟩, ⟨%f5, H5⟩⟩, Hp⟩, Ht⟩
  isplitl [Ht]; · iexists _; isplitr; swap; (· iexact Ht); ipureintro; rfl
  isplitl [Hp]; · iexact Hp
  iexists f0, f1, f2, f3, (f4, f5)
  isplitr; · ipureintro; exact inv_zero _ _ _ _ _ _
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  iexists f5; isplitr; (· ipureintro; rfl); iexact H5

theorem carried_out (c : Dev nD) : (dats m 0 c).Φ (Fin.last 21) ⊢ Pipeline.ΦA (U := UR sig nD τ) spec0 c := by
  rw [show (dats m 0 c).Φ (Fin.last 21) = carried (V0 m c) (tabs m 0) c 21 from rfl]
  unfold carried Pipeline.ΦA
  rw [scopedRest0_eq]
  unfold at'
  simp only [owns_whole_eq]
  iintro ⟨-, Hp, %X23, %X24, %X25, %X26, %T, -, ⟨%f0, -, H0⟩, ⟨%f1, -, H1⟩, ⟨%f2, -, H2⟩, ⟨%f3, -, H3⟩, ⟨%f4, -, H4⟩, ⟨%f5, -, H5⟩⟩
  isplitr [Hp]
  · isplitl [H0]; · iexists f0; iexact H0
    isplitl [H1]; · iexists f1; iexact H1
    isplitl [H2]; · iexists f2; iexact H2
    isplitl [H3]; · iexists f3; iexact H3
    isplitl [H4]; · iexists f4; iexact H4
    iexists f5; iexact H5
  · iexact Hp

/-- Every run ends with the windows' arrays as the proof data say, every other buffer as the host operations leave it, and every
    semaphore at zero. -/
theorem run_post (g : Dev nD → PrngReg) : θ_run (defs (F := F)) (onTc main) (s₀ m g)
    (fun r => FramePost (pin (pcfgs (F := F)) (tabs m)) (dats m) 0 (afterTail (pcfgs (F := F)) (tabs m) (dats m) 0 (V0 m) [hostOps1]) r ∧ r.2.sem = fun _ => 0) :=
  Pipeline.θ_run_frameP_around_track_shared (pcfgs (F := F)) (tabs m) (dats m) 0 launch₀0 (defs₀ (F := F)) Variants.none m g main
    (fun c => (body_obligation (V0 m c) (tabs m 0) c).loose) (fun _ _ _ => rfl) (fun _ _ => rfl) (V0 m) [hostOps1] tail_sub tail_fresh tail_keep
    (Pipeline.hmainP_around (pcfgs (F := F)) 0 (defs₀ (F := F)) Variants.none m main [hostOps0] [hostOps1] hostOps0_sub (by repeat' constructor)
      (fun c => main_chain c))
    (fun _ _ => rfl) (fun c k => by obtain rfl : c = 0 := Subsingleton.elim _ _; rfl) (carried_in m) (carried_out m)
    (Q' := fun r => FramePost (pin (pcfgs (F := F)) (tabs m)) (dats m) 0 (afterTail (pcfgs (F := F)) (tabs m) (dats m) 0 (V0 m) [hostOps1]) r ∧ r.2.sem = fun _ => 0)
    (hQ' := fun _ h => h)

end Cert.Fused
-- ==== Proof.Frame.lean ====
module

public import proofs.«01_k».proof.Proof.Launch

@[expose] public section

noncomputable section

namespace Cert.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open VecWindow
open Idealize.ShloMosaic.Pipeline (Dat Cfg Window arrRef FramePost afterTail pin)

/-! ## The arguments and the results at the end of a run -/

variable (m : (ℓ : Loc nD τ sig) → Buf (Elt F) ℓ)

/-- What the reshapes before the region write. -/
def heads : List (Ref sig .tc) := [main_v0, main_v1, main_v2, main_v3, main_v4, main_v5, main_v6, main_v7, main_v8, main_v9]
/-- What the operations after the region write. -/
def tails : List (Ref sig .tc) := [main_v11, main_v12, main_v13, main_v14, main_v15]

theorem V0_of_not_mem (c : Dev nD) (b : Ref sig .tc) (h : ∀ r ∈ heads, b ≠ r) : V0 m c (Proc.devRef .tc b) = m (c, Proc.devRef .tc b) := by
  refine StableHlo.after_of_forall_not_mem _ _ fun op hop => ?_
  have key : ∀ r ∈ heads, Proc.devRef (τ := τ) .tc b ∉ ({Proc.devRef .tc r} : Finset (DevRef τ sig)) := fun r hr hm =>
    h r hr (Proc.devRef_injective (τ := τ) _ (Finset.mem_singleton.mp hm))
  simp only [List.flatten_cons, List.flatten_nil, List.append_nil] at hop
  fin_cases hop
  · exact key main_v0 (by decide)
  · exact key main_v1 (by decide)
  · exact key main_v2 (by decide)
  · exact key main_v3 (by decide)
  · exact key main_v4 (by decide)
  · exact key main_v5 (by decide)
  · exact key main_v6 (by decide)
  · exact key main_v7 (by decide)
  · exact key main_v8 (by decide)
  · exact key main_v9 (by decide)

theorem afterTail_of_not_mem (c : Dev nD) (b : Ref sig .tc) (h : ∀ r ∈ tails, b ≠ r) (hw : ∀ w, arrRef spec0 w ≠ b) :
    afterTail (pcfgs (F := F)) (tabs m) (dats m) 0 (V0 m) [hostOps1] c b = V0 m c (Proc.devRef .tc b) := by
  unfold Pipeline.afterTail
  rw [StableHlo.after_of_forall_not_mem _ _ fun op hop => ?_, Pipeline.withArrays_of_ne _ c (V0 m c) _ b hw]
  have key : ∀ r ∈ tails, Proc.devRef (τ := τ) .tc b ∉ ({Proc.devRef .tc r} : Finset (DevRef τ sig)) := fun r hr hm =>
    h r hr (Proc.devRef_injective (τ := τ) _ (Finset.mem_singleton.mp hm))
  simp only [List.flatten_cons, List.flatten_nil, List.append_nil] at hop
  fin_cases hop
  · exact key main_v11 (by decide)
  · exact key main_v12 (by decide)
  · exact key main_v13 (by decide)
  · exact key main_v14 (by decide)
  · exact key main_v15 (by decide)

/-- The end of a run: the arguments as they were. -/
theorem args_kept (r : PUnit × MemSt nD τ sig (Elt F)) (h : FramePost (pin (pcfgs (F := F)) (tabs m)) (dats m) 0 (afterTail (pcfgs (F := F)) (tabs m) (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16) :=
  ⟨((h c).1 1).trans (((dats m 0 c).arrAt_in 1 rfl _).trans (V0_of_not_mem m c main_arg0 (by decide))),
    ((h c).1 0).trans (((dats m 0 c).arrAt_in 0 rfl _).trans (V0_of_not_mem m c main_arg1 (by decide))),
    ((h c).2 main_arg2 (show main_arg2 ∈ Pipeline.restRefs sig spec0 by decide)).trans ((afterTail_of_not_mem m c main_arg2 (by decide) (by decide)).trans (V0_of_not_mem m c main_arg2 (by decide))),
    ((h c).1 3).trans (((dats m 0 c).arrAt_in 3 rfl _).trans (V0_of_not_mem m c main_arg3 (by decide))),
    ((h c).1 4).trans (((dats m 0 c).arrAt_in 4 rfl _).trans (V0_of_not_mem m c main_arg4 (by decide))),
    ((h c).2 main_arg5 (show main_arg5 ∈ Pipeline.restRefs sig spec0 by decide)).trans ((afterTail_of_not_mem m c main_arg5 (by decide) (by decide)).trans (V0_of_not_mem m c main_arg5 (by decide))),
    ((h c).2 main_arg6 (show main_arg6 ∈ Pipeline.restRefs sig spec0 by decide)).trans ((afterTail_of_not_mem m c main_arg6 (by decide) (by decide)).trans (V0_of_not_mem m c main_arg6 (by decide))),
    ((h c).2 main_arg7 (show main_arg7 ∈ Pipeline.restRefs sig spec0 by decide)).trans ((afterTail_of_not_mem m c main_arg7 (by decide) (by decide)).trans (V0_of_not_mem m c main_arg7 (by decide))),
    ((h c).2 main_arg8 (show main_arg8 ∈ Pipeline.restRefs sig spec0 by decide)).trans ((afterTail_of_not_mem m c main_arg8 (by decide) (by decide)).trans (V0_of_not_mem m c main_arg8 (by decide))),
    ((h c).2 main_arg9 (show main_arg9 ∈ Pipeline.restRefs sig spec0 by decide)).trans ((afterTail_of_not_mem m c main_arg9 (by decide) (by decide)).trans (V0_of_not_mem m c main_arg9 (by decide))),
    ((h c).2 main_arg10 (show main_arg10 ∈ Pipeline.restRefs sig spec0 by decide)).trans ((afterTail_of_not_mem m c main_arg10 (by decide) (by decide)).trans (V0_of_not_mem m c main_arg10 (by decide))),
    ((h c).2 main_arg11 (show main_arg11 ∈ Pipeline.restRefs sig spec0 by decide)).trans ((afterTail_of_not_mem m c main_arg11 (by decide) (by decide)).trans (V0_of_not_mem m c main_arg11 (by decide))),
    ((h c).1 12).trans (((dats m 0 c).arrAt_in 12 rfl _).trans (V0_of_not_mem m c main_arg12 (by decide))),
    ((h c).1 13).trans (((dats m 0 c).arrAt_in 13 rfl _).trans (V0_of_not_mem m c main_arg13 (by decide))),
    ((h c).2 main_arg14 (show main_arg14 ∈ Pipeline.restRefs sig spec0 by decide)).trans ((afterTail_of_not_mem m c main_arg14 (by decide) (by decide)).trans (V0_of_not_mem m c main_arg14 (by decide))),
    ((h c).1 15).trans (((dats m 0 c).arrAt_in 15 rfl _).trans (V0_of_not_mem m c main_arg15 (by decide))),
    ((h c).2 main_arg16 (show main_arg16 ∈ Pipeline.restRefs sig spec0 by decide)).trans ((afterTail_of_not_mem m c main_arg16 (by decide) (by decide)).trans (V0_of_not_mem m c main_arg16 (by decide)))⟩

/-- The run's frame, and what its three results hold. -/
theorem run_frame (g : Dev nD → PrngReg) : θ_run (defs (F := F)) (onTc main) (s₀ m g) fun r =>
    (∀ c : Dev nD, (r.2.mem ((c.tc : Thread nD τ).loc main_v15) = afterTail (pcfgs (F := F)) (tabs m) (dats m) 0 (V0 m) [hostOps1] c main_v15
      ∧ r.2.mem ((c.tc : Thread nD τ).loc main_v10_2) = (dats m 0 c).arrAt 19 21
      ∧ r.2.mem ((c.tc : Thread nD τ).loc main_v10_3) = (dats m 0 c).arrAt 20 21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
    ∧ r.2.sem = fun _ => 0 :=
  (θ_run (defs (F := F)) (onTc main) (s₀ m g)).mono (fun r h => ⟨fun c => ⟨⟨(h.1 c).2 main_v15 (show main_v15 ∈ Pipeline.restRefs sig spec0 by decide), (h.1 c).1 19, (h.1 c).1 20⟩, args_kept m r h.1 c⟩, h.2⟩) (run_post m g)

end Cert.Fused
-- ==== Proof.Same.lean ====
/-
  The kernel as printed and its idealization are the same program up to the literals
  the idealization names; read at bit patterns, with each name standing for the literal it was given to, they are equal
  by definition, so the run proved once of the idealization for any floats is the printed kernel's run too.
-/
module

public import proofs.«01_k».proof.Defs
public import proofs.«01_k».proof.Proof.Gen.Kernel
public import proofs.«01_k».proof.Proof.Frame

@[expose] public section

noncomputable section

namespace Cert.Fused

open Idealize.ShloMosaic Idealize.SL.Sem

/-- Every name read as the literal it was given to. -/
@[reducible] def literal : Named Bits := ⟨fun _ _ {φ} b => FloatOps.ofBits φ b⟩

attribute [local instance] literal

set_option maxHeartbeats 4000000

/-- The two body tables agree: label by label the same program. -/
theorem defs₀_eq : Cert.KernelIdeal.defs₀ (F := Bits) = Cert.Kernel.defs₀ (F := Bits) := by
  refine congrArg Defs.onTc ?_
  funext l x
  match l, x with
  | 0, (t, s) => rfl
  | ⟨_ + 1, h⟩, _ => exact absurd h (Nat.not_lt.2 (Nat.le_add_left _ _))

/-- So do the tables with the launch added, -/
theorem defs_eq : Cert.KernelIdeal.defs (F := Bits) = Cert.Kernel.defs (F := Bits) :=
  congrArg (Pipeline.defs (Cert.Kernel.pcfgs (F := Bits))) defs₀_eq

end Cert.Fused

end
-- ==== Proof.SameMain.lean ====
/-
  The two host programs agree as well.
-/
module

public import proofs.«01_k».proof.Defs
public import proofs.«01_k».proof.Proof.Gen.Kernel
public import proofs.«01_k».proof.Proof.Same

@[expose] public section

noncomputable section

namespace Cert.Fused

open Idealize.ShloMosaic Idealize.SL.Sem

attribute [local instance] literal

set_option maxHeartbeats 4000000

/-- The printed kernel's host program is its idealization's. -/
theorem main_eq : Cert.KernelIdeal.main (F := Bits) = Cert.Kernel.main (F := Bits) := rfl

end Cert.Fused

end
-- ==== Proof.Frames.lean ====
/-
  The frames of the printed kernel and of its idealization, and the two named literals.
-/
module

public import proofs.«01_k».proof.Defs
public import proofs.«01_k».proof.Proof.Gen.Kernel
public import proofs.«01_k».proof.Proof.Frame
public import proofs.«01_k».proof.Proof.SameMain

@[expose] public section

noncomputable section

namespace Cert.Fused

open Idealize.ShloMosaic Idealize.SL.Sem

theorem frame_ideal : Cert.quiescent_KernelIdeal := fun m g _ =>
  (θ_run (Cert.KernelIdeal.defs (F := Ideal)) (onTc (Cert.KernelIdeal.main (F := Ideal))) ⟨m, fun _ => 0, g⟩).mono
    (fun _ h => ⟨fun c => (h.1 c).2, h.2⟩) (run_frame (F := Ideal) m g)

/-- The ledger's entries: the two names have the values the table gives them. -/
theorem names : Cert.preserves_Kernel_KernelIdeal :=
  ⟨IdealRules.named_const.statement Cert.KernelIdeal.κ "inv_plane" .f32 0x37A72F05#32 ((50176⁻¹ : ℝ) : EReal) rfl,
    IdealRules.named_const.statement Cert.KernelIdeal.κ "third" .f32 0x3EAAAAAB#32 ((3⁻¹ : ℝ) : EReal) rfl⟩

attribute [local instance] literal

set_option maxHeartbeats 4000000

/-- What is known of a run of the idealization at bit patterns is known of the printed kernel's. -/
theorem run_of (s : MemSt Cert.Kernel.nD Cert.Kernel.τ Cert.Kernel.sig (Elt Bits)) (Q : PUnit × MemSt Cert.Kernel.nD Cert.Kernel.τ Cert.Kernel.sig (Elt Bits) → Prop)
    (h : θ_run (Cert.KernelIdeal.defs (F := Bits)) (onTc (Cert.KernelIdeal.main (F := Bits))) s Q) :
    θ_run (Cert.Kernel.defs (F := Bits)) (onTc (Cert.Kernel.main (F := Bits))) s Q :=
  (congrArg₂ (fun D M => θ_run D (onTc (τ := Cert.Kernel.τ) M) s Q) defs_eq main_eq).mp h

theorem frame_kernel : Cert.quiescent_Kernel := fun m g _ => run_of _ _
  ((θ_run (Cert.KernelIdeal.defs (F := Bits)) (onTc (Cert.KernelIdeal.main (F := Bits))) ⟨m, fun _ => 0, g⟩).mono
    (fun _ h => ⟨fun c => (h.1 c).2, h.2⟩) (run_frame (F := Bits) m g))

end Cert.Fused

end
-- ==== Proof.Finite.lean ====
module

public import proofs.«01_k».proof.Defs
public import Idealize.ShloMosaic.Lib.ReduceAll
public import Idealize.ShloMosaic.Lib.Pointwise

@[expose] public section

set_option maxRecDepth 16384
noncomputable section

/-!
# What the precondition gives

Each float argument it names is, at every index, a real number, and each box's area is not zero.
-/

namespace Cert.Fused.Finite

open Idealize.ShloMosaic Cert.Pre_finite_nonempty

theorem facts : Cert.Pre_finite_nonempty.Facts := by constructor <;> decide

instance : Subsingleton S_.Idx := ⟨fun a b => funext fun k => k.elim0⟩

/-- An array whose absolute values are all below infinity is of real numbers. -/
theorem real_of {s : Shape} {axes : List (Fin s.rank)} (x : FVec Ideal s .f32) (hb : S_.BroadcastsInDim s (![] : Fin 0 → Fin s.rank)) (hr : s.ReducesTo axes S_)
    (hu : 0 < S_.numel) (j : S_.Idx)
    (h : Host.reduce IntOp.andi (cmpf .olt (Host.absf x) (broadcastInDim s ![] hb (constant (F := Ideal) S_ .f32 0x7F800000#32))) (constantI S_ 1 1#1) hr hu j = 1#1) (i : s.Idx) :
    x i = ((EReal.toReal (x i) : ℝ) : EReal) := by
  have h' := Host.reduce_andi_all _ _ hr hu j h i
  have hlt : (max (x i) (-(x i)) : EReal) < ⊤ := by
    have htop : Ideal.ofBits .f32 0x7F800000#32 = ⊤ := by simp [Ideal.ofBits, Ideal.ieee]
    have h2 : Ideal.cmp .olt (max (x i : EReal) (-(x i : EReal))) (Ideal.ofBits .f32 0x7F800000#32) = 1#1 := h'
    rw [htop] at h2
    unfold Ideal.cmp at h2
    by_contra hn
    simp [hn] at h2
  refine (EReal.coe_toReal (fun e => ?_) (fun e => ?_)).symm
  · rw [e] at hlt; simp at hlt
  · rw [e] at hlt; simp at hlt

theorem of_andi {a b : BitVec 1} (h : IntOp.andi a b = 1#1) : a = 1#1 ∧ b = 1#1 := by
  revert h; revert a b; decide

variable [Facts]

/-- The arguments the precondition names are of real numbers. -/
theorem reals (x0 : FVec Ideal S8x3x20x224x224 .f32) (x2 : IVec S8x20x2x2 32) (x1 : FVec Ideal S8 .f32) (x3 : FVec Ideal S8x20x1536 .f32) (x4 : FVec Ideal S1536x1536 .f32) (x5 : FVec Ideal S1536 .f32) (x6 : FVec Ideal S1536x1 .f32) (x7 : FVec Ideal S1536 .f32) (x8 : FVec Ideal S1x20x1536 .f32) (x9 : FVec Ideal S1x5x1x1536 .f32) (x10 : FVec Ideal S1536 .f32) (x11 : FVec Ideal S1536 .f32) (x12 : FVec Ideal S4608x1536 .f32) (x13 : FVec Ideal S1536x1536 .f32) (x14 : FVec Ideal S1536 .f32) (x15 : FVec Ideal S1536x1536 .f32) (x16 : FVec Ideal S1536 .f32)
    (h : Cert.Pre_finite_nonempty.fn (F := Ideal) x0 x1 x2 x3 x4 x5 x6 x7 x8 x9 x10 x11 x12 x13 x14 x15 x16 = fun _ => 1#1) :
    (∀ i, x1 i = ((EReal.toReal (x1 i) : ℝ) : EReal)) ∧ (∀ i, x3 i = ((EReal.toReal (x3 i) : ℝ) : EReal)) ∧ (∀ i, x4 i = ((EReal.toReal (x4 i) : ℝ) : EReal)) ∧ (∀ i, x5 i = ((EReal.toReal (x5 i) : ℝ) : EReal)) ∧ (∀ i, x6 i = ((EReal.toReal (x6 i) : ℝ) : EReal)) ∧ (∀ i, x7 i = ((EReal.toReal (x7 i) : ℝ) : EReal)) ∧ (∀ i, x8 i = ((EReal.toReal (x8 i) : ℝ) : EReal)) ∧ (∀ i, x9 i = ((EReal.toReal (x9 i) : ℝ) : EReal)) ∧ (∀ i, x10 i = ((EReal.toReal (x10 i) : ℝ) : EReal)) ∧ (∀ i, x11 i = ((EReal.toReal (x11 i) : ℝ) : EReal)) ∧ (∀ i, x12 i = ((EReal.toReal (x12 i) : ℝ) : EReal)) ∧ (∀ i, x13 i = ((EReal.toReal (x13 i) : ℝ) : EReal)) ∧ (∀ i, x14 i = ((EReal.toReal (x14 i) : ℝ) : EReal)) ∧ (∀ i, x15 i = ((EReal.toReal (x15 i) : ℝ) : EReal)) ∧ (∀ i, x16 i = ((EReal.toReal (x16 i) : ℝ) : EReal)) := by
  have h0 := congrFun h (fun k => k.elim0)
  dsimp only [Cert.Pre_finite_nonempty.fn, fn_part1, fn_part2, fn_part3, fn_part4, fn_part5] at h0
  obtain ⟨h0, -⟩ := of_andi h0
  obtain ⟨h0, h16⟩ := of_andi h0
  obtain ⟨h0, h15⟩ := of_andi h0
  obtain ⟨h0, h14⟩ := of_andi h0
  obtain ⟨h0, h13⟩ := of_andi h0
  obtain ⟨h0, h12⟩ := of_andi h0
  obtain ⟨h0, h11⟩ := of_andi h0
  obtain ⟨h0, h10⟩ := of_andi h0
  obtain ⟨h0, h9⟩ := of_andi h0
  obtain ⟨h0, h8⟩ := of_andi h0
  obtain ⟨h0, h7⟩ := of_andi h0
  obtain ⟨h0, h6⟩ := of_andi h0
  obtain ⟨h0, h5⟩ := of_andi h0
  obtain ⟨h0, h4⟩ := of_andi h0
  obtain ⟨h0, h3⟩ := of_andi h0
  obtain ⟨h0, h1⟩ := of_andi h0
  exact ⟨real_of x1 _ _ _ _ h1, real_of x3 _ _ _ _ h3, real_of x4 _ _ _ _ h4, real_of x5 _ _ _ _ h5, real_of x6 _ _ _ _ h6, real_of x7 _ _ _ _ h7, real_of x8 _ _ _ _ h8, real_of x9 _ _ _ _ h9, real_of x10 _ _ _ _ h10, real_of x11 _ _ _ _ h11, real_of x12 _ _ _ _ h12, real_of x13 _ _ _ _ h13, real_of x14 _ _ _ _ h14, real_of x15 _ _ _ _ h15, real_of x16 _ _ _ _ h16⟩

/-- The bit that says a box's area is not zero. -/
theorem area_bit (x2 : IVec S8x20x2x2 32) (b : Fin 8) (f : Fin 20) :
    cmpi .ne (muli
        (subi (shapeCast S8x20 (extractStridedSlice S8x20x1x1 ![0, 0, 1, 0] x2 Facts.slices_S8x20x2x2_S8x20x1x1_0_0_1_0) Facts.shapeCasts_S8x20x1x1_S8x20)
          (shapeCast S8x20 (extractStridedSlice S8x20x1x1 ![0, 0, 0, 0] x2 Facts.slices_S8x20x2x2_S8x20x1x1_0_0_0_0) Facts.shapeCasts_S8x20x1x1_S8x20))
        (subi (shapeCast S8x20 (extractStridedSlice S8x20x1x1 ![0, 0, 1, 1] x2 Facts.slices_S8x20x2x2_S8x20x1x1_0_0_1_1) Facts.shapeCasts_S8x20x1x1_S8x20)
          (shapeCast S8x20 (extractStridedSlice S8x20x1x1 ![0, 0, 0, 1] x2 Facts.slices_S8x20x2x2_S8x20x1x1_0_0_0_1) Facts.shapeCasts_S8x20x1x1_S8x20)))
      (broadcastInDim S8x20 ![] Facts.bcast_S_S8x20 (constantI S_ 32 0#32)) (ix2 b f)
      = IntOp.cmpi .ne (IntOp.muli (IntOp.subi (x2 (ix4 b f 1 0)) (x2 (ix4 b f 0 0))) (IntOp.subi (x2 (ix4 b f 1 1)) (x2 (ix4 b f 0 1)))) 0#32 := by
  pointwise

/-- No box's area is zero. -/
theorem areas (x0 : FVec Ideal S8x3x20x224x224 .f32) (x2 : IVec S8x20x2x2 32) (x1 : FVec Ideal S8 .f32) (x3 : FVec Ideal S8x20x1536 .f32) (x4 : FVec Ideal S1536x1536 .f32) (x5 : FVec Ideal S1536 .f32) (x6 : FVec Ideal S1536x1 .f32) (x7 : FVec Ideal S1536 .f32) (x8 : FVec Ideal S1x20x1536 .f32) (x9 : FVec Ideal S1x5x1x1536 .f32) (x10 : FVec Ideal S1536 .f32) (x11 : FVec Ideal S1536 .f32) (x12 : FVec Ideal S4608x1536 .f32) (x13 : FVec Ideal S1536x1536 .f32) (x14 : FVec Ideal S1536 .f32) (x15 : FVec Ideal S1536x1536 .f32) (x16 : FVec Ideal S1536 .f32)
    (h : Cert.Pre_finite_nonempty.fn (F := Ideal) x0 x1 x2 x3 x4 x5 x6 x7 x8 x9 x10 x11 x12 x13 x14 x15 x16 = fun _ => 1#1)
    (b : Fin 8) (f : Fin 20) : IntOp.muli (IntOp.subi (x2 (ix4 b f 1 0)) (x2 (ix4 b f 0 0))) (IntOp.subi (x2 (ix4 b f 1 1)) (x2 (ix4 b f 0 1))) ≠ 0#32 := by
  have h0 := congrFun h (fun k => k.elim0)
  dsimp only [Cert.Pre_finite_nonempty.fn, fn_part1, fn_part2, fn_part3, fn_part4, fn_part5] at h0
  obtain ⟨-, h2⟩ := of_andi h0
  have h3 := Host.reduce_andi_all _ _ _ _ _ h2 (ix2 b f)
  intro e
  rw [area_bit, e] at h3
  exact absurd h3 (by decide)

end Cert.Fused.Finite
-- ==== Proof.Plumb.lean ====
module

public import proofs.«01_k».proof.Proof.Frame
public import Idealize.ShloMosaic.Lib.Pipeline.ValueKit

@[expose] public section

set_option maxRecDepth 16384
noncomputable section

/-!
# From the arrays to the stretches and back

Which elements of the arrays the blocks of each point are, and that the third and fourth results end as the one block written back.
-/

namespace Cert.Fused

open Cert.KernelIdeal Cert.KernelIdeal.Gen
open Idealize.ShloMosaic Idealize.ShloMosaic.TcCoe
open Idealize.ShloMosaic.Pipeline (Window)

variable {F : FTy → Type} [FloatOps F] [Named F]
variable (V : Valuation τ sig (Elt F)) (a : (pcfg0 (F := F)).Adm) (c : Dev nD)

/-! ### Blocks that are the whole array -/

theorem at_0 : ∀ (t : Fin grid0.N) (k : Fin 1), cc0_transform_0 (grid0.coords t) k = 0 := by decide +kernel
theorem b2_eq (t : Fin grid0.N) (y : S8.Idx) : (ins V a).b2 t y = V (Proc.devRef .tc main_arg1) y := by
  show V (Proc.devRef .tc main_arg1) _ = _
  congr 1
  funext k
  exact Fin.ext (Window.rect_emb_val_of_index_zero (win0 a 0) t k (at_0 t k) y)
theorem at_3 : ∀ (t : Fin grid0.N) (k : Fin 3), cc0_transform_3 (grid0.coords t) k = 0 := by decide +kernel
theorem b5_eq (t : Fin grid0.N) (y : S8x20x1536.Idx) : (ins V a).b5 t y = V (Proc.devRef .tc main_arg3) y := by
  show V (Proc.devRef .tc main_arg3) _ = _
  congr 1
  funext k
  exact Fin.ext (Window.rect_emb_val_of_index_zero (win0 a 3) t k (at_3 t k) y)
theorem at_5 : ∀ (t : Fin grid0.N) (k : Fin 2), cc0_transform_5 (grid0.coords t) k = 0 := by decide +kernel
theorem b7_eq (t : Fin grid0.N) (y : S1x1536.Idx) : (ins V a).b7 t y = V (Proc.devRef .tc main_v1) y := by
  show V (Proc.devRef .tc main_v1) _ = _
  congr 1
  funext k
  exact Fin.ext (Window.rect_emb_val_of_index_zero (win0 a 5) t k (at_5 t k) y)
theorem at_6 : ∀ (t : Fin grid0.N) (k : Fin 2), cc0_transform_6 (grid0.coords t) k = 0 := by decide +kernel
theorem b8_eq (t : Fin grid0.N) (y : S20x1536.Idx) : (ins V a).b8 t y = V (Proc.devRef .tc main_v4) y := by
  show V (Proc.devRef .tc main_v4) _ = _
  congr 1
  funext k
  exact Fin.ext (Window.rect_emb_val_of_index_zero (win0 a 6) t k (at_6 t k) y)
theorem at_7 : ∀ (t : Fin grid0.N) (k : Fin 2), cc0_transform_7 (grid0.coords t) k = 0 := by decide +kernel
theorem b9_eq (t : Fin grid0.N) (y : S1x1536.Idx) : (ins V a).b9 t y = V (Proc.devRef .tc main_v3) y := by
  show V (Proc.devRef .tc main_v3) _ = _
  congr 1
  funext k
  exact Fin.ext (Window.rect_emb_val_of_index_zero (win0 a 7) t k (at_7 t k) y)
theorem at_8 : ∀ (t : Fin grid0.N) (k : Fin 2), cc0_transform_8 (grid0.coords t) k = 0 := by decide +kernel
theorem b10_eq (t : Fin grid0.N) (y : S1x1536.Idx) : (ins V a).b10 t y = V (Proc.devRef .tc main_v2) y := by
  show V (Proc.devRef .tc main_v2) _ = _
  congr 1
  funext k
  exact Fin.ext (Window.rect_emb_val_of_index_zero (win0 a 8) t k (at_8 t k) y)
theorem at_9 : ∀ (t : Fin grid0.N) (k : Fin 2), cc0_transform_9 (grid0.coords t) k = 0 := by decide +kernel
theorem b11_eq (t : Fin grid0.N) (y : S5x1536.Idx) : (ins V a).b11 t y = V (Proc.devRef .tc main_v5) y := by
  show V (Proc.devRef .tc main_v5) _ = _
  congr 1
  funext k
  exact Fin.ext (Window.rect_emb_val_of_index_zero (win0 a 9) t k (at_9 t k) y)
theorem at_10 : ∀ (t : Fin grid0.N) (k : Fin 2), cc0_transform_10 (grid0.coords t) k = 0 := by decide +kernel
theorem b12_eq (t : Fin grid0.N) (y : S1x1536.Idx) : (ins V a).b12 t y = V (Proc.devRef .tc main_v6) y := by
  show V (Proc.devRef .tc main_v6) _ = _
  congr 1
  funext k
  exact Fin.ext (Window.rect_emb_val_of_index_zero (win0 a 10) t k (at_10 t k) y)
theorem at_11 : ∀ (t : Fin grid0.N) (k : Fin 2), cc0_transform_11 (grid0.coords t) k = 0 := by decide +kernel
theorem b13_eq (t : Fin grid0.N) (y : S1x1536.Idx) : (ins V a).b13 t y = V (Proc.devRef .tc main_v7) y := by
  show V (Proc.devRef .tc main_v7) _ = _
  congr 1
  funext k
  exact Fin.ext (Window.rect_emb_val_of_index_zero (win0 a 11) t k (at_11 t k) y)
theorem at_14 : ∀ (t : Fin grid0.N) (k : Fin 2), cc0_transform_14 (grid0.coords t) k = 0 := by decide +kernel
theorem b16_eq (t : Fin grid0.N) (y : S1x1536.Idx) : (ins V a).b16 t y = V (Proc.devRef .tc main_v8) y := by
  show V (Proc.devRef .tc main_v8) _ = _
  congr 1
  funext k
  exact Fin.ext (Window.rect_emb_val_of_index_zero (win0 a 14) t k (at_14 t k) y)
theorem at_16 : ∀ (t : Fin grid0.N) (k : Fin 2), cc0_transform_16 (grid0.coords t) k = 0 := by decide +kernel
theorem b18_eq (t : Fin grid0.N) (y : S1x1536.Idx) : (ins V a).b18 t y = V (Proc.devRef .tc main_v9) y := by
  show V (Proc.devRef .tc main_v9) _ = _
  congr 1
  funext k
  exact Fin.ext (Window.rect_emb_val_of_index_zero (win0 a 16) t k (at_16 t k) y)

/-! ### Blocks of rows -/

theorem at_4 : ∀ t : Fin grid0.N, cc0_transform_4 (grid0.coords t) 0 = min t.val 11 ∧ cc0_transform_4 (grid0.coords t) 1 = 0 := by decide +kernel
theorem b6_eq (t : Fin grid0.N) (y : Fin 128) (d : Fin 1536) :
    (ins V a).b6 t (ix2 y d) = V (Proc.devRef .tc main_arg4) (ix2 (⟨min t.val 11 * 128 + y.val, by omega⟩ : Fin 1536) d) := by
  show V (Proc.devRef .tc main_arg4) _ = _
  congr 1
  funext k
  apply Fin.ext
  revert k
  refine Fin.forall_fin_two.mpr ⟨?_, ?_⟩
  · refine (Window.rect_emb_val (win0 a 4) t (ix2 y d) 0 rfl).trans ?_
    show cc0_transform_4 (grid0.coords t) 0 * 128 + y.val = min t.val 11 * 128 + y.val
    rw [(at_4 t).1]
  · exact Window.rect_emb_val_of_index_zero (win0 a 4) t 1 (at_4 t).2 (ix2 y d)
theorem at_12 : ∀ t : Fin grid0.N, cc0_transform_12 (grid0.coords t) 0 = min t.val 15 ∧ cc0_transform_12 (grid0.coords t) 1 = 0 := by decide +kernel
theorem b14_eq (t : Fin grid0.N) (y : Fin 288) (d : Fin 1536) :
    (ins V a).b14 t (ix2 y d) = V (Proc.devRef .tc main_arg12) (ix2 (⟨min t.val 15 * 288 + y.val, by omega⟩ : Fin 4608) d) := by
  show V (Proc.devRef .tc main_arg12) _ = _
  congr 1
  funext k
  apply Fin.ext
  revert k
  refine Fin.forall_fin_two.mpr ⟨?_, ?_⟩
  · refine (Window.rect_emb_val (win0 a 12) t (ix2 y d) 0 rfl).trans ?_
    show cc0_transform_12 (grid0.coords t) 0 * 288 + y.val = min t.val 15 * 288 + y.val
    rw [(at_12 t).1]
  · exact Window.rect_emb_val_of_index_zero (win0 a 12) t 1 (at_12 t).2 (ix2 y d)
theorem at_13 : ∀ t : Fin grid0.N, cc0_transform_13 (grid0.coords t) 0 = min t.val 11 ∧ cc0_transform_13 (grid0.coords t) 1 = 0 := by decide +kernel
theorem b15_eq (t : Fin grid0.N) (y : Fin 128) (d : Fin 1536) :
    (ins V a).b15 t (ix2 y d) = V (Proc.devRef .tc main_arg13) (ix2 (⟨min t.val 11 * 128 + y.val, by omega⟩ : Fin 1536) d) := by
  show V (Proc.devRef .tc main_arg13) _ = _
  congr 1
  funext k
  apply Fin.ext
  revert k
  refine Fin.forall_fin_two.mpr ⟨?_, ?_⟩
  · refine (Window.rect_emb_val (win0 a 13) t (ix2 y d) 0 rfl).trans ?_
    show cc0_transform_13 (grid0.coords t) 0 * 128 + y.val = min t.val 11 * 128 + y.val
    rw [(at_13 t).1]
  · exact Window.rect_emb_val_of_index_zero (win0 a 13) t 1 (at_13 t).2 (ix2 y d)
theorem at_15 : ∀ t : Fin grid0.N, cc0_transform_15 (grid0.coords t) 0 = min t.val 11 ∧ cc0_transform_15 (grid0.coords t) 1 = 0 := by decide +kernel
theorem b17_eq (t : Fin grid0.N) (y : Fin 128) (d : Fin 1536) :
    (ins V a).b17 t (ix2 y d) = V (Proc.devRef .tc main_arg15) (ix2 (⟨min t.val 11 * 128 + y.val, by omega⟩ : Fin 1536) d) := by
  show V (Proc.devRef .tc main_arg15) _ = _
  congr 1
  funext k
  apply Fin.ext
  revert k
  refine Fin.forall_fin_two.mpr ⟨?_, ?_⟩
  · refine (Window.rect_emb_val (win0 a 15) t (ix2 y d) 0 rfl).trans ?_
    show cc0_transform_15 (grid0.coords t) 0 * 128 + y.val = min t.val 11 * 128 + y.val
    rw [(at_15 t).1]
  · exact Window.rect_emb_val_of_index_zero (win0 a 15) t 1 (at_15 t).2 (ix2 y d)

/-! ### The results -/

theorem at_19 : ∀ (t : Fin grid0.N) (k : Fin 4), cc0_transform_19 (grid0.coords t) k = 0 := by decide +kernel
theorem at_20 : ∀ (t : Fin grid0.N) (k : Fin 2), cc0_transform_20 (grid0.coords t) k = 0 := by decide +kernel

theorem whole_19 : (win0 a 19).WholeAt (pt 20) :=
  ⟨(flush_19 a _).mpr (by decide), fun t h => eq_pt20 t ((flush_19 a t).mp h), fun k => ⟨at_19 (pt 20) k, rfl⟩⟩
theorem whole_20 : (win0 a 20).WholeAt (pt 20) :=
  ⟨(flush_20 a _).mpr (by decide), fun t h => eq_pt20 t ((flush_20 a t).mp h), fun k => ⟨at_20 (pt 20) k, rfl⟩⟩

theorem arr_19 : (dat V a c).arrAt 19 21 = gAt (ins V a) :=
  (dat V a c).arrAt_eq_of_after_last 19 (pt 20) (whole_19 a) _ fun j => by
    blk_simp
    rfl
theorem arr_20 : (dat V a c).arrAt 20 21 = pooledAt (ins V a) :=
  (dat V a c).arrAt_eq_of_after_last 20 (pt 20) (whole_20 a) _ fun j => by
    blk_simp
    rfl

end Cert.Fused
-- ==== Proof.Model.lean ====
module

public import Idealize.ShloMosaic.Lib.Pointwise

@[expose] public section

set_option maxRecDepth 16384
noncomputable section

namespace Cert.Fused.Model

open Idealize.ShloMosaic

/-! ## Sums and products of real numbers among the extended reals -/

theorem coe_sum {ι : Type} [Fintype ι] (f : ι → ℝ) : (∑ k, ((f k : ℝ) : EReal)) = ((∑ k, f k : ℝ) : EReal) :=
  (map_sum (⟨⟨Real.toEReal, EReal.coe_zero⟩, EReal.coe_add⟩ : ℝ →+ EReal) f Finset.univ).symm

theorem coe_dot {ι : Type} [Fintype ι] (f g : ι → ℝ) : (∑ k, ((f k : ℝ) : EReal) * ((g k : ℝ) : EReal)) = ((∑ k, f k * g k : ℝ) : EReal) := by
  rw [← coe_sum]; exact Finset.sum_congr rfl fun k _ => (EReal.coe_mul _ _).symm

/-- The width of a token row, as its literal. -/
theorem width_eq : Ideal.ofBits .f32 0x44C00000#32 = ((1536 : ℝ) : EReal) := by
  have h : Ideal.ofBits .f32 0x44C00000#32 = (((12582912 : ℝ) * (2 ^ 13)⁻¹ : ℝ) : EReal) := by
    rw [EReal.coe_mul]
    simp [Ideal.ofBits, Ideal.ieee]
    try rfl
  rw [h]; norm_num

/-- The literal under the root, and the score's factor. -/
def eps : ℝ := 10995116 * (2 ^ 40)⁻¹
def fac : ℝ := 11863283 * (2 ^ 27)⁻¹

theorem eps_eq : Ideal.ofBits .f32 0x3727C5AC#32 = ((eps : ℝ) : EReal) := by
  rw [eps, EReal.coe_mul]
  simp [Ideal.ofBits, Ideal.ieee]

theorem fac_eq : Ideal.ofBits .f32 0x3DB504F3#32 = ((fac : ℝ) : EReal) := by
  rw [fac, EReal.coe_mul]
  simp [Ideal.ofBits, Ideal.ieee]

theorem eps_pos : 0 < eps := by unfold eps; positivity

/-! ## One pass over a group of five tokens -/

/-- The weights of a pass. -/
structure Wt where
  lw : Fin 1536 → ℝ
  lb : Fin 1536 → ℝ
  wq : Fin 4608 → Fin 1536 → ℝ
  wp : Fin 1536 → Fin 1536 → ℝ
  bp : Fin 1536 → ℝ
  wt : Fin 1536 → Fin 1536 → ℝ
  bt : Fin 1536 → ℝ

def mean (x : Fin 1536 → ℝ) : ℝ := (∑ k, x k) * (1 / 1536)
def vari (x : Fin 1536 → ℝ) : ℝ := (∑ k, (x k - mean x) * (x k - mean x)) * (1 / 1536)
theorem vari_eps_pos (x : Fin 1536 → ℝ) : 0 < vari x + eps := by
  have h : 0 ≤ vari x := mul_nonneg (Finset.sum_nonneg fun k _ => mul_self_nonneg _) (by norm_num)
  have := eps_pos
  linarith

/-- The norm of a row. -/
def nrm (W : Wt) (x : Fin 1536 → ℝ) (d : Fin 1536) : ℝ := (x d - mean x) * (Real.sqrt (vari x + eps))⁻¹ * W.lw d + W.lb d
/-- Its queries, keys and values. -/
def pr (W : Wt) (x : Fin 1536 → ℝ) (c : Fin 4608) : ℝ := ∑ d, nrm W x d * W.wq c d
def qi (h : Fin 12) (e : Fin 128) : Fin 4608 := ⟨128 * h.val + e.val, by omega⟩
def ki (h : Fin 12) (e : Fin 128) : Fin 4608 := ⟨1536 + 128 * h.val + e.val, by omega⟩
def vi (h : Fin 12) (e : Fin 128) : Fin 4608 := ⟨3072 + 128 * h.val + e.val, by omega⟩
def score (W : Wt) (x y : Fin 1536 → ℝ) (h : Fin 12) : ℝ := (∑ e, pr W x (qi h e) * pr W y (ki h e)) * fac
def att (W : Wt) (G : Fin 5 → Fin 1536 → ℝ) (i : Fin 5) (h : Fin 12) (e : Fin 128) : ℝ :=
  (∑ j, Real.exp (score W (G i) (G j) h) * pr W (G j) (vi h e)) * (∑ j, Real.exp (score W (G i) (G j) h))⁻¹
def heads (W : Wt) (G : Fin 5 → Fin 1536 → ℝ) (i : Fin 5) (c : Fin 1536) : ℝ :=
  att W G i ⟨c.val / 128, by omega⟩ ⟨c.val % 128, Nat.mod_lt _ (by decide)⟩
def proj (W : Wt) (G : Fin 5 → Fin 1536 → ℝ) (i : Fin 5) (d : Fin 1536) : ℝ := (∑ c, heads W G i c * W.wp d c) + W.bp d
def upd (W : Wt) (G : Fin 5 → Fin 1536 → ℝ) (i : Fin 5) (c : Fin 1536) : ℝ := ((∑ d, proj W G i d * W.wt c d) + W.bt c) + G i c

/-- The group whose first token a group's first token becomes: the one before it in its batch of five, the last for the first. -/
def prev (g : Fin 40) : Fin 40 := ⟨if g.val % 5 = 0 then g.val + 4 else g.val - 1, by split <;> omega⟩
/-- All groups after one pass. -/
def step (W : Wt) (T : Fin 40 → Fin 5 → Fin 1536 → ℝ) (g : Fin 40) (k : Fin 5) : Fin 1536 → ℝ :=
  if k.val = 0 then upd W (T (prev g)) k else upd W (T g) k

/-! ## The two hundred rows -/

def grp (r : Fin 200) : Fin 40 := ⟨if r.val < 40 then r.val else (r.val - 40) / 4, by split <;> omega⟩
def mem (r : Fin 200) : Fin 5 := ⟨if r.val < 40 then 0 else (r.val - 40) % 4 + 1, by split <;> omega⟩
def at' (g : Fin 40) (k : Fin 5) : Fin 200 := ⟨if k.val = 0 then g.val else 40 + 4 * g.val + (k.val - 1), by split <;> omega⟩

theorem grp_at (g : Fin 40) (k : Fin 5) : grp (at' g k) = g := by
  apply Fin.ext; simp only [grp, at']; split_ifs <;> omega
theorem mem_at (g : Fin 40) (k : Fin 5) : mem (at' g k) = k := by
  apply Fin.ext; simp only [mem, at']; split_ifs <;> omega
theorem at_grp_mem (r : Fin 200) : at' (grp r) (mem r) = r := by
  revert r; decide +kernel

def rows : Fin 40 × Fin 5 ≃ Fin 200 where
  toFun p := at' p.1 p.2
  invFun r := (grp r, mem r)
  left_inv p := by simp [grp_at, mem_at]
  right_inv r := at_grp_mem r

/-- A sum over all rows in which only a group's rows count. -/
theorem sum_group (f : Fin 200 → ℝ) (g : Fin 40) : (∑ r, if g = grp r then f r else 0) = ∑ k, f (at' g k) := by
  rw [← Equiv.sum_comp rows, Fintype.sum_prod_type]
  simp only [rows, Equiv.coe_fn_mk, grp_at]
  rw [Finset.sum_eq_single g]
  · simp
  · intro b _ hb; simp [Ne.symm hb]
  · simp

/-! ## The softmax of the reference, which subtracts the greatest score -/

theorem softmax_shift (s v : Fin 5 → ℝ) (M : ℝ) :
    (∑ j, (Real.exp (s j - M) * (1 / ∑ j, Real.exp (s j - M))) * v j) = (∑ j, Real.exp (s j) * v j) * (∑ j, Real.exp (s j))⁻¹ := by
  have h (j : Fin 5) : Real.exp (s j - M) = Real.exp (s j) * Real.exp (-M) := by rw [← Real.exp_add]; rfl
  have hM : Real.exp (-M) ≠ 0 := (Real.exp_pos _).ne'
  have hS : (∑ j, Real.exp (s j)) ≠ 0 := (Finset.sum_pos (fun j _ => Real.exp_pos _) ⟨0, Finset.mem_univ _⟩).ne'
  simp only [h]
  rw [← Finset.sum_mul, Finset.sum_mul (f := fun j => Real.exp (s j) * v j)]
  refine Finset.sum_congr rfl fun j _ => ?_
  field_simp

end Cert.Fused.Model
-- ==== Proof.PassVal.lean ====
module

public import proofs.«01_k».proof.Proof.Pool
public import proofs.«01_k».proof.Proof.Model

@[expose] public section

set_option maxRecDepth 16384
noncomputable section

namespace Cert.Fused

open Cert.KernelIdeal Cert.KernelIdeal.Gen
open Idealize.ShloMosaic Idealize.ShloMosaic.TcCoe
open Model

/-! ## The norm and the first product -/

theorem tok_at (cl : Vec Ideal S40x1536 .f32) (gr : Vec Ideal S160x1536 .f32) (T : Fin 40 → Fin 5 → Fin 1536 → ℝ)
    (hcl : ∀ g d, cl (ix2 g d) = ((T g 0 d : ℝ) : EReal))
    (hgr : ∀ (r : Fin 160) d, gr (ix2 r d) = ((T ⟨r.val / 4, by omega⟩ ⟨r.val % 4 + 1, by omega⟩ d : ℝ) : EReal))
    (r : Fin 200) (d : Fin 1536) : k0_pay88 cl gr (ix2 r d) = ((T (grp r) (mem r) d : ℝ) : EReal) := by
  pointwise [k0_pay88]
  split_ifs with h h2
  · refine (hcl _ _).trans ?_
    have e1 : (⟨r.val, h⟩ : Fin 40) = grp r := Fin.ext (by simp [grp, h])
    have e2 : (0 : Fin 5) = mem r := Fin.ext (by simp [mem, h])
    rw [e1, e2]
  · refine (hgr _ _).trans ?_
    have e1 : (⟨(r.val - 40) / 4, by omega⟩ : Fin 40) = grp r := Fin.ext (by simp [grp, h])
    have e2 : (⟨(r.val - 40) % 4 + 1, by omega⟩ : Fin 5) = mem r := Fin.ext (by simp [mem, h])
    rw [← e1, ← e2]
  · exact absurd rfl h2

theorem div_width (x : ℝ) : Ideal.div (x : EReal) (Ideal.ofBits .f32 0x44C00000#32) = ((x * (1 / 1536) : ℝ) : EReal) := by
  rw [width_eq, Ideal.div_coe (by norm_num), ← EReal.coe_mul]

theorem centred_at (cl : Vec Ideal S40x1536 .f32) (gr : Vec Ideal S160x1536 .f32) (X : Fin 200 → Fin 1536 → ℝ)
    (hX : ∀ r d, k0_pay88 cl gr (ix2 r d) = ((X r d : ℝ) : EReal)) (r : Fin 200) (d : Fin 1536) :
    k0_pay89 cl gr (ix2 r d) = ((X r d - mean (X r) : ℝ) : EReal) := by
  pointwise [k0_pay89]
  simp only [hX, coe_sum, div_width]
  rfl

theorem spread_at (cl : Vec Ideal S40x1536 .f32) (gr : Vec Ideal S160x1536 .f32) (X : Fin 200 → Fin 1536 → ℝ)
    (hX : ∀ r d, k0_pay88 cl gr (ix2 r d) = ((X r d : ℝ) : EReal)) (r : Fin 200) (u : Fin 1) :
    k0_pay90 cl gr (ix2 r u) = ((vari (X r) + eps : ℝ) : EReal) := by
  pointwise [k0_pay90]
  simp only [centred_at cl gr X hX, coe_dot, div_width, eps_eq]
  rfl

theorem rsqrt_pos (x : ℝ) (h : 0 < x) : Ideal.rsqrt (x : EReal) = (((Real.sqrt x)⁻¹ : ℝ) : EReal) := by
  rw [Ideal.rsqrt_coe, if_neg (not_lt.mpr h.le), if_neg h.ne']

theorem qkv_at (W : Wt) (v28 v30 : FVec Ideal S1x1536 .f32) (v59 : FVec Ideal S200x1536 .f32) (v66 : FVec Ideal S200x1 .f32) (v75 : Vec Ideal S4608x1536 .bf16)
    (X : Fin 200 → Fin 1536 → ℝ)
    (h28 : ∀ u d, v28 (ix2 u d) = ((W.lw d : ℝ) : EReal)) (h30 : ∀ u d, v30 (ix2 u d) = ((W.lb d : ℝ) : EReal))
    (h59 : ∀ r d, v59 (ix2 r d) = ((X r d - mean (X r) : ℝ) : EReal)) (h66 : ∀ r u, v66 (ix2 r u) = ((vari (X r) + eps : ℝ) : EReal))
    (h75 : ∀ c d, v75 (ix2 c d) = ((W.wq c d : ℝ) : EReal)) (r : Fin 200) (c : Fin 4608) :
    k0_pay91 v28 v30 v59 v66 v75 (ix2 r c) = ((pr W (X r) c : ℝ) : EReal) := by
  pointwise [k0_pay91]
  simp only [h28, h30, h59, h66, h75, rsqrt_pos _ (vari_eps_pos _), ← EReal.coe_mul, ← EReal.coe_add, coe_sum]
  rfl

/-! ## One head -/

theorem mask_word : ∀ r : Fin 200, Scalar.select (IntOp.cmpi .slt (BitVec.ofNat 32 r.val) 40#32) (BitVec.ofNat 32 r.val) (IntOp.divsi .vector (IntOp.subi (BitVec.ofNat 32 r.val) 40#32) 4#32) = BitVec.ofNat 32 (grp r).val := by
  decide +kernel

theorem mask_at (r s : Fin 200) : (k0_pay86 (F := Ideal)) (ix2 r s) = ((if grp r = grp s then 1 else 0 : ℝ) : EReal) := by
  pointwise [k0_pay86]
  rw [mask_word, mask_word]
  by_cases h : grp r = grp s
  · rw [h]
    simp [IntOp.cmpi]
    show (((1#32).toInt : ℝ) : EReal) = 1
    simp
  · have : ¬ (BitVec.ofNat 32 (grp r).val = BitVec.ofNat 32 (grp s).val) := by
      intro e
      apply h
      have := congrArg BitVec.toNat e
      simp only [BitVec.toNat_ofNat] at this
      have h1 := (grp r).isLt
      have h2 := (grp s).isLt
      rw [Nat.mod_eq_of_lt (by omega), Nat.mod_eq_of_lt (by omega)] at this
      exact Fin.ext this
    have hb : (BitVec.ofNat 32 (grp r).val == BitVec.ofNat 32 (grp s).val) = false := beq_eq_false_iff_ne.mpr this
    simp only [IntOp.cmpi, hb, if_neg h]
    show (((0#32).toInt : ℝ) : EReal) = _
    simp

/-- One head: its scores, with the mask of the groups, against the values and a column of ones. -/
theorem head_at (v : FVec Ideal S200x128 .f32) (qk : FVec Ideal S200x200 .f32) (V : Fin 200 → Fin 128 → ℝ) (S : Fin 200 → Fin 200 → ℝ)
    (hv : ∀ r e, v (ix2 r e) = ((V r e : ℝ) : EReal)) (hs : ∀ r s, qk (ix2 r s) = ((S r s : ℝ) : EReal)) (r : Fin 200) (e : Fin 128) :
    k0_pay97 (k0_pay86 (F := Ideal)) (k0_pay87 (F := Ideal)) v qk (k0_pay96 (F := Ideal)) (ix2 r e)
      = (((∑ j, Real.exp (S r (at' (grp r) j) * fac) * V (at' (grp r) j) e) * (∑ j, Real.exp (S r (at' (grp r) j) * fac))⁻¹ : ℝ) : EReal) := by
  pointwise [k0_pay97, k0_pay87, k0_pay96]
  simp only [hv, hs, mask_at, fac_eq, ← EReal.coe_mul, Ideal.exp_coe, coe_sum]
  have f1 : (∑ k, (Real.exp (S r k * fac) * if grp r = grp k then 1 else 0) * V k e) = ∑ j, Real.exp (S r (at' (grp r) j) * fac) * V (at' (grp r) j) e := by
    rw [← sum_group (fun k => Real.exp (S r k * fac) * V k e) (grp r)]
    refine Finset.sum_congr rfl fun k _ => ?_
    split_ifs <;> simp
  have f2 : (∑ k, Real.exp (S r k * fac) * if grp r = grp k then 1 else 0) = ∑ j, Real.exp (S r (at' (grp r) j) * fac) := by
    rw [← sum_group (fun k => Real.exp (S r k * fac)) (grp r)]
    refine Finset.sum_congr rfl fun k _ => ?_
    split_ifs <;> simp
  have hS : (∑ j, Real.exp (S r (at' (grp r) j) * fac)) ≠ 0 := (Finset.sum_pos (fun j _ => Real.exp_pos _) ⟨0, Finset.mem_univ _⟩).ne'
  rw [f1, f2, Ideal.div_coe hS, one_mul, ← EReal.coe_mul, one_div]

/-- A head cut from the queries, keys and values at its columns. -/
theorem cut_at (W : Wt) (X : Fin 200 → Fin 1536 → ℝ) (v76 : FVec Ideal S200x4608 .f32) (h76 : ∀ r c, v76 (ix2 r c) = ((pr W (X r) c : ℝ) : EReal))
    (v : FVec Ideal S200x128 .f32) (qk : FVec Ideal S200x200 .f32) (h : Fin 12)
    (hv : ∀ r e, v (ix2 r e) = v76 (ix2 r (vi h e))) (hs : ∀ r s, qk (ix2 r s) = ∑ e : Fin 128, v76 (ix2 r (qi h e)) * v76 (ix2 s (ki h e)))
    (r : Fin 200) (e : Fin 128) :
    k0_pay97 (k0_pay86 (F := Ideal)) (k0_pay87 (F := Ideal)) v qk (k0_pay96 (F := Ideal)) (ix2 r e) = ((att W (fun j => X (at' (grp r) j)) (mem r) h e : ℝ) : EReal) := by
  refine (head_at v qk (fun r e => pr W (X r) (vi h e)) (fun r s => ∑ e, pr W (X r) (qi h e) * pr W (X s) (ki h e)) ?_ ?_ r e).trans ?_
  · intro r e; rw [hv, h76]
  · intro r s; rw [hs]; simp only [h76, coe_dot]
  · unfold att score
    simp only [at_grp_mem]

theorem head0_at (W : Wt) (X : Fin 200 → Fin 1536 → ℝ) (v76 : FVec Ideal S200x4608 .f32) (h76 : ∀ r c, v76 (ix2 r c) = ((pr W (X r) c : ℝ) : EReal)) (r : Fin 200) (e : Fin 128) :
    k0_pay97 (k0_pay86 (F := Ideal)) (k0_pay87 (F := Ideal)) (extractStridedSlice S200x128 ![0, 3072] v76 slices_S200x4608_o0_3072_S200x128)
      (matmul dot_S200x128_S200x128_S200x200_1_1_0_0_n_n none (extractStridedSlice S200x128 ![0, 0] v76 slices_S200x4608_o0_0_S200x128) (extractStridedSlice S200x128 ![0, 1536] v76 slices_S200x4608_o0_1536_S200x128) (constant S200x200 .f32 0x00000000#32)) (k0_pay96 (F := Ideal)) (ix2 r e)
      = ((att W (fun j => X (at' (grp r) j)) (mem r) 0 e : ℝ) : EReal) := by
  refine cut_at W X v76 h76 _ _ 0 ?_ ?_ r e
  · intro r e; pointwise; rfl
  · intro r s; pointwise; rfl

theorem head1_at (W : Wt) (X : Fin 200 → Fin 1536 → ℝ) (v76 : FVec Ideal S200x4608 .f32) (h76 : ∀ r c, v76 (ix2 r c) = ((pr W (X r) c : ℝ) : EReal)) (r : Fin 200) (e : Fin 128) :
    k0_pay97 (k0_pay86 (F := Ideal)) (k0_pay87 (F := Ideal)) (extractStridedSlice S200x128 ![0, 3200] v76 slices_S200x4608_o0_3200_S200x128)
      (matmul dot_S200x128_S200x128_S200x200_1_1_0_0_n_n none (extractStridedSlice S200x128 ![0, 128] v76 slices_S200x4608_o0_128_S200x128) (extractStridedSlice S200x128 ![0, 1664] v76 slices_S200x4608_o0_1664_S200x128) (constant S200x200 .f32 0x00000000#32)) (k0_pay96 (F := Ideal)) (ix2 r e)
      = ((att W (fun j => X (at' (grp r) j)) (mem r) 1 e : ℝ) : EReal) := by
  refine cut_at W X v76 h76 _ _ 1 ?_ ?_ r e
  · intro r e; pointwise; rfl
  · intro r s; pointwise; rfl

theorem head2_at (W : Wt) (X : Fin 200 → Fin 1536 → ℝ) (v76 : FVec Ideal S200x4608 .f32) (h76 : ∀ r c, v76 (ix2 r c) = ((pr W (X r) c : ℝ) : EReal)) (r : Fin 200) (e : Fin 128) :
    k0_pay97 (k0_pay86 (F := Ideal)) (k0_pay87 (F := Ideal)) (extractStridedSlice S200x128 ![0, 3328] v76 slices_S200x4608_o0_3328_S200x128)
      (matmul dot_S200x128_S200x128_S200x200_1_1_0_0_n_n none (extractStridedSlice S200x128 ![0, 256] v76 slices_S200x4608_o0_256_S200x128) (extractStridedSlice S200x128 ![0, 1792] v76 slices_S200x4608_o0_1792_S200x128) (constant S200x200 .f32 0x00000000#32)) (k0_pay96 (F := Ideal)) (ix2 r e)
      = ((att W (fun j => X (at' (grp r) j)) (mem r) 2 e : ℝ) : EReal) := by
  refine cut_at W X v76 h76 _ _ 2 ?_ ?_ r e
  · intro r e; pointwise; rfl
  · intro r s; pointwise; rfl

theorem head3_at (W : Wt) (X : Fin 200 → Fin 1536 → ℝ) (v76 : FVec Ideal S200x4608 .f32) (h76 : ∀ r c, v76 (ix2 r c) = ((pr W (X r) c : ℝ) : EReal)) (r : Fin 200) (e : Fin 128) :
    k0_pay97 (k0_pay86 (F := Ideal)) (k0_pay87 (F := Ideal)) (extractStridedSlice S200x128 ![0, 3456] v76 slices_S200x4608_o0_3456_S200x128)
      (matmul dot_S200x128_S200x128_S200x200_1_1_0_0_n_n none (extractStridedSlice S200x128 ![0, 384] v76 slices_S200x4608_o0_384_S200x128) (extractStridedSlice S200x128 ![0, 1920] v76 slices_S200x4608_o0_1920_S200x128) (constant S200x200 .f32 0x00000000#32)) (k0_pay96 (F := Ideal)) (ix2 r e)
      = ((att W (fun j => X (at' (grp r) j)) (mem r) 3 e : ℝ) : EReal) := by
  refine cut_at W X v76 h76 _ _ 3 ?_ ?_ r e
  · intro r e; pointwise; rfl
  · intro r s; pointwise; rfl

theorem head4_at (W : Wt) (X : Fin 200 → Fin 1536 → ℝ) (v76 : FVec Ideal S200x4608 .f32) (h76 : ∀ r c, v76 (ix2 r c) = ((pr W (X r) c : ℝ) : EReal)) (r : Fin 200) (e : Fin 128) :
    k0_pay97 (k0_pay86 (F := Ideal)) (k0_pay87 (F := Ideal)) (extractStridedSlice S200x128 ![0, 3584] v76 slices_S200x4608_o0_3584_S200x128)
      (matmul dot_S200x128_S200x128_S200x200_1_1_0_0_n_n none (extractStridedSlice S200x128 ![0, 512] v76 slices_S200x4608_o0_512_S200x128) (extractStridedSlice S200x128 ![0, 2048] v76 slices_S200x4608_o0_2048_S200x128) (constant S200x200 .f32 0x00000000#32)) (k0_pay96 (F := Ideal)) (ix2 r e)
      = ((att W (fun j => X (at' (grp r) j)) (mem r) 4 e : ℝ) : EReal) := by
  refine cut_at W X v76 h76 _ _ 4 ?_ ?_ r e
  · intro r e; pointwise; rfl
  · intro r s; pointwise; rfl

theorem head5_at (W : Wt) (X : Fin 200 → Fin 1536 → ℝ) (v76 : FVec Ideal S200x4608 .f32) (h76 : ∀ r c, v76 (ix2 r c) = ((pr W (X r) c : ℝ) : EReal)) (r : Fin 200) (e : Fin 128) :
    k0_pay97 (k0_pay86 (F := Ideal)) (k0_pay87 (F := Ideal)) (extractStridedSlice S200x128 ![0, 3712] v76 slices_S200x4608_o0_3712_S200x128)
      (matmul dot_S200x128_S200x128_S200x200_1_1_0_0_n_n none (extractStridedSlice S200x128 ![0, 640] v76 slices_S200x4608_o0_640_S200x128) (extractStridedSlice S200x128 ![0, 2176] v76 slices_S200x4608_o0_2176_S200x128) (constant S200x200 .f32 0x00000000#32)) (k0_pay96 (F := Ideal)) (ix2 r e)
      = ((att W (fun j => X (at' (grp r) j)) (mem r) 5 e : ℝ) : EReal) := by
  refine cut_at W X v76 h76 _ _ 5 ?_ ?_ r e
  · intro r e; pointwise; rfl
  · intro r s; pointwise; rfl

theorem head6_at (W : Wt) (X : Fin 200 → Fin 1536 → ℝ) (v76 : FVec Ideal S200x4608 .f32) (h76 : ∀ r c, v76 (ix2 r c) = ((pr W (X r) c : ℝ) : EReal)) (r : Fin 200) (e : Fin 128) :
    k0_pay97 (k0_pay86 (F := Ideal)) (k0_pay87 (F := Ideal)) (extractStridedSlice S200x128 ![0, 3840] v76 slices_S200x4608_o0_3840_S200x128)
      (matmul dot_S200x128_S200x128_S200x200_1_1_0_0_n_n none (extractStridedSlice S200x128 ![0, 768] v76 slices_S200x4608_o0_768_S200x128) (extractStridedSlice S200x128 ![0, 2304] v76 slices_S200x4608_o0_2304_S200x128) (constant S200x200 .f32 0x00000000#32)) (k0_pay96 (F := Ideal)) (ix2 r e)
      = ((att W (fun j => X (at' (grp r) j)) (mem r) 6 e : ℝ) : EReal) := by
  refine cut_at W X v76 h76 _ _ 6 ?_ ?_ r e
  · intro r e; pointwise; rfl
  · intro r s; pointwise; rfl

theorem head7_at (W : Wt) (X : Fin 200 → Fin 1536 → ℝ) (v76 : FVec Ideal S200x4608 .f32) (h76 : ∀ r c, v76 (ix2 r c) = ((pr W (X r) c : ℝ) : EReal)) (r : Fin 200) (e : Fin 128) :
    k0_pay97 (k0_pay86 (F := Ideal)) (k0_pay87 (F := Ideal)) (extractStridedSlice S200x128 ![0, 3968] v76 slices_S200x4608_o0_3968_S200x128)
      (matmul dot_S200x128_S200x128_S200x200_1_1_0_0_n_n none (extractStridedSlice S200x128 ![0, 896] v76 slices_S200x4608_o0_896_S200x128) (extractStridedSlice S200x128 ![0, 2432] v76 slices_S200x4608_o0_2432_S200x128) (constant S200x200 .f32 0x00000000#32)) (k0_pay96 (F := Ideal)) (ix2 r e)
      = ((att W (fun j => X (at' (grp r) j)) (mem r) 7 e : ℝ) : EReal) := by
  refine cut_at W X v76 h76 _ _ 7 ?_ ?_ r e
  · intro r e; pointwise; rfl
  · intro r s; pointwise; rfl

theorem head8_at (W : Wt) (X : Fin 200 → Fin 1536 → ℝ) (v76 : FVec Ideal S200x4608 .f32) (h76 : ∀ r c, v76 (ix2 r c) = ((pr W (X r) c : ℝ) : EReal)) (r : Fin 200) (e : Fin 128) :
    k0_pay97 (k0_pay86 (F := Ideal)) (k0_pay87 (F := Ideal)) (extractStridedSlice S200x128 ![0, 4096] v76 slices_S200x4608_o0_4096_S200x128)
      (matmul dot_S200x128_S200x128_S200x200_1_1_0_0_n_n none (extractStridedSlice S200x128 ![0, 1024] v76 slices_S200x4608_o0_1024_S200x128) (extractStridedSlice S200x128 ![0, 2560] v76 slices_S200x4608_o0_2560_S200x128) (constant S200x200 .f32 0x00000000#32)) (k0_pay96 (F := Ideal)) (ix2 r e)
      = ((att W (fun j => X (at' (grp r) j)) (mem r) 8 e : ℝ) : EReal) := by
  refine cut_at W X v76 h76 _ _ 8 ?_ ?_ r e
  · intro r e; pointwise; rfl
  · intro r s; pointwise; rfl

theorem head9_at (W : Wt) (X : Fin 200 → Fin 1536 → ℝ) (v76 : FVec Ideal S200x4608 .f32) (h76 : ∀ r c, v76 (ix2 r c) = ((pr W (X r) c : ℝ) : EReal)) (r : Fin 200) (e : Fin 128) :
    k0_pay97 (k0_pay86 (F := Ideal)) (k0_pay87 (F := Ideal)) (extractStridedSlice S200x128 ![0, 4224] v76 slices_S200x4608_o0_4224_S200x128)
      (matmul dot_S200x128_S200x128_S200x200_1_1_0_0_n_n none (extractStridedSlice S200x128 ![0, 1152] v76 slices_S200x4608_o0_1152_S200x128) (extractStridedSlice S200x128 ![0, 2688] v76 slices_S200x4608_o0_2688_S200x128) (constant S200x200 .f32 0x00000000#32)) (k0_pay96 (F := Ideal)) (ix2 r e)
      = ((att W (fun j => X (at' (grp r) j)) (mem r) 9 e : ℝ) : EReal) := by
  refine cut_at W X v76 h76 _ _ 9 ?_ ?_ r e
  · intro r e; pointwise; rfl
  · intro r s; pointwise; rfl

theorem head10_at (W : Wt) (X : Fin 200 → Fin 1536 → ℝ) (v76 : FVec Ideal S200x4608 .f32) (h76 : ∀ r c, v76 (ix2 r c) = ((pr W (X r) c : ℝ) : EReal)) (r : Fin 200) (e : Fin 128) :
    k0_pay97 (k0_pay86 (F := Ideal)) (k0_pay87 (F := Ideal)) (extractStridedSlice S200x128 ![0, 4352] v76 slices_S200x4608_o0_4352_S200x128)
      (matmul dot_S200x128_S200x128_S200x200_1_1_0_0_n_n none (extractStridedSlice S200x128 ![0, 1280] v76 slices_S200x4608_o0_1280_S200x128) (extractStridedSlice S200x128 ![0, 2816] v76 slices_S200x4608_o0_2816_S200x128) (constant S200x200 .f32 0x00000000#32)) (k0_pay96 (F := Ideal)) (ix2 r e)
      = ((att W (fun j => X (at' (grp r) j)) (mem r) 10 e : ℝ) : EReal) := by
  refine cut_at W X v76 h76 _ _ 10 ?_ ?_ r e
  · intro r e; pointwise; rfl
  · intro r s; pointwise; rfl

theorem head11_at (W : Wt) (X : Fin 200 → Fin 1536 → ℝ) (v76 : FVec Ideal S200x4608 .f32) (h76 : ∀ r c, v76 (ix2 r c) = ((pr W (X r) c : ℝ) : EReal)) (r : Fin 200) (e : Fin 128) :
    k0_pay97 (k0_pay86 (F := Ideal)) (k0_pay87 (F := Ideal)) (extractStridedSlice S200x128 ![0, 4480] v76 slices_S200x4608_o0_4480_S200x128)
      (matmul dot_S200x128_S200x128_S200x200_1_1_0_0_n_n none (extractStridedSlice S200x128 ![0, 1408] v76 slices_S200x4608_o0_1408_S200x128) (extractStridedSlice S200x128 ![0, 2944] v76 slices_S200x4608_o0_2944_S200x128) (constant S200x200 .f32 0x00000000#32)) (k0_pay96 (F := Ideal)) (ix2 r e)
      = ((att W (fun j => X (at' (grp r) j)) (mem r) 11 e : ℝ) : EReal) := by
  refine cut_at W X v76 h76 _ _ 11 ?_ ?_ r e
  · intro r e; pointwise; rfl
  · intro r s; pointwise; rfl

/-- The twelve heads side by side. -/
def join (u0 u1 u2 u3 u4 u5 u6 u7 u8 u9 u10 u11 : FVec Ideal S200x128 .f32) : FVec Ideal S200x1536 .f32 :=
  concatenate S200x1536 1 [⟨S200x128, u0⟩, ⟨S200x128, u1⟩, ⟨S200x128, u2⟩, ⟨S200x128, u3⟩, ⟨S200x128, u4⟩, ⟨S200x128, u5⟩, ⟨S200x128, u6⟩, ⟨S200x128, u7⟩, ⟨S200x128, u8⟩, ⟨S200x128, u9⟩, ⟨S200x128, u10⟩, ⟨S200x128, u11⟩] concatenates_S200x128_S200x128_S200x128_S200x128_S200x128_S200x128_S200x128_S200x128_S200x128_S200x128_S200x128_S200x128_S200x1536_d1

set_option maxHeartbeats 1000000 in
theorem join_at (A : Fin 12 → Fin 128 → ℝ) (r : Fin 200) (u0 u1 u2 u3 u4 u5 u6 u7 u8 u9 u10 u11 : FVec Ideal S200x128 .f32)
    (p0 : ∀ e, u0 (ix2 r e) = ((A 0 e : ℝ) : EReal)) (p1 : ∀ e, u1 (ix2 r e) = ((A 1 e : ℝ) : EReal)) (p2 : ∀ e, u2 (ix2 r e) = ((A 2 e : ℝ) : EReal)) (p3 : ∀ e, u3 (ix2 r e) = ((A 3 e : ℝ) : EReal)) (p4 : ∀ e, u4 (ix2 r e) = ((A 4 e : ℝ) : EReal)) (p5 : ∀ e, u5 (ix2 r e) = ((A 5 e : ℝ) : EReal)) (p6 : ∀ e, u6 (ix2 r e) = ((A 6 e : ℝ) : EReal)) (p7 : ∀ e, u7 (ix2 r e) = ((A 7 e : ℝ) : EReal)) (p8 : ∀ e, u8 (ix2 r e) = ((A 8 e : ℝ) : EReal)) (p9 : ∀ e, u9 (ix2 r e) = ((A 9 e : ℝ) : EReal)) (p10 : ∀ e, u10 (ix2 r e) = ((A 10 e : ℝ) : EReal)) (p11 : ∀ e, u11 (ix2 r e) = ((A 11 e : ℝ) : EReal)) (c : Fin 1536) :
    join u0 u1 u2 u3 u4 u5 u6 u7 u8 u9 u10 u11 (ix2 r c) = ((A ⟨c.val / 128, by omega⟩ ⟨c.val % 128, Nat.mod_lt _ (by decide)⟩ : ℝ) : EReal) := by
  have key (h : Fin 12) (e : Fin 128) (hc : c.val = 128 * h.val + e.val) : (A h e : EReal) = ((A ⟨c.val / 128, by omega⟩ ⟨c.val % 128, Nat.mod_lt _ (by decide)⟩ : ℝ) : EReal) := by
    have e1 : (⟨c.val / 128, by omega⟩ : Fin 12) = h := Fin.ext (by show c.val / 128 = h.val; omega)
    have e2 : (⟨c.val % 128, Nat.mod_lt _ (by decide)⟩ : Fin 128) = e := Fin.ext (by show c.val % 128 = e.val; omega)
    rw [e1, e2]
  pointwise [join]
  have hc := c.isLt
  by_cases h0 : c.val < 128
  · exact (dif_pos h0).trans ((p0 _).trans (key 0 _ (by show c.val = 128 * 0 + (c.val); omega)))
  refine (dif_neg h0).trans ?_
  by_cases h1 : c.val - 128 < 128
  · exact (dif_pos h1).trans ((p1 _).trans (key 1 _ (by show c.val = 128 * 1 + (c.val - 128); omega)))
  refine (dif_neg h1).trans ?_
  by_cases h2 : c.val - 128 - 128 < 128
  · exact (dif_pos h2).trans ((p2 _).trans (key 2 _ (by show c.val = 128 * 2 + (c.val - 128 - 128); omega)))
  refine (dif_neg h2).trans ?_
  by_cases h3 : c.val - 128 - 128 - 128 < 128
  · exact (dif_pos h3).trans ((p3 _).trans (key 3 _ (by show c.val = 128 * 3 + (c.val - 128 - 128 - 128); omega)))
  refine (dif_neg h3).trans ?_
  by_cases h4 : c.val - 128 - 128 - 128 - 128 < 128
  · exact (dif_pos h4).trans ((p4 _).trans (key 4 _ (by show c.val = 128 * 4 + (c.val - 128 - 128 - 128 - 128); omega)))
  refine (dif_neg h4).trans ?_
  by_cases h5 : c.val - 128 - 128 - 128 - 128 - 128 < 128
  · exact (dif_pos h5).trans ((p5 _).trans (key 5 _ (by show c.val = 128 * 5 + (c.val - 128 - 128 - 128 - 128 - 128); omega)))
  refine (dif_neg h5).trans ?_
  by_cases h6 : c.val - 128 - 128 - 128 - 128 - 128 - 128 < 128
  · exact (dif_pos h6).trans ((p6 _).trans (key 6 _ (by show c.val = 128 * 6 + (c.val - 128 - 128 - 128 - 128 - 128 - 128); omega)))
  refine (dif_neg h6).trans ?_
  by_cases h7 : c.val - 128 - 128 - 128 - 128 - 128 - 128 - 128 < 128
  · exact (dif_pos h7).trans ((p7 _).trans (key 7 _ (by show c.val = 128 * 7 + (c.val - 128 - 128 - 128 - 128 - 128 - 128 - 128); omega)))
  refine (dif_neg h7).trans ?_
  by_cases h8 : c.val - 128 - 128 - 128 - 128 - 128 - 128 - 128 - 128 < 128
  · exact (dif_pos h8).trans ((p8 _).trans (key 8 _ (by show c.val = 128 * 8 + (c.val - 128 - 128 - 128 - 128 - 128 - 128 - 128 - 128); omega)))
  refine (dif_neg h8).trans ?_
  by_cases h9 : c.val - 128 - 128 - 128 - 128 - 128 - 128 - 128 - 128 - 128 < 128
  · exact (dif_pos h9).trans ((p9 _).trans (key 9 _ (by show c.val = 128 * 9 + (c.val - 128 - 128 - 128 - 128 - 128 - 128 - 128 - 128 - 128); omega)))
  refine (dif_neg h9).trans ?_
  by_cases h10 : c.val - 128 - 128 - 128 - 128 - 128 - 128 - 128 - 128 - 128 - 128 < 128
  · exact (dif_pos h10).trans ((p10 _).trans (key 10 _ (by show c.val = 128 * 10 + (c.val - 128 - 128 - 128 - 128 - 128 - 128 - 128 - 128 - 128 - 128); omega)))
  refine (dif_neg h10).trans ?_
  exact (p11 _).trans (key 11 _ (by show c.val = 128 * 11 + (c.val - 128 - 128 - 128 - 128 - 128 - 128 - 128 - 128 - 128 - 128 - 128); omega))

theorem pass_at (W : Wt) (T : Fin 40 → Fin 5 → Fin 1536 → ℝ) (cl : Vec Ideal S40x1536 .f32) (gr : Vec Ideal S160x1536 .f32)
    (X12 X13 : Vec Ideal S1x1536 .f32) (X23 : Vec Ideal S4608x1536 .bf16) (X24 : Vec Ideal S1536x1536 .bf16) (X16 : Vec Ideal S1x1536 .f32)
    (X25 : Vec Ideal S1536x1536 .bf16) (X18 : Vec Ideal S1x1536 .f32)
    (hcl : ∀ g d, cl (ix2 g d) = ((T g 0 d : ℝ) : EReal))
    (hgr : ∀ (r : Fin 160) d, gr (ix2 r d) = ((T ⟨r.val / 4, by omega⟩ ⟨r.val % 4 + 1, by omega⟩ d : ℝ) : EReal))
    (h12 : ∀ u d, X12 (ix2 u d) = ((W.lw d : ℝ) : EReal)) (h13 : ∀ u d, X13 (ix2 u d) = ((W.lb d : ℝ) : EReal))
    (h23 : ∀ c d, X23 (ix2 c d) = ((W.wq c d : ℝ) : EReal)) (h24 : ∀ c d, X24 (ix2 c d) = ((W.wp c d : ℝ) : EReal))
    (h16 : ∀ u d, X16 (ix2 u d) = ((W.bp d : ℝ) : EReal)) (h25 : ∀ c d, X25 (ix2 c d) = ((W.wt c d : ℝ) : EReal))
    (h18 : ∀ u d, X18 (ix2 u d) = ((W.bt d : ℝ) : EReal)) (r : Fin 200) (d : Fin 1536) :
    pass cl gr X12 X13 X23 X24 X16 X25 X18 (ix2 r d) = ((upd W (T (grp r)) (mem r) d : ℝ) : EReal) := by
  have hX := tok_at cl gr T hcl hgr
  have h76 (r : Fin 200) (c : Fin 4608) : k0_pay91 (k0_pay84 X12) (k0_pay85 X13) (k0_pay89 cl gr) (k0_pay90 cl gr) X23 (ix2 r c) = ((pr W (T (grp r) (mem r)) c : ℝ) : EReal) := by
    refine qkv_at W _ _ _ _ _ (fun r => T (grp r) (mem r)) ?_ ?_ (centred_at cl gr _ hX) (spread_at cl gr _ hX) h23 r c
    · intro u d; pointwise [k0_pay84]; exact h12 u d
    · intro u d; pointwise [k0_pay85]; exact h13 u d
  obtain ⟨o, ho, e⟩ : ∃ o : FVec Ideal S200x1536 .f32, (∀ c, o (ix2 r c) = ((heads W (T (grp r)) (mem r) c : ℝ) : EReal))
      ∧ pass cl gr X12 X13 X23 X24 X16 X25 X18 = k0_pay117 (k0_pay88 cl gr) o X24 X16 X25 X18 := by
    refine ⟨(k0_pay116 (k0_pay92 (k0_pay84 X12) (k0_pay85 X13) (k0_pay86 (F := Ideal)) (k0_pay87 (F := Ideal)) (k0_pay89 cl gr) (k0_pay90 cl gr) X23) (k0_pay93 (k0_pay84 X12) (k0_pay85 X13) (k0_pay86 (F := Ideal)) (k0_pay87 (F := Ideal)) (k0_pay89 cl gr) (k0_pay90 cl gr) X23) (k0_pay97 (k0_pay86 (F := Ideal)) (k0_pay87 (F := Ideal)) (k0_pay94 (k0_pay84 X12) (k0_pay85 X13) (k0_pay89 cl gr) (k0_pay90 cl gr) X23) (k0_pay95 (k0_pay84 X12) (k0_pay85 X13) (k0_pay89 cl gr) (k0_pay90 cl gr) X23) (k0_pay96 (F := Ideal))) (k0_pay98 (k0_pay86 (F := Ideal)) (k0_pay87 (F := Ideal)) (k0_pay91 (k0_pay84 X12) (k0_pay85 X13) (k0_pay89 cl gr) (k0_pay90 cl gr) X23)) (k0_pay99 (k0_pay86 (F := Ideal)) (k0_pay87 (F := Ideal)) (k0_pay91 (k0_pay84 X12) (k0_pay85 X13) (k0_pay89 cl gr) (k0_pay90 cl gr) X23)) (k0_pay103 (k0_pay86 (F := Ideal)) (k0_pay87 (F := Ideal)) (k0_pay100 (k0_pay91 (k0_pay84 X12) (k0_pay85 X13) (k0_pay89 cl gr) (k0_pay90 cl gr) X23)) (k0_pay101 (k0_pay91 (k0_pay84 X12) (k0_pay85 X13) (k0_pay89 cl gr) (k0_pay90 cl gr) X23)) (k0_pay102 (F := Ideal))) (k0_pay104 (k0_pay86 (F := Ideal)) (k0_pay87 (F := Ideal)) (k0_pay91 (k0_pay84 X12) (k0_pay85 X13) (k0_pay89 cl gr) (k0_pay90 cl gr) X23)) (k0_pay105 (k0_pay86 (F := Ideal)) (k0_pay87 (F := Ideal)) (k0_pay91 (k0_pay84 X12) (k0_pay85 X13) (k0_pay89 cl gr) (k0_pay90 cl gr) X23)) (k0_pay109 (k0_pay86 (F := Ideal)) (k0_pay87 (F := Ideal)) (k0_pay106 (k0_pay91 (k0_pay84 X12) (k0_pay85 X13) (k0_pay89 cl gr) (k0_pay90 cl gr) X23)) (k0_pay107 (k0_pay91 (k0_pay84 X12) (k0_pay85 X13) (k0_pay89 cl gr) (k0_pay90 cl gr) X23)) (k0_pay108 (F := Ideal))) (k0_pay110 (k0_pay86 (F := Ideal)) (k0_pay87 (F := Ideal)) (k0_pay91 (k0_pay84 X12) (k0_pay85 X13) (k0_pay89 cl gr) (k0_pay90 cl gr) X23)) (k0_pay111 (k0_pay86 (F := Ideal)) (k0_pay87 (F := Ideal)) (k0_pay91 (k0_pay84 X12) (k0_pay85 X13) (k0_pay89 cl gr) (k0_pay90 cl gr) X23)) (k0_pay115 (k0_pay86 (F := Ideal)) (k0_pay87 (F := Ideal)) (k0_pay112 (k0_pay91 (k0_pay84 X12) (k0_pay85 X13) (k0_pay89 cl gr) (k0_pay90 cl gr) X23)) (k0_pay113 (k0_pay91 (k0_pay84 X12) (k0_pay85 X13) (k0_pay89 cl gr) (k0_pay90 cl gr) X23)) (k0_pay114 (F := Ideal)))), ?_, rfl⟩
    intro c
    refine join_at (fun h e => att W (T (grp r)) (mem r) h e) r _ _ _ _ _ _ _ _ _ _ _ _ ?_ ?_ ?_ ?_ ?_ ?_ ?_ ?_ ?_ ?_ ?_ ?_ c
    · intro e; refine (head0_at W (fun r => T (grp r) (mem r)) _ h76 r e).trans ?_; simp only [grp_at, mem_at]
    · intro e; refine (head1_at W (fun r => T (grp r) (mem r)) _ h76 r e).trans ?_; simp only [grp_at, mem_at]
    · intro e; refine (head2_at W (fun r => T (grp r) (mem r)) _ h76 r e).trans ?_; simp only [grp_at, mem_at]
    · intro e; refine (head3_at W (fun r => T (grp r) (mem r)) _ h76 r e).trans ?_; simp only [grp_at, mem_at]
    · intro e; refine (head4_at W (fun r => T (grp r) (mem r)) _ h76 r e).trans ?_; simp only [grp_at, mem_at]
    · intro e; refine (head5_at W (fun r => T (grp r) (mem r)) _ h76 r e).trans ?_; simp only [grp_at, mem_at]
    · intro e; refine (head6_at W (fun r => T (grp r) (mem r)) _ h76 r e).trans ?_; simp only [grp_at, mem_at]
    · intro e; refine (head7_at W (fun r => T (grp r) (mem r)) _ h76 r e).trans ?_; simp only [grp_at, mem_at]
    · intro e; refine (head8_at W (fun r => T (grp r) (mem r)) _ h76 r e).trans ?_; simp only [grp_at, mem_at]
    · intro e; refine (head9_at W (fun r => T (grp r) (mem r)) _ h76 r e).trans ?_; simp only [grp_at, mem_at]
    · intro e; refine (head10_at W (fun r => T (grp r) (mem r)) _ h76 r e).trans ?_; simp only [grp_at, mem_at]
    · intro e; refine (head11_at W (fun r => T (grp r) (mem r)) _ h76 r e).trans ?_; simp only [grp_at, mem_at]
  rw [e]
  pointwise [k0_pay117]
  simp only [ho, hX, h24, h16, h25, h18, ← EReal.coe_mul, ← EReal.coe_add, coe_sum]
  rfl

end Cert.Fused
-- ==== Proof.TokVal.lean ====
module

public import proofs.«01_k».proof.Proof.PassVal
public import proofs.«01_k».proof.Proof.Inv

@[expose] public section

set_option maxRecDepth 16384
noncomputable section

/-!
# The tokens after each pass

One pass turns the tokens, given as real numbers, into the model's next tokens; so do four of them, and the last stretch lays them out.
-/

namespace Cert.Fused

open Cert.KernelIdeal Cert.KernelIdeal.Gen Model
open Idealize.ShloMosaic Idealize.ShloMosaic.TcCoe

variable (W : Wt)

/-- The tokens of a pair of matrices: class rows first. -/
structure Holds (T : Tok Ideal) (t : Fin 40 → Fin 5 → Fin 1536 → ℝ) : Prop where
  cl : ∀ g d, T.1 (ix2 g d) = ((t g 0 d : ℝ) : EReal)
  gr : ∀ (r : Fin 160) d, T.2 (ix2 r d) = ((t ⟨r.val / 4, by omega⟩ ⟨r.val % 4 + 1, by omega⟩ d : ℝ) : EReal)

/-- The weights a pass reads. -/
structure Reads (P : PassIn Ideal) : Prop where
  h12 : ∀ u d, P.x12 (ix2 u d) = ((W.lw d : ℝ) : EReal)
  h13 : ∀ u d, P.x13 (ix2 u d) = ((W.lb d : ℝ) : EReal)
  h23 : ∀ c d, P.x23 (ix2 c d) = ((W.wq c d : ℝ) : EReal)
  h24 : ∀ c d, P.x24 (ix2 c d) = ((W.wp c d : ℝ) : EReal)
  h16 : ∀ u d, P.x16 (ix2 u d) = ((W.bp d : ℝ) : EReal)
  h25 : ∀ c d, P.x25 (ix2 c d) = ((W.wt c d : ℝ) : EReal)
  h18 : ∀ u d, P.x18 (ix2 u d) = ((W.bt d : ℝ) : EReal)

theorem cl_at (z : FVec Ideal S200x1536 .f32) (y : Fin 40 → Fin 5 → Fin 1536 → ℝ)
    (hz : ∀ r d, z (ix2 r d) = ((y (grp r) (mem r) d : ℝ) : EReal)) (g : Fin 40) (d : Fin 1536) :
    k0_pay118 z (ix2 g d) = ((y (prev g) 0 d : ℝ) : EReal) := by
  pointwise [k0_pay118]
  split_ifs with h h'
  · have e1 : grp ⟨g.val / 5 * 5 + (4 + g.val % 5), by omega⟩ = prev g := Fin.ext (by
      show (if g.val / 5 * 5 + (4 + g.val % 5) < 40 then g.val / 5 * 5 + (4 + g.val % 5) else _) = if g.val % 5 = 0 then g.val + 4 else g.val - 1
      rw [if_pos (by omega), if_pos (by omega)]; omega)
    have e2 : mem ⟨g.val / 5 * 5 + (4 + g.val % 5), by omega⟩ = 0 := Fin.ext (if_pos (by show g.val / 5 * 5 + (4 + g.val % 5) < 40; omega))
    refine (hz _ d).trans ?_
    rw [e1, e2]
  all_goals
    have e1 : grp ⟨g.val / 5 * 5 + (g.val % 5 - 1), by omega⟩ = prev g := Fin.ext (by
      show (if g.val / 5 * 5 + (g.val % 5 - 1) < 40 then g.val / 5 * 5 + (g.val % 5 - 1) else _) = if g.val % 5 = 0 then g.val + 4 else g.val - 1
      rw [if_pos (by omega), if_neg (by omega)]; omega)
    have e2 : mem ⟨g.val / 5 * 5 + (g.val % 5 - 1), by omega⟩ = 0 := Fin.ext (if_pos (by show g.val / 5 * 5 + (g.val % 5 - 1) < 40; omega))
    refine (hz _ d).trans ?_
    rw [e1, e2]

theorem gr_at (z : FVec Ideal S200x1536 .f32) (y : Fin 40 → Fin 5 → Fin 1536 → ℝ)
    (hz : ∀ r d, z (ix2 r d) = ((y (grp r) (mem r) d : ℝ) : EReal)) (r : Fin 160) (d : Fin 1536) :
    k0_pay9 (k0_pay119 z) (ix2 r d) = ((y ⟨r.val / 4, by omega⟩ ⟨r.val % 4 + 1, by omega⟩ d : ℝ) : EReal) := by
  pointwise [k0_pay9, k0_pay119]
  have e1 : grp ⟨40 + r.val, by omega⟩ = ⟨r.val / 4, by omega⟩ := Fin.ext (by
    show (if 40 + r.val < 40 then 40 + r.val else (40 + r.val - 40) / 4) = r.val / 4
    rw [if_neg (by omega)]; omega)
  have e2 : mem ⟨40 + r.val, by omega⟩ = ⟨r.val % 4 + 1, by omega⟩ := Fin.ext (by
    show (if 40 + r.val < 40 then 0 else (40 + r.val - 40) % 4 + 1) = r.val % 4 + 1
    rw [if_neg (by omega)]; omega)
  refine (hz _ d).trans ?_
  rw [e1, e2]

theorem step_holds (P : PassIn Ideal) (hP : Reads W P) (T : Tok Ideal) (t : Fin 40 → Fin 5 → Fin 1536 → ℝ) (hT : Holds T t) :
    Holds (passTok P T) (step W t) := by
  have hz := pass_at W t T.1 T.2 P.x12 P.x13 P.x23 P.x24 P.x16 P.x25 P.x18 hT.cl hT.gr hP.h12 hP.h13 hP.h23 hP.h24 hP.h16 hP.h25 hP.h18
  refine ⟨fun g d => (cl_at _ (fun g => upd W (t g)) hz g d).trans ?_, fun r d => (gr_at _ (fun g => upd W (t g)) hz r d).trans ?_⟩
  · rfl
  · unfold step
    rw [if_neg (Nat.succ_ne_zero _)]

theorem tok_holds (D : Ins Ideal) (hP : ∀ n, Reads W (passAt D n)) (t : Fin 40 → Fin 5 → Fin 1536 → ℝ) (hT : Holds (tokK D 0) t) :
    ∀ n, Holds (tokK D n) ((step W)^[n] t)
  | 0 => hT
  | n + 1 => by
    rw [Function.iterate_succ_apply']
    exact step_holds W _ (hP _) _ _ (tok_holds D hP t hT n)

theorem pay13_at (cl : FVec Ideal S40x1536 .f32) (b : Fin 8) (n : Fin 5) (u : Fin 1) (d : Fin 1536) : k0_pay13 cl (ix4 b n u d) = cl (ix2 ⟨b.val * 5 + n.val, by omega⟩ d) := by
  pointwise [k0_pay13]
theorem pay14_at (gr : FVec Ideal S160x1536 .f32) (b : Fin 8) (n : Fin 5) (k : Fin 4) (d : Fin 1536) :
    k0_pay14 gr (ix4 b n k d) = gr (ix2 ⟨b.val * 20 + n.val * 4 + k.val, by omega⟩ d) := by
  pointwise [k0_pay14]

theorem finish_at (T : Tok Ideal) (t : Fin 40 → Fin 5 → Fin 1536 → ℝ) (hT : Holds T t) (X : S8x5x5x1536.Idx → Elt Ideal .f32) (b : Fin 8) (n k : Fin 5) (d : Fin 1536) :
    finish T.1 T.2 X (ix4 b n k d) = ((t ⟨b.val * 5 + n.val, by omega⟩ k d : ℝ) : EReal) := by
  unfold finish VecWindow.put
  by_cases hk : k.val = 0
  · rw [dif_neg (fun h => by have := (h 2).1; simp only [ix4] at this; change 1 ≤ k.val at this; omega), dif_pos (fun a => by
      fin_cases a
      · exact ⟨Nat.zero_le _, by simpa using b.isLt⟩
      · exact ⟨Nat.zero_le _, by simpa using n.isLt⟩
      · exact ⟨Nat.zero_le _, by show k.val < 0 + 1; omega⟩
      · exact ⟨Nat.zero_le _, by simpa using d.isLt⟩)]
    refine Eq.trans (congrArg (k0_pay13 T.1) (?_ : _ = ix4 b n (0 : Fin 1) d)) ((pay13_at T.1 b n 0 d).trans ((hT.cl _ d).trans ?_))
    · funext a
      fin_cases a <;> refine Fin.ext ?_
      · rfl
      · rfl
      · show k.val - 0 = 0; omega
      · rfl
    · rw [show k = 0 from Fin.ext hk]
  · rw [dif_pos (fun a => by
      fin_cases a
      · exact ⟨Nat.zero_le _, by simpa using b.isLt⟩
      · exact ⟨Nat.zero_le _, by simpa using n.isLt⟩
      · exact ⟨by show 1 ≤ k.val; omega, by show k.val < 1 + 4; omega⟩
      · exact ⟨Nat.zero_le _, by simpa using d.isLt⟩)]
    refine Eq.trans (congrArg (k0_pay14 T.2) (?_ : _ = ix4 b n (⟨k.val - 1, by omega⟩ : Fin 4) d)) ((pay14_at T.2 b n _ d).trans ((hT.gr _ d).trans ?_))
    · funext a
      fin_cases a <;> rfl
    · have e1 : (⟨(b.val * 20 + n.val * 4 + (k.val - 1)) / 4, by omega⟩ : Fin 40) = ⟨b.val * 5 + n.val, by omega⟩ := Fin.ext (by show (b.val * 20 + n.val * 4 + (k.val - 1)) / 4 = b.val * 5 + n.val; omega)
      have e2 : (⟨(b.val * 20 + n.val * 4 + (k.val - 1)) % 4 + 1, by omega⟩ : Fin 5) = k := Fin.ext (by show (b.val * 20 + n.val * 4 + (k.val - 1)) % 4 + 1 = k.val; omega)
      rw [← e1]
      exact congrArg (fun j => ((t _ j d : ℝ) : EReal)) e2

end Cert.Fused
-- ==== Proof.EmbVal.lean ====
module

public import proofs.«01_k».proof.Proof.TokVal

@[expose] public section

set_option maxRecDepth 16384
noncomputable section

/-!
# The embedding in the real numbers

What the embedding, the first tokens and the pooled row are as real numbers, and that the kernel's are those.
-/

namespace Cert.Fused

open Cert.KernelIdeal Cert.KernelIdeal.Gen Model
open Idealize.ShloMosaic Idealize.ShloMosaic.TcCoe

namespace Model

/-- The real numbers the embedding is made of. -/
structure Src where
  ts : Fin 8 → ℝ
  ft : Fin 8 → Fin 20 → Fin 1536 → ℝ
  wr : Fin 1536 → Fin 1536 → ℝ
  br : Fin 1536 → ℝ
  wn : Fin 1536 → ℝ
  bn : Fin 1536 → ℝ
  te : Fin 20 → Fin 1536 → ℝ
  cl : Fin 5 → Fin 1536 → ℝ

/-- The projected features. -/
def xt (I : Src) (b : Fin 8) (s : Fin 20) (d : Fin 1536) : ℝ := ∑ e, I.ft b s e * I.wr d e
/-- The embedding. -/
def emb (I : Src) (b : Fin 8) (s : Fin 20) (d : Fin 1536) : ℝ := xt I b s d + I.br d + I.te s d + (I.ts b * I.wn d + I.bn d)
/-- The tokens before the first pass. -/
def tok0 (I : Src) (g : Fin 40) (k : Fin 5) (d : Fin 1536) : ℝ :=
  if k.val = 0 then I.cl ⟨g.val % 5, by omega⟩ d else emb I ⟨g.val / 5, by omega⟩ ⟨g.val % 5 * 4 + (k.val - 1), by omega⟩ d
/-- The smoothed last row. -/
def pool (I : Src) (b : Fin 8) (d : Fin 1536) : ℝ := (emb I b 18 d + emb I b 19 d) * (3 : ℝ)⁻¹

end Model

variable (I : Src)

theorem pay5_at (x : FVec Ideal S8x20x1536 .f32) (w : FVec Ideal S128x1536 .f32) (hx : ∀ b s e, x (ix3 b s e) = ((I.ft b s e : ℝ) : EReal)) (y : Fin 128 → Fin 1536 → ℝ)
    (hw : ∀ c e, w (ix2 c e) = ((y c e : ℝ) : EReal)) (r : Fin 160) (c : Fin 128) :
    k0_pay5 (F := Ideal) x w (ix2 r c) = ((∑ e, I.ft ⟨r.val / 20, by omega⟩ ⟨r.val % 20, by omega⟩ e * y c e : ℝ) : EReal) := by
  pointwise [k0_pay5]
  simp only [hx, hw, ← EReal.coe_mul, coe_sum]

theorem ladder {α : Type} (f : Fin 8 → α) (u : Fin 8) :
    (if _h : u.val < 1 then f 0 else if _h : u.val - 1 < 1 then f 1 else if _h : u.val - 1 - 1 < 1 then f 2 else if _h : u.val - 1 - 1 - 1 < 1 then f 3
      else if _h : u.val - 1 - 1 - 1 - 1 < 1 then f 4 else if _h : u.val - 1 - 1 - 1 - 1 - 1 < 1 then f 5 else if _h : u.val - 1 - 1 - 1 - 1 - 1 - 1 < 1 then f 6 else f 7) = f u := by
  fin_cases u <;> rfl

theorem pay83_at (f : Fin 8 → EReal) (X7 : FVec Ideal S1x1536 .f32) (X8 : FVec Ideal S20x1536 .f32) (X9 X10 : FVec Ideal S1x1536 .f32) (X26 : FVec Ideal S160x1536 .f32)
    (b : Fin 8) (s : Fin 20) (d : Fin 1536) :
    k0_pay83 (F := Ideal) (f 0) (f 1) (f 2) (f 3) (f 4) (f 5) (f 6) (f 7) X9 X10 X26 X8 X7 (ix3 b s d)
      = X26 (ix2 ⟨b.val * 20 + s.val, by omega⟩ d) + X8 (ix2 s d) + X7 (ix2 0 d) + (f b * X9 (ix2 0 d) + X10 (ix2 0 d)) := by
  pointwise [k0_pay83]
  rw [ladder f b]

theorem embed_at (X2 : FVec Ideal S8 .f32) (X7 : FVec Ideal S1x1536 .f32) (X8 : FVec Ideal S20x1536 .f32) (X9 X10 : FVec Ideal S1x1536 .f32) (X26 : FVec Ideal S160x1536 .f32)
    (h2 : ∀ b, X2 (ix1 b) = ((I.ts b : ℝ) : EReal)) (h7 : ∀ u d, X7 (ix2 u d) = ((I.br d : ℝ) : EReal)) (h8 : ∀ s d, X8 (ix2 s d) = ((I.te s d : ℝ) : EReal))
    (h9 : ∀ u d, X9 (ix2 u d) = ((I.wn d : ℝ) : EReal)) (h10 : ∀ u d, X10 (ix2 u d) = ((I.bn d : ℝ) : EReal))
    (h26 : ∀ (r : Fin 160) d, X26 (ix2 r d) = ((xt I ⟨r.val / 20, by omega⟩ ⟨r.val % 20, by omega⟩ d : ℝ) : EReal)) (b : Fin 8) (s : Fin 20) (d : Fin 1536) :
    embed (F := Ideal) X2 X7 X8 X9 X10 X26 (ix3 b s d) = ((emb I b s d : ℝ) : EReal) := by
  have ht : ∀ (k : Fin 8) (o : Fin 1 → ℕ) (h : ∀ a, o a + S1.size a ≤ S8.size a), o 0 = k.val → tsAt (F := Ideal) X2 o h = ((I.ts k : ℝ) : EReal) := fun k o h e => by
    refine Eq.trans (congrArg X2 (funext fun a => ?_)) (h2 k)
    have ea : a = 0 := Subsingleton.elim _ _
    subst ea
    exact Fin.ext e
  unfold embed
  rw [ht 0 _ _ rfl, ht 1 _ _ rfl, ht 2 _ _ rfl, ht 3 _ _ rfl, ht 4 _ _ rfl, ht 5 _ _ rfl, ht 6 _ _ rfl, ht 7 _ _ rfl]
  refine (pay83_at (fun k => ((I.ts k : ℝ) : EReal)) X7 X8 X9 X10 X26 b s d).trans ?_
  have h26' := h26 ⟨b.val * 20 + s.val, by omega⟩ d
  have e1 : (⟨(b.val * 20 + s.val) / 20, by omega⟩ : Fin 8) = b := Fin.ext (by show (b.val * 20 + s.val) / 20 = b.val; omega)
  have e2 : (⟨(b.val * 20 + s.val) % 20, by omega⟩ : Fin 20) = s := Fin.ext (by show (b.val * 20 + s.val) % 20 = s.val; omega)
  have e3 : xt I (⟨(b.val * 20 + s.val) / 20, by omega⟩ : Fin 8) (⟨(b.val * 20 + s.val) % 20, by omega⟩ : Fin 20) d = xt I b s d := by rw [e1, e2]
  rw [h26'.trans (congrArg Real.toEReal e3), h7, h8, h9, h10]
  simp only [← EReal.coe_mul, ← EReal.coe_add]
  refine congrArg Real.toEReal ?_
  unfold emb
  ring

theorem pay8_at (x : FVec Ideal S5x1536 .f32) (g : Fin 40) (d : Fin 1536) : k0_pay8 x (ix2 g d) = x (ix2 ⟨g.val % 5, by omega⟩ d) := by
  pointwise [k0_pay8]
theorem pay7_at (x : FVec Ideal S8x20x1536 .f32) (r : Fin 160) (d : Fin 1536) : k0_pay7 x (ix2 r d) = x (ix3 ⟨r.val / 20, by omega⟩ ⟨r.val % 20, by omega⟩ d) := by
  pointwise [k0_pay7]

theorem third : Named.named (F := Ideal) κ "third" (φ := .f32) 0x3EAAAAAB#32 = (((3 : ℝ)⁻¹ : ℝ) : EReal) :=
  IdealRules.named_const.ideal_named_scalar _ _ _ _ rfl

theorem pay6_at (x : FVec Ideal S8x20x1536 .f32) (hx : ∀ b s d, x (ix3 b s d) = ((emb I b s d : ℝ) : EReal)) (b : Fin 8) (d : Fin 1536) :
    k0_pay6 x (ix2 b d) = ((pool I b d : ℝ) : EReal) := by
  pointwise [k0_pay6]
  simp only [hx, third, ← EReal.coe_mul, ← EReal.coe_add]
  rfl

end Cert.Fused
-- ==== Proof.KVal.lean ====
module

public import proofs.«01_k».proof.Proof.Plumb
public import proofs.«01_k».proof.Proof.TokVal
public import proofs.«01_k».proof.Proof.EmbVal
public import Idealize.ShloMosaic.Lib.Claim

@[expose] public section

set_option maxRecDepth 16384
noncomputable section

/-!
# The kernel's results in the real numbers

From arguments that are real numbers: what every stretch reads of them, and so what the third and fourth results are.
-/

namespace Cert.Fused

open Cert.KernelIdeal Cert.KernelIdeal.Gen Model
open Idealize.ShloMosaic Idealize.ShloMosaic.TcCoe

variable (m : (ℓ : Loc nD τ sig) → Buf (Elt Ideal) ℓ) (c : Dev nD)

theorem e1 (u : Fin 1) (d : Fin 1536) : V0 m c (Proc.devRef .tc main_v1) (ix2 u d) = m ((c.tc : Thread nD τ).loc main_arg5) (ix1 d) := by
  show StableHlo.after hostOps0 (fun b => m (c, b)) (Proc.devRef .tc main_v1) (ix2 u d) = _
  entry_read
  pointwise
theorem e4 (s : Fin 20) (d : Fin 1536) : V0 m c (Proc.devRef .tc main_v4) (ix2 s d) = m ((c.tc : Thread nD τ).loc main_arg8) (ix3 0 s d) := by
  show StableHlo.after hostOps0 (fun b => m (c, b)) (Proc.devRef .tc main_v4) (ix2 s d) = _
  entry_read
  pointwise
theorem e3 (u : Fin 1) (d : Fin 1536) : V0 m c (Proc.devRef .tc main_v3) (ix2 u d) = m ((c.tc : Thread nD τ).loc main_arg6) (ix2 d 0) := by
  show StableHlo.after hostOps0 (fun b => m (c, b)) (Proc.devRef .tc main_v3) (ix2 u d) = _
  entry_read
  pointwise
theorem e2 (u : Fin 1) (d : Fin 1536) : V0 m c (Proc.devRef .tc main_v2) (ix2 u d) = m ((c.tc : Thread nD τ).loc main_arg7) (ix1 d) := by
  show StableHlo.after hostOps0 (fun b => m (c, b)) (Proc.devRef .tc main_v2) (ix2 u d) = _
  entry_read
  pointwise
theorem e5 (n : Fin 5) (d : Fin 1536) : V0 m c (Proc.devRef .tc main_v5) (ix2 n d) = m ((c.tc : Thread nD τ).loc main_arg9) (ix4 0 n 0 d) := by
  show StableHlo.after hostOps0 (fun b => m (c, b)) (Proc.devRef .tc main_v5) (ix2 n d) = _
  entry_read
  pointwise
theorem e6 (u : Fin 1) (d : Fin 1536) : V0 m c (Proc.devRef .tc main_v6) (ix2 u d) = m ((c.tc : Thread nD τ).loc main_arg10) (ix1 d) := by
  show StableHlo.after hostOps0 (fun b => m (c, b)) (Proc.devRef .tc main_v6) (ix2 u d) = _
  entry_read
  pointwise
theorem e7 (u : Fin 1) (d : Fin 1536) : V0 m c (Proc.devRef .tc main_v7) (ix2 u d) = m ((c.tc : Thread nD τ).loc main_arg11) (ix1 d) := by
  show StableHlo.after hostOps0 (fun b => m (c, b)) (Proc.devRef .tc main_v7) (ix2 u d) = _
  entry_read
  pointwise
theorem e8 (u : Fin 1) (d : Fin 1536) : V0 m c (Proc.devRef .tc main_v8) (ix2 u d) = m ((c.tc : Thread nD τ).loc main_arg14) (ix1 d) := by
  show StableHlo.after hostOps0 (fun b => m (c, b)) (Proc.devRef .tc main_v8) (ix2 u d) = _
  entry_read
  pointwise
theorem e9 (u : Fin 1) (d : Fin 1536) : V0 m c (Proc.devRef .tc main_v9) (ix2 u d) = m ((c.tc : Thread nD τ).loc main_arg16) (ix1 d) := by
  show StableHlo.after hostOps0 (fun b => m (c, b)) (Proc.devRef .tc main_v9) (ix2 u d) = _
  entry_read
  pointwise

/-- The arguments are these real numbers. -/
structure KArgs (I : Src) (W : Wt) : Prop where
  a1 : ∀ b, m ((c.tc : Thread nD τ).loc main_arg1) (ix1 b) = ((I.ts b : ℝ) : EReal)
  a3 : ∀ b s e, m ((c.tc : Thread nD τ).loc main_arg3) (ix3 b s e) = ((I.ft b s e : ℝ) : EReal)
  a4 : ∀ i e, m ((c.tc : Thread nD τ).loc main_arg4) (ix2 i e) = ((I.wr i e : ℝ) : EReal)
  a5 : ∀ d, m ((c.tc : Thread nD τ).loc main_arg5) (ix1 d) = ((I.br d : ℝ) : EReal)
  a6 : ∀ d u, m ((c.tc : Thread nD τ).loc main_arg6) (ix2 d u) = ((I.wn d : ℝ) : EReal)
  a7 : ∀ d, m ((c.tc : Thread nD τ).loc main_arg7) (ix1 d) = ((I.bn d : ℝ) : EReal)
  a8 : ∀ u s d, m ((c.tc : Thread nD τ).loc main_arg8) (ix3 u s d) = ((I.te s d : ℝ) : EReal)
  a9 : ∀ u n u' d, m ((c.tc : Thread nD τ).loc main_arg9) (ix4 u n u' d) = ((I.cl n d : ℝ) : EReal)
  a10 : ∀ d, m ((c.tc : Thread nD τ).loc main_arg10) (ix1 d) = ((W.lw d : ℝ) : EReal)
  a11 : ∀ d, m ((c.tc : Thread nD τ).loc main_arg11) (ix1 d) = ((W.lb d : ℝ) : EReal)
  a12 : ∀ i d, m ((c.tc : Thread nD τ).loc main_arg12) (ix2 i d) = ((W.wq i d : ℝ) : EReal)
  a13 : ∀ i d, m ((c.tc : Thread nD τ).loc main_arg13) (ix2 i d) = ((W.wp i d : ℝ) : EReal)
  a14 : ∀ d, m ((c.tc : Thread nD τ).loc main_arg14) (ix1 d) = ((W.bp d : ℝ) : EReal)
  a15 : ∀ i d, m ((c.tc : Thread nD τ).loc main_arg15) (ix2 i d) = ((W.wt i d : ℝ) : EReal)
  a16 : ∀ d, m ((c.tc : Thread nD τ).loc main_arg16) (ix1 d) = ((W.bt d : ℝ) : EReal)

theorem pt_lt {n : ℕ} (h : n ≤ 20) : (pt n).val = n := Nat.min_eq_left h

theorem wq_at (D : Ins Ideal) (f : Fin 4608 → Fin 1536 → ℝ)
    (h : ∀ t (y : Fin 288) d, D.b14 t (ix2 y d) = ((f ⟨min t.val 15 * 288 + y.val, by omega⟩ d : ℝ) : EReal)) (i : Fin 4608) (d : Fin 1536) :
    fullQkv D.b14 (ix2 i d) = ((f i d : ℝ) : EReal) := by
  show k0_pay2 (F := Ideal) (D.b14 (pt (i.val / 288))) (ix2 (⟨i.val % 288, _⟩ : Fin 288) d) = _
  pointwise [k0_pay2]
  rw [h]
  have e : (⟨min (pt (i.val / 288)).val 15 * 288 + i.val % 288, by omega⟩ : Fin 4608) = i := by
    apply Fin.ext
    show min (pt (i.val / 288)).val 15 * 288 + i.val % 288 = i.val
    rw [pt_lt (by omega), Nat.min_eq_left (by omega)]
    omega
  exact congrArg (fun j => ((f j d : ℝ) : EReal)) e

theorem wp_at (D : Ins Ideal) (f : Fin 1536 → Fin 1536 → ℝ)
    (h : ∀ t (y : Fin 128) d, D.b15 t (ix2 y d) = ((f ⟨min t.val 11 * 128 + y.val, by omega⟩ d : ℝ) : EReal)) (i : Fin 1536) (d : Fin 1536) :
    fullProj D.b15 (ix2 i d) = ((f i d : ℝ) : EReal) := by
  show k0_pay3 (F := Ideal) (D.b15 (pt (i.val / 128))) (ix2 (⟨i.val % 128, _⟩ : Fin 128) d) = _
  pointwise [k0_pay3]
  rw [h]
  have e : (⟨min (pt (i.val / 128)).val 11 * 128 + i.val % 128, by omega⟩ : Fin 1536) = i := by
    apply Fin.ext
    show min (pt (i.val / 128)).val 11 * 128 + i.val % 128 = i.val
    rw [pt_lt (by omega), Nat.min_eq_left (by omega)]
    omega
  exact congrArg (fun j => ((f j d : ℝ) : EReal)) e

theorem wt_at (D : Ins Ideal) (f : Fin 1536 → Fin 1536 → ℝ)
    (h : ∀ t (y : Fin 128) d, D.b17 t (ix2 y d) = ((f ⟨min t.val 11 * 128 + y.val, by omega⟩ d : ℝ) : EReal)) (i : Fin 1536) (d : Fin 1536) :
    fullTfc D.b17 (ix2 i d) = ((f i d : ℝ) : EReal) := by
  show k0_pay4 (F := Ideal) (D.b17 (pt (i.val / 128))) (ix2 (⟨i.val % 128, _⟩ : Fin 128) d) = _
  pointwise [k0_pay4]
  rw [h]
  have e : (⟨min (pt (i.val / 128)).val 11 * 128 + i.val % 128, by omega⟩ : Fin 1536) = i := by
    apply Fin.ext
    show min (pt (i.val / 128)).val 11 * 128 + i.val % 128 = i.val
    rw [pt_lt (by omega), Nat.min_eq_left (by omega)]
    omega
  exact congrArg (fun j => ((f j d : ℝ) : EReal)) e

theorem xt_at (D : Ins Ideal) (I : Src) (h5 : ∀ t b s e, D.b5 t (ix3 b s e) = ((I.ft b s e : ℝ) : EReal))
    (h6 : ∀ t (y : Fin 128) e, D.b6 t (ix2 y e) = ((I.wr ⟨min t.val 11 * 128 + y.val, by omega⟩ e : ℝ) : EReal)) (r : Fin 160) (d : Fin 1536) :
    fullXt D.b5 D.b6 (ix2 r d) = ((xt I ⟨r.val / 20, by omega⟩ ⟨r.val % 20, by omega⟩ d : ℝ) : EReal) := by
  have e : (⟨min (pt (d.val / 128)).val 11 * 128 + d.val % 128, by omega⟩ : Fin 1536) = d := by
    apply Fin.ext
    show min (pt (d.val / 128)).val 11 * 128 + d.val % 128 = d.val
    rw [pt_lt (by omega), Nat.min_eq_left (by omega)]
    omega
  refine (pay5_at I (D.b5 (pt (d.val / 128))) (D.b6 (pt (d.val / 128))) (h5 _) _ (h6 _) r ⟨d.val % 128, by omega⟩).trans ?_
  exact congrArg (fun j => ((∑ e, I.ft ⟨r.val / 20, by omega⟩ ⟨r.val % 20, by omega⟩ e * I.wr j e : ℝ) : EReal)) e

variable {m c} {I : Src} {W : Wt} (A : KArgs m c I W)
include A

/-- What the stretches of the device `c` read. -/
abbrev insOf (m : (ℓ : Loc nD τ sig) → Buf (Elt Ideal) ℓ) (c : Dev nD) : Ins Ideal := ins (V0 m c) (tabs m 0)

theorem passes (n : ℕ) : Reads W (passAt (insOf m c) n) where
  h12 u d := (b12_eq (V0 m c) (tabs m 0) (pt n) (ix2 u d)).trans ((e6 m c u d).trans (A.a10 d))
  h13 u d := (b13_eq (V0 m c) (tabs m 0) (pt n) (ix2 u d)).trans ((e7 m c u d).trans (A.a11 d))
  h23 := wq_at _ W.wq fun t y d => (b14_eq _ _ t y d).trans ((congrFun (V0_of_not_mem m c main_arg12 (by decide)) _).trans (A.a12 _ d))
  h24 := wp_at _ W.wp fun t y d => (b15_eq _ _ t y d).trans ((congrFun (V0_of_not_mem m c main_arg13 (by decide)) _).trans (A.a13 _ d))
  h16 u d := (b16_eq (V0 m c) (tabs m 0) (pt n) (ix2 u d)).trans ((e8 m c u d).trans (A.a14 d))
  h25 := wt_at _ W.wt fun t y d => (b17_eq _ _ t y d).trans ((congrFun (V0_of_not_mem m c main_arg15 (by decide)) _).trans (A.a15 _ d))
  h18 u d := (b18_eq (V0 m c) (tabs m 0) (pt n) (ix2 u d)).trans ((e9 m c u d).trans (A.a16 d))

theorem emb_at (b : Fin 8) (s : Fin 20) (d : Fin 1536) : embAt (insOf m c) (ix3 b s d) = ((emb I b s d : ℝ) : EReal) :=
  embed_at I _ _ _ _ _ _
    (fun b => (b2_eq _ _ _ _).trans ((congrFun (V0_of_not_mem m c main_arg1 (by decide)) _).trans (A.a1 b)))
    (fun u d => (b7_eq (V0 m c) (tabs m 0) (pt 12) (ix2 u d)).trans ((e1 m c u d).trans (A.a5 d)))
    (fun s d => (b8_eq _ _ _ _).trans ((e4 m c s d).trans (A.a8 0 s d)))
    (fun u d => (b9_eq _ _ _ _).trans ((e3 m c u d).trans (A.a6 d 0)))
    (fun u d => (b10_eq _ _ _ _).trans ((e2 m c u d).trans (A.a7 d)))
    (xt_at _ I (fun t b s e => (b5_eq _ _ t _).trans ((congrFun (V0_of_not_mem m c main_arg3 (by decide)) _).trans (A.a3 b s e)))
      (fun t y e => (b6_eq _ _ t y e).trans ((congrFun (V0_of_not_mem m c main_arg4 (by decide)) _).trans (A.a4 _ e))))
    b s d

theorem first : Holds (tokK (insOf m c) 0) (tok0 I) where
  cl g d := (pay8_at ((insOf m c).b11 (pt 12)) g d).trans ((b11_eq (V0 m c) (tabs m 0) (pt 12) (ix2 ⟨g.val % 5, by omega⟩ d)).trans ((e5 m c ⟨g.val % 5, by omega⟩ d).trans (A.a9 0 ⟨g.val % 5, by omega⟩ 0 d)))
  gr r d := by
    refine (pay7_at (embAt (insOf m c)) r d).trans ((emb_at A _ _ d).trans ?_)
    have h : ¬ r.val % 4 + 1 = 0 := by omega
    have e1 : (⟨r.val / 4 / 5, by omega⟩ : Fin 8) = ⟨r.val / 20, by omega⟩ := Fin.ext (by show r.val / 4 / 5 = r.val / 20; omega)
    have e2 : (⟨r.val / 4 % 5 * 4 + (r.val % 4 + 1 - 1), by omega⟩ : Fin 20) = ⟨r.val % 20, by omega⟩ :=
      Fin.ext (by show r.val / 4 % 5 * 4 + (r.val % 4 + 1 - 1) = r.val % 20; omega)
    refine congrArg Real.toEReal ?_
    refine Eq.symm ((if_neg h).trans ?_)
    rw [← e1, ← e2]

/-- The third result. -/
theorem g_at (b : Fin 8) (n k : Fin 5) (d : Fin 1536) :
    gAt (insOf m c) (ix4 b n k d) = (((step W)^[4] (tok0 I) ⟨b.val * 5 + n.val, by omega⟩ k d : ℝ) : EReal) :=
  finish_at _ _ (tok_holds W _ (passes A) _ (first A) 4) _ b n k d
/-- The fourth result. -/
theorem pooled_at (b : Fin 8) (d : Fin 1536) : pooledAt (insOf m c) (ix2 b d) = ((pool I b d : ℝ) : EReal) :=
  pay6_at I _ (emb_at A) b d

end Cert.Fused
-- ==== Proof.Scat.lean ====
module

public import proofs.«01_k».proof.Proof.Gen.ReferenceIdeal
public import Idealize.ShloMosaic.Lib.Routing.OpsPair
public import Idealize.ShloMosaic.Lib.Pointwise

@[expose] public section

set_option maxRecDepth 16384
noncomputable section

namespace Cert.Fused.Ref

open Cert.ReferenceIdeal Cert.ReferenceIdeal.Gen
open Idealize.ShloMosaic Idealize.ShloMosaic.TcCoe

/-! ## The write of the first tokens -/

theorem fold_set {ι α : Type} (P : ι → Prop) [DecidablePred P] (g : ι → α) (v : α) (l : List ι) (a : α)
    (hg : ∀ n ∈ l, P n → g n = v) (h : a = v ∨ ∃ n ∈ l, P n) : l.foldl (fun b n => if P n then g n else b) a = v := by
  induction l generalizing a with
  | nil => simpa using h
  | cons x l ih =>
    rw [List.foldl_cons]
    refine ih _ (fun n hn => hg n (List.mem_cons_of_mem _ hn)) ?_
    by_cases hx : P x
    · exact Or.inl (by rw [if_pos hx]; exact hg x List.mem_cons_self hx)
    · rw [if_neg hx]
      rcases h with h | ⟨n, hn, hp⟩
      · exact Or.inl h
      · rcases List.mem_cons.mp hn with rfl | hn
        · exact absurd hp hx
        · exact Or.inr ⟨n, hn, hp⟩

abbrev sd := scatter_S8x5x5x1536_S1_S8x5x1536_012_2_2_0

theorem sd_window (k : S8x5x1536.Idx) : sd.window k 0 = (k 0).val ∧ sd.window k 1 = (k 1).val ∧ sd.window k 2 = 0 ∧ sd.window k 3 = (k 2).val := by
  refine ⟨rfl, rfl, rfl, rfl⟩

theorem sd_start (k : S8x5x1536.Idx) (idx : IVec S1 32) (h0 : ∀ j, idx j = 0#32) (a : Fin 4) : sd.start k idx a = 0 := by
  unfold ScatterDims.start
  split_ifs
  · rw [h0]; rfl
  · rfl

theorem lands (k : S8x5x1536.Idx) (idx : IVec S1 32) (h0 : ∀ j, idx j = 0#32) (b : Fin 8) (n k' : Fin 5) (d : Fin 1536) :
    sd.resultIdx? k idx = some (ix4 b n k' d) ↔ k = ix3 b n d ∧ k'.val = 0 := by
  rw [Routing.resultIdx?_eq_some]
  obtain ⟨w0, w1, w2, w3⟩ := sd_window k
  constructor
  · intro h
    have e0 := h 0
    have e1 := h 1
    have e2 := h 2
    have e3 := h 3
    rw [sd_start k idx h0, w0] at e0
    rw [sd_start k idx h0, w1] at e1
    rw [sd_start k idx h0, w2] at e2
    rw [sd_start k idx h0, w3] at e3
    refine ⟨?_, ?_⟩
    · funext a
      apply Fin.ext
      fin_cases a
      · have : ((k 0).val : Int) = (b.val : Int) := by simpa using e0
        exact_mod_cast this
      · have : ((k 1).val : Int) = (n.val : Int) := by simpa using e1
        exact_mod_cast this
      · have : ((k 2).val : Int) = (d.val : Int) := by simpa using e3
        exact_mod_cast this
    · have : (0 : Int) = (k'.val : Int) := by simpa using e2
      exact_mod_cast this.symm
  · rintro ⟨rfl, hk⟩ a
    rw [sd_start _ idx h0]
    fin_cases a
    · rw [show sd.window (ix3 b n d) ((fun i => i) ⟨0, by decide⟩) = _ from (sd_window _).1]; simp [ix3, ix4]
    · rw [show sd.window (ix3 b n d) ((fun i => i) ⟨1, by decide⟩) = _ from (sd_window _).2.1]; simp [ix3, ix4]
    · rw [show sd.window (ix3 b n d) ((fun i => i) ⟨2, by decide⟩) = _ from (sd_window _).2.2.1]; simp [ix4, hk]
    · rw [show sd.window (ix3 b n d) ((fun i => i) ⟨3, by decide⟩) = _ from (sd_window _).2.2.2]; simp [ix3, ix4]

theorem set_at (x : S8x5x5x1536.Idx → EReal) (idx : IVec S1 32) (h0 : ∀ j, idx j = 0#32) (u : S8x5x1536.Idx → EReal) (b : Fin 8) (n k' : Fin 5) (d : Fin 1536) :
    Host.scatter sd (fun _ b => b) x idx u (ix4 b n k' d) = if k'.val = 0 then u (ix3 b n d) else x (ix4 b n k' d) := by
  rw [Routing.scatter_at]
  refine fold_set (fun m => sd.resultIdx? (S8x5x1536.rowMajor.symm m) idx = some (ix4 b n k' d)) (fun m => u (S8x5x1536.rowMajor.symm m)) _ _ _ ?_ ?_
  · intro m _ hm
    have := (lands _ idx h0 b n k' d).mp hm
    rw [this.1, if_pos this.2]
  · by_cases hk : k'.val = 0
    · refine Or.inr ⟨S8x5x1536.rowMajor (ix3 b n d), List.mem_finRange _, ?_⟩
      exact (lands _ idx h0 b n k' d).mpr ⟨Equiv.symm_apply_apply _ _, hk⟩
    · exact Or.inl (by rw [if_neg hk])

end Cert.Fused.Ref
-- ==== Proof.RefVal.lean ====
module

public import proofs.«01_k».proof.Proof.Scat
public import proofs.«01_k».proof.Proof.Model

@[expose] public section

set_option maxRecDepth 16384
noncomputable section

namespace Cert.Fused.Ref

open Cert.ReferenceIdeal Cert.ReferenceIdeal.Gen
open Idealize.ShloMosaic Idealize.ShloMosaic.TcCoe
open Model

/-! ## The reference's pass, cut into its stages -/

section stages
variable (T : FVec Ideal S40x5x1536 .f32) (w10 w11 : FVec Ideal S1536 .f32) (w12 : FVec Ideal S4608x1536 .f32) (w13 : FVec Ideal S1536x1536 .f32)
  (w14 : FVec Ideal S1536 .f32) (w15 : FVec Ideal S1536x1536 .f32) (w16 : FVec Ideal S1536 .f32)

def rowMean : FVec Ideal S40x5x1 .f32 :=
  Host.divf (broadcastInDim S40x5x1 ![0, 1] bcast_S40x5_S40x5x1_0_1 (Host.reduceAdd T (constant S_ .f32 0x00000000#32) reducesTo_S40x5x1536_S40x5_d2 h_S_)) (broadcastInDim S40x5x1 ![] bcast_S_S40x5x1 (constant S_ .f32 0x44C00000#32))
def centred : FVec Ideal S40x5x1536 .f32 := subf T (broadcastInDim S40x5x1536 ![0, 1, 2] bcast_S40x5x1_S40x5x1536_0_1_2 (rowMean T))
def count : FVec Ideal S_ .f32 := subf (constant S_ .f32 0x44C00000#32) (sitofp .f32 (constantI S_ 32 0#32))
def rowVar : FVec Ideal S40x5x1 .f32 :=
  select (broadcastInDim S40x5x1 ![] bcast_S_S40x5x1 (cmpf .ogt count (constant S_ .f32 0x00000000#32)))
    (Host.divf (broadcastInDim S40x5x1 ![0, 1] bcast_S40x5_S40x5x1_0_1 (Host.reduceAdd (mulf (centred T) (centred T)) (constant S_ .f32 0x00000000#32) reducesTo_S40x5x1536_S40x5_d2 h_S_)) (broadcastInDim S40x5x1 ![] bcast_S_S40x5x1 count))
    (broadcastInDim S40x5x1 ![] bcast_S_S40x5x1 (id (constant S_ .f32 0x7FC00000#32)))
def along (w : FVec Ideal S1536 .f32) : FVec Ideal S40x5x1536 .f32 := broadcastInDim S40x5x1536 ![0, 1, 2] bcast_S1x1x1536_S40x5x1536_0_1_2 (broadcastInDim S1x1x1536 ![2] bcast_S1536_S1x1x1536_2 w)
def normed : FVec Ideal S40x5x1536 .f32 :=
  addf (mulf (Host.divf (centred T) (broadcastInDim S40x5x1536 ![0, 1, 2] bcast_S40x5x1_S40x5x1536_0_1_2 (Host.sqrt (addf (rowVar T) (broadcastInDim S40x5x1 ![] bcast_S_S40x5x1 (constant S_ .f32 0x3727C5AC#32)))))) (along w10)) (along w11)
def threes : FVec Ideal S3x40x12x5x128 .f32 :=
  transpose S3x40x12x5x128 [2, 0, 3, 1, 4] (shapeCast _ (Host.dotGeneral dot_S40x5x1536_S1536x4608_S40x5x4608_2_0_01_1_n_n none (normed T w10 w11) (transpose S1536x4608 [1, 0] w12 transposes_S4608x1536_S1536x4608_1_0)) shapeCasts_S40x5x4608_S40x5x3x12x128) transposes_S40x5x3x12x128_S3x40x12x5x128_2_0_3_1_4
end stages

section heads
variable (Z : FVec Ideal S3x40x12x5x128 .f32)
def scores : FVec Ideal S40x12x5x5 .f32 :=
  mulf (Host.dotGeneral dot_S40x12x5x128_S40x12x5x128_S40x12x5x5_3_3_2_2_01_01 none (shapeCast _ (extractStridedSlice S1x40x12x5x128 ![0, 0, 0, 0, 0] Z slices_S3x40x12x5x128_S1x40x12x5x128_0_0_0_0_0) shapeCasts_S1x40x12x5x128_S40x12x5x128) (shapeCast _ (extractStridedSlice S1x40x12x5x128 ![1, 0, 0, 0, 0] Z slices_S3x40x12x5x128_S1x40x12x5x128_1_0_0_0_0) shapeCasts_S1x40x12x5x128_S40x12x5x128)) (broadcastInDim S40x12x5x5 ![] bcast_S_S40x12x5x5 (constant S_ .f32 0x3DB504F3#32))
def greatest (s : FVec Ideal S40x12x5x5 .f32) : FVec Ideal S40x12x5 .f32 :=
  maximumf (broadcastInDim S40x12x5 ![] bcast_S_S40x12x5 (constant S_ .f32 0xFF800000#32)) (Host.reduce FloatOps.maximumf s (constant S_ .f32 0xFF800000#32) reducesTo_S40x12x5x5_S40x12x5_d3 h_S_)
def over5 (x : FVec Ideal S40x12x5 .f32) : FVec Ideal S40x12x5x5 .f32 :=
  broadcastInDim S40x12x5x5 ![0, 1, 2, 3] bcast_S40x12x5x1_S40x12x5x5_0_1_2_3 (broadcastInDim S40x12x5x1 ![0, 1, 2] bcast_S40x12x5_S40x12x5x1_0_1_2 x)
def powers (s : FVec Ideal S40x12x5x5 .f32) : FVec Ideal S40x12x5x5 .f32 := Host.exp (subf s (over5 (greatest s)))
def mixed (p : FVec Ideal S40x12x5x5 .f32) : FVec Ideal S40x5x1536 .f32 :=
  shapeCast _ (transpose S40x5x12x128 [0, 2, 1, 3] (Host.dotGeneral dot_S40x12x5x5_S40x12x5x128_S40x12x5x128_3_2_2_3_01_01 none (Host.divf p (over5 (Host.reduceAdd p (constant S_ .f32 0x00000000#32) reducesTo_S40x12x5x5_S40x12x5_d3 h_S_))) (shapeCast _ (extractStridedSlice S1x40x12x5x128 ![2, 0, 0, 0, 0] Z slices_S3x40x12x5x128_S1x40x12x5x128_2_0_0_0_0) shapeCasts_S1x40x12x5x128_S40x12x5x128)) transposes_S40x12x5x128_S40x5x12x128_0_2_1_3) shapeCasts_S40x5x12x128_S40x5x1536
end heads

def linear (x : FVec Ideal S40x5x1536 .f32) (w : FVec Ideal S1536x1536 .f32) (b : FVec Ideal S1536 .f32) : FVec Ideal S40x5x1536 .f32 :=
  addf (Host.dotGeneral dot_S40x5x1536_S1536x1536_S40x5x1536_2_0_01_1_n_n none x (transpose S1536x1536 [1, 0] w transposes_S1536x1536_S1536x1536_1_0)) (along b)
def updated (T o : FVec Ideal S40x5x1536 .f32) (w13 w15 : FVec Ideal S1536x1536 .f32) (w14 w16 : FVec Ideal S1536 .f32) : FVec Ideal S8x5x5x1536 .f32 :=
  shapeCast _ (addf (linear (linear o w13 w14) w15 w16) T) shapeCasts_S40x5x1536_S8x5x5x1536
def firsts (u : FVec Ideal S8x5x5x1536 .f32) : FVec Ideal S8x5x1536 .f32 :=
  shapeCast _ (extractStridedSlice S8x5x1x1536 ![0, 0, 0, 0] u slices_S8x5x5x1536_S8x5x1x1536_0_0_0_0) shapeCasts_S8x5x1x1536_S8x5x1536
def rolled (u : FVec Ideal S8x5x5x1536 .f32) : FVec Ideal S8x5x5x1536 .f32 :=
  Host.scatter scatter_S8x5x5x1536_S1_S8x5x1536_012_2_2_0 (fun _ b => b) u (broadcastInDim S1 ![] bcast_S_S1 (constantI S_ 32 0#32)) (concatenate S8x5x1536 1 [⟨S8x1x1536, (extractStridedSlice S8x1x1536 ![0, 4, 0] (firsts u) slices_S8x5x1536_S8x1x1536_0_4_0)⟩, ⟨S8x4x1536, (extractStridedSlice S8x4x1536 ![0, 0, 0] (firsts u) slices_S8x5x1536_S8x4x1536_0_0_0)⟩] concatenates_S8x1x1536_S8x4x1536_S8x5x1536_d1)

/-! ## Its stages at an index -/

section at_index
variable (W : Wt) (t : Fin 40 → Fin 5 → Fin 1536 → ℝ) (T : FVec Ideal S40x5x1536 .f32) (hT : ∀ g i d, T (ix3 g i d) = ((t g i d : ℝ) : EReal))
include hT

theorem div_width' (x : ℝ) : Ideal.div (x : EReal) (Ideal.ofBits .f32 0x44C00000#32) = ((x * (1 / 1536) : ℝ) : EReal) := by
  rw [width_eq, Ideal.div_coe (by norm_num), ← EReal.coe_mul]

theorem centred_at (g : Fin 40) (i : Fin 5) (d : Fin 1536) : centred T (ix3 g i d) = ((t g i d - mean (t g i) : ℝ) : EReal) := by
  pointwise [centred, rowMean]
  simp only [hT, coe_sum, div_width' t T hT, zero_add]
  rfl

omit hT in
theorem count_at : count ix0 = ((1536 : ℝ) : EReal) := by
  pointwise [count]
  rw [width_eq]
  show ((1536 : ℝ) : EReal) - (((0#32).toInt : ℝ) : EReal) = _
  simp

theorem rowVar_at (g : Fin 40) (i : Fin 5) (u : Fin 1) : rowVar T (ix3 g i u) = ((vari (t g i) : ℝ) : EReal) := by
  pointwise [rowVar]
  simp only [centred_at t T hT, count_at]
  rw [if_pos (by exact_mod_cast (by norm_num : (0 : ℝ) < 1536)), coe_dot, Ideal.div_coe (by norm_num), ← EReal.coe_mul]
  rfl

theorem normed_at (w10 w11 : FVec Ideal S1536 .f32) (h10 : ∀ d, w10 (ix1 d) = ((W.lw d : ℝ) : EReal)) (h11 : ∀ d, w11 (ix1 d) = ((W.lb d : ℝ) : EReal))
    (g : Fin 40) (i : Fin 5) (d : Fin 1536) : normed T w10 w11 (ix3 g i d) = ((nrm W (t g i) d : ℝ) : EReal) := by
  pointwise [normed, along]
  simp only [centred_at t T hT, rowVar_at t T hT, h10, h11, eps_eq, ← EReal.coe_add]
  have hv := vari_eps_pos (t g i)
  have hs : Real.sqrt (vari (t g i) + eps) ≠ 0 := (Real.sqrt_pos.mpr hv).ne'
  rw [Ideal.sqrt_coe, if_neg (not_lt.mpr hv.le), Ideal.div_coe hs, ← EReal.coe_mul, ← EReal.coe_mul, ← EReal.coe_add, one_div]
  rfl

theorem threes_at (w10 w11 : FVec Ideal S1536 .f32) (w12 : FVec Ideal S4608x1536 .f32) (h10 : ∀ d, w10 (ix1 d) = ((W.lw d : ℝ) : EReal)) (h11 : ∀ d, w11 (ix1 d) = ((W.lb d : ℝ) : EReal))
    (h12 : ∀ c d, w12 (ix2 c d) = ((W.wq c d : ℝ) : EReal)) (s : Fin 3) (g : Fin 40) (h : Fin 12) (i : Fin 5) (e : Fin 128) :
    threes T w10 w11 w12 (ix5 s g h i e) = ((pr W (t g i) ⟨s.val * 1536 + h.val * 128 + e.val, by omega⟩ : ℝ) : EReal) := by
  pointwise [threes]
  simp only [normed_at W t T hT w10 w11 h10 h11, h12, coe_dot]
  rfl

end at_index

section at_heads
variable (W : Wt) (t : Fin 40 → Fin 5 → Fin 1536 → ℝ) (Z : FVec Ideal S3x40x12x5x128 .f32)
  (hZ : ∀ s g h i e, Z (ix5 s g h i e) = ((pr W (t g i) ⟨s.val * 1536 + h.val * 128 + e.val, by omega⟩ : ℝ) : EReal))
include hZ

theorem scores_at (g : Fin 40) (h : Fin 12) (i j : Fin 5) : scores Z (ix4 g h i j) = ((score W (t g i) (t g j) h : ℝ) : EReal) := by
  pointwise [scores]
  simp only [hZ, coe_dot, fac_eq, ← EReal.coe_mul]
  have hq (e : Fin 128) : (⟨(0 : Fin 3).val * 1536 + h.val * 128 + e.val, by simp; omega⟩ : Fin 4608) = qi h e := Fin.ext (by simp [qi]; omega)
  have hk (e : Fin 128) : (⟨(1 : Fin 3).val * 1536 + h.val * 128 + e.val, by simp; omega⟩ : Fin 4608) = ki h e := Fin.ext (by simp [ki]; omega)
  simp only [hq, hk]
  rw [coe_sum, ← EReal.coe_mul]
  rfl

omit hZ in
theorem fold_real (s : Fin 5 → ℝ) : ∃ M : ℝ, Finset.fold max (⊥ : EReal) (fun j => ((s j : ℝ) : EReal)) Finset.univ = ((M : ℝ) : EReal) := by
  have key : ∀ S : Finset (Fin 5), S.Nonempty → ∃ M : ℝ, Finset.fold max (⊥ : EReal) (fun j => ((s j : ℝ) : EReal)) S = ((M : ℝ) : EReal) := by
    intro S hS
    induction hS using Finset.Nonempty.cons_induction with
    | singleton a => exact ⟨s a, by simp⟩
    | cons a S ha _ ih =>
      obtain ⟨M, hM⟩ := ih
      exact ⟨max (s a) M, by rw [Finset.fold_cons, hM]; exact (EReal.coe_strictMono.monotone.map_max).symm⟩
  exact key _ ⟨0, Finset.mem_univ _⟩

omit hZ in
theorem greatest_at (s : FVec Ideal S40x12x5x5 .f32) (g : Fin 40) (h : Fin 12) (i : Fin 5) (r : Fin 5 → ℝ) (hs : ∀ j, s (ix4 g h i j) = ((r j : ℝ) : EReal)) :
    ∃ M : ℝ, greatest s (ix3 g h i) = ((M : ℝ) : EReal) := by
  obtain ⟨M, hM⟩ := fold_real r
  refine ⟨M, ?_⟩
  rw [← hM]
  pointwise [greatest]
  have hb : Ideal.ofBits .f32 0xFF800000#32 = ⊥ := by simp [Ideal.ofBits, Ideal.ieee]
  simp only [hb, hs, bot_le, max_eq_right]

omit hZ in
theorem powers_at (s : FVec Ideal S40x12x5x5 .f32) (g : Fin 40) (h : Fin 12) (i : Fin 5) (r : Fin 5 → ℝ) (hs : ∀ j, s (ix4 g h i j) = ((r j : ℝ) : EReal)) :
    ∃ M : ℝ, ∀ j, powers s (ix4 g h i j) = ((Real.exp (r j - M) : ℝ) : EReal) := by
  obtain ⟨M, hM⟩ := greatest_at s g h i r hs
  refine ⟨M, fun j => ?_⟩
  pointwise [powers, over5]
  simp only [hM, hs, ← EReal.coe_sub, Ideal.exp_coe]

theorem mixed_at (g : Fin 40) (i : Fin 5) (c : Fin 1536) : mixed Z (powers (scores Z)) (ix3 g i c) = ((heads W (t g) i c : ℝ) : EReal) := by
  obtain ⟨M, hM⟩ := powers_at (scores Z) g ⟨c.val / 128, by omega⟩ i (fun j => score W (t g i) (t g j) ⟨c.val / 128, by omega⟩) (scores_at W t Z hZ g _ i)
  generalize powers (scores Z) = p at hM
  pointwise [mixed, over5]
  have hS : (∑ j, Real.exp (score W (t g i) (t g j) ⟨c.val / 128, by omega⟩ - M)) ≠ 0 := (Finset.sum_pos (fun j _ => Real.exp_pos _) ⟨0, Finset.mem_univ _⟩).ne'
  have hv (e : Fin 128) : (⟨(2 : Fin 3).val * 1536 + c.val / 128 * 128 + e.val, by simp; omega⟩ : Fin 4608) = vi ⟨c.val / 128, by omega⟩ e := Fin.ext (by simp [vi]; omega)
  simp only [hZ, hM, coe_sum, zero_add, Ideal.div_coe hS, ← EReal.coe_mul]
  refine congrArg Real.toEReal ?_
  refine Eq.trans (Finset.sum_congr rfl fun k _ => ?_) (softmax_shift (fun j => score W (t g i) (t g j) ⟨c.val / 128, by omega⟩)
    (fun j => pr W (t g j) (vi ⟨c.val / 128, by omega⟩ ⟨c.val % 128, Nat.mod_lt _ (by decide)⟩)) M)
  rw [← hv]

end at_heads

section at_end
variable (W : Wt) (t : Fin 40 → Fin 5 → Fin 1536 → ℝ)

theorem linear_at (x : FVec Ideal S40x5x1536 .f32) (w : FVec Ideal S1536x1536 .f32) (b : FVec Ideal S1536 .f32) (X : Fin 1536 → ℝ) (Y : Fin 1536 → Fin 1536 → ℝ) (B : Fin 1536 → ℝ)
    (g : Fin 40) (i : Fin 5) (hx : ∀ d, x (ix3 g i d) = ((X d : ℝ) : EReal)) (hw : ∀ c d, w (ix2 c d) = ((Y c d : ℝ) : EReal)) (hb : ∀ d, b (ix1 d) = ((B d : ℝ) : EReal)) (c : Fin 1536) :
    linear x w b (ix3 g i c) = (((∑ d, X d * Y c d) + B c : ℝ) : EReal) := by
  pointwise [linear, along]
  simp only [hx, hw, hb, coe_dot, ← EReal.coe_add]

def grpOf (b : Fin 8) (n : Fin 5) : Fin 40 := ⟨b.val * 5 + n.val, by omega⟩

theorem updated_at (T o : FVec Ideal S40x5x1536 .f32) (w13 w15 : FVec Ideal S1536x1536 .f32) (w14 w16 : FVec Ideal S1536 .f32)
    (hT : ∀ g i d, T (ix3 g i d) = ((t g i d : ℝ) : EReal)) (ho : ∀ g i d, o (ix3 g i d) = ((heads W (t g) i d : ℝ) : EReal))
    (h13 : ∀ c d, w13 (ix2 c d) = ((W.wp c d : ℝ) : EReal)) (h15 : ∀ c d, w15 (ix2 c d) = ((W.wt c d : ℝ) : EReal))
    (h14 : ∀ d, w14 (ix1 d) = ((W.bp d : ℝ) : EReal)) (h16 : ∀ d, w16 (ix1 d) = ((W.bt d : ℝ) : EReal))
    (b : Fin 8) (n k : Fin 5) (d : Fin 1536) : updated T o w13 w15 w14 w16 (ix4 b n k d) = ((upd W (t (grpOf b n)) k d : ℝ) : EReal) := by
  have h1 := fun g i c => linear_at o w13 w14 _ _ _ g i (ho g i) h13 h14 c
  have h2 := fun g i c => linear_at (linear o w13 w14) w15 w16 _ _ _ g i (h1 g i) h15 h16 c
  unfold updated
  generalize linear (linear o w13 w14) w15 w16 = y at h2
  pointwise
  simp only [h2, hT, ← EReal.coe_add]
  rfl

theorem rolled_at (u : FVec Ideal S8x5x5x1536 .f32) (hu : ∀ b n k d, u (ix4 b n k d) = ((upd W (t (grpOf b n)) k d : ℝ) : EReal))
    (b : Fin 8) (n k : Fin 5) (d : Fin 1536) : rolled u (ix4 b n k d) = ((step W t (grpOf b n) k d : ℝ) : EReal) := by
  unfold rolled
  refine (set_at _ _ (fun j => by pointwise) _ b n k d).trans ?_
  unfold step
  split_ifs with hk
  · have e0 : k = 0 := Fin.ext hk
    subst e0
    pointwise [firsts]
    split_ifs with hn hn'
    · refine (hu b _ 0 d).trans ?_
      have e : grpOf b ⟨4 + n.val, by omega⟩ = prev (grpOf b n) := Fin.ext (by
        show b.val * 5 + (4 + n.val) = if (b.val * 5 + n.val) % 5 = 0 then b.val * 5 + n.val + 4 else b.val * 5 + n.val - 1
        rw [if_pos (by omega)]; omega)
      rw [e]
    · refine (hu b _ 0 d).trans ?_
      have e : grpOf b ⟨n.val - 1, by omega⟩ = prev (grpOf b n) := Fin.ext (by
        show b.val * 5 + (n.val - 1) = if (b.val * 5 + n.val) % 5 = 0 then b.val * 5 + n.val + 4 else b.val * 5 + n.val - 1
        rw [if_neg (by omega)]; omega)
      rw [e]
    · exact absurd rfl hn'
  · exact hu b n k d

theorem next_at (u : FVec Ideal S8x5x5x1536 .f32) (hu : ∀ b n k d, u (ix4 b n k d) = ((upd W (t (grpOf b n)) k d : ℝ) : EReal))
    (g : Fin 40) (k : Fin 5) (d : Fin 1536) : shapeCast S40x5x1536 (rolled u) shapeCasts_S8x5x5x1536_S40x5x1536 (ix3 g k d) = ((step W t g k d : ℝ) : EReal) := by
  have h := rolled_at W t u hu
  generalize rolled u = y at h
  pointwise
  refine (h _ _ k d).trans ?_
  have e : grpOf ⟨g.val / 5, by omega⟩ ⟨g.val % 5, by omega⟩ = g := Fin.ext (by show g.val / 5 * 5 + g.val % 5 = g.val; omega)
  rw [e]

end at_end

end Cert.Fused.Ref
-- ==== Proof.RefEmb.lean ====
module

public import proofs.«01_k».proof.Proof.RefVal
public import proofs.«01_k».proof.Proof.EmbVal
public import proofs.«01_k».proof.Proof.Gen.ReferenceIdeal.Run
public import Idealize.ShloMosaic.Lib.Tactic.CleanTypes

@[expose] public section

set_option maxRecDepth 16384
noncomputable section

/-!
# The reference's results in the real numbers

From arguments that are real numbers: its embedding, its first tokens, its four passes and its smoothed row.
-/

namespace Cert.Fused.Ref

open Cert.ReferenceIdeal Cert.ReferenceIdeal.Gen Cert.ReferenceIdeal.Value Model Cert.Fused.Model
open Idealize.ShloMosaic Idealize.ShloMosaic.TcCoe

/-- The arguments are these real numbers. -/
structure Args (V : Valuation τ sig (Elt Ideal)) (I : Src) (W : Wt) : Prop where
  a1 : ∀ b, V (Proc.devRef .tc main_arg1) (ix1 b) = ((I.ts b : ℝ) : EReal)
  a3 : ∀ b s e, V (Proc.devRef .tc main_arg3) (ix3 b s e) = ((I.ft b s e : ℝ) : EReal)
  a4 : ∀ c e, V (Proc.devRef .tc main_arg4) (ix2 c e) = ((I.wr c e : ℝ) : EReal)
  a5 : ∀ d, V (Proc.devRef .tc main_arg5) (ix1 d) = ((I.br d : ℝ) : EReal)
  a6 : ∀ d u, V (Proc.devRef .tc main_arg6) (ix2 d u) = ((I.wn d : ℝ) : EReal)
  a7 : ∀ d, V (Proc.devRef .tc main_arg7) (ix1 d) = ((I.bn d : ℝ) : EReal)
  a8 : ∀ u s d, V (Proc.devRef .tc main_arg8) (ix3 u s d) = ((I.te s d : ℝ) : EReal)
  a9 : ∀ u n u' d, V (Proc.devRef .tc main_arg9) (ix4 u n u' d) = ((I.cl n d : ℝ) : EReal)
  a10 : ∀ d, V (Proc.devRef .tc main_arg10) (ix1 d) = ((W.lw d : ℝ) : EReal)
  a11 : ∀ d, V (Proc.devRef .tc main_arg11) (ix1 d) = ((W.lb d : ℝ) : EReal)
  a12 : ∀ c d, V (Proc.devRef .tc main_arg12) (ix2 c d) = ((W.wq c d : ℝ) : EReal)
  a13 : ∀ c d, V (Proc.devRef .tc main_arg13) (ix2 c d) = ((W.wp c d : ℝ) : EReal)
  a14 : ∀ d, V (Proc.devRef .tc main_arg14) (ix1 d) = ((W.bp d : ℝ) : EReal)
  a15 : ∀ c d, V (Proc.devRef .tc main_arg15) (ix2 c d) = ((W.wt c d : ℝ) : EReal)
  a16 : ∀ d, V (Proc.devRef .tc main_arg16) (ix1 d) = ((W.bt d : ℝ) : EReal)

variable {V : Valuation τ sig (Elt Ideal)} {I : Src} {W : Wt} (A : Args V I W)
include A

theorem v67_at (b : Fin 8) (s : Fin 20) (d : Fin 1536) : res_main_v67 V (ix3 b s d) = ((emb I b s d : ℝ) : EReal) := by
  have h1 := A.a1
  have h3 := A.a3
  have h4 := A.a4
  have h5 := A.a5
  have h6 := A.a6
  have h7 := A.a7
  have h8 := A.a8
  unfold res_main_v67
  clean_types
  pointwise
  simp only [h1, h3, h4, h5, h6, h7, h8, ← EReal.coe_mul, coe_sum, ← EReal.coe_add, Fin.sum_univ_one]
  rfl

theorem v81_at (g : Fin 40) (k : Fin 5) (d : Fin 1536) : res_main_v81 V (ix3 g k d) = ((tok0 I g k d : ℝ) : EReal) := by
  have h67 := v67_at A
  have h9 := A.a9
  unfold res_main_v81
  clean_types
  pointwise
  by_cases h : k.val < 1
  · exact (dif_pos h).trans ((h9 _ _ _ _).trans (congrArg Real.toEReal (if_pos (c := k.val = 0) (by omega)).symm))
  · exact (dif_neg h).trans ((h67 _ _ _).trans (congrArg Real.toEReal (if_neg (c := k.val = 0) (by omega)).symm))

omit A in
theorem three : Ideal.ofBits .f32 0x40400000#32 = ((3 : ℝ) : EReal) := by
  have h : Ideal.ofBits .f32 0x40400000#32 = (((12582912 : ℝ) * (2 ^ 22)⁻¹ : ℝ) : EReal) := by
    rw [EReal.coe_mul]
    simp [Ideal.ofBits, Ideal.ieee]
    try rfl
  rw [h]; norm_num

/-- The smoothed last row, from the embedding between two rows of zeros. -/
theorem pooled_of (p : FVec Ideal S8x22x1536 .f32) (h18 : ∀ b d, p (ix3 b 19 d) = ((emb I b 18 d : ℝ) : EReal)) (h19 : ∀ b d, p (ix3 b 20 d) = ((emb I b 19 d : ℝ) : EReal))
    (h20 : ∀ b d, p (ix3 b 21 d) = (0 : EReal)) (b : Fin 8) (d : Fin 1536) :
    (shapeCast S8x1536 (extractStridedSlice S8x1x1536 ![0, 19, 0] (Host.divf (addf (addf (extractStridedSlice S8x20x1536 ![0, 0, 0] p slices_S8x22x1536_S8x20x1536_0_0_0) (extractStridedSlice S8x20x1536 ![0, 1, 0] p slices_S8x22x1536_S8x20x1536_0_1_0)) (extractStridedSlice S8x20x1536 ![0, 2, 0] p slices_S8x22x1536_S8x20x1536_0_2_0)) (broadcastInDim S8x20x1536 ![] bcast_S_S8x20x1536 (constant S_ .f32 0x40400000#32))) slices_S8x20x1536_S8x1x1536_0_19_0) shapeCasts_S8x1x1536_S8x1536 : FVec Ideal S8x1536 .f32)
      (ix2 b d) = ((pool I b d : ℝ) : EReal) := by
  pointwise
  rw [h18, h19, h20, add_zero, three, Ideal.div_coe (by norm_num), ← EReal.coe_add, ← EReal.coe_mul]
  unfold Model.pool
  rw [one_div]

theorem v68_at (b : Fin 8) (s : Fin 22) (d : Fin 1536) : res_main_v68 V (ix3 b s d) = if h : 1 ≤ s.val ∧ s.val - 1 < 20 then res_main_v67 V (ix3 b ⟨s.val - 1, by omega⟩ d) else (0 : EReal) := by
  unfold res_main_v68
  clean_types
  pointwise
  have e : (FloatOps.sitofp FTy.f32 0#32 : Ideal .f32) = (0 : EReal) := by
    show (((0#32 : BitVec 32).toInt : ℝ) : EReal) = 0
    simp
  rw [e]

theorem v77_at (b : Fin 8) (d : Fin 1536) :
    (shapeCast S8x1536 (extractStridedSlice S8x1x1536 ![0, 19, 0] (Host.divf (addf (addf (extractStridedSlice S8x20x1536 ![0, 0, 0] (res_main_v68 V) slices_S8x22x1536_S8x20x1536_0_0_0) (extractStridedSlice S8x20x1536 ![0, 1, 0] (res_main_v68 V) slices_S8x22x1536_S8x20x1536_0_1_0)) (extractStridedSlice S8x20x1536 ![0, 2, 0] (res_main_v68 V) slices_S8x22x1536_S8x20x1536_0_2_0)) (broadcastInDim S8x20x1536 ![] bcast_S_S8x20x1536 (constant S_ .f32 0x40400000#32))) slices_S8x20x1536_S8x1x1536_0_19_0) shapeCasts_S8x1x1536_S8x1536 : FVec Ideal S8x1536 .f32)
      (ix2 b d) = ((pool I b d : ℝ) : EReal) := by
  refine pooled_of (I := I) A (res_main_v68 V) (fun b d => ?_) (fun b d => ?_) (fun b d => ?_) b d
  · exact (v68_at A b 19 d).trans ((dif_pos (by decide)).trans (v67_at A b 18 d))
  · exact (v68_at A b 20 d).trans ((dif_pos (by decide)).trans (v67_at A b 19 d))
  · exact (v68_at A b 21 d).trans (dif_neg (by decide))

end Cert.Fused.Ref
-- ==== Proof.RefRun.lean ====
module

public import proofs.«01_k».proof.Proof.RefEmb

@[expose] public section

set_option maxRecDepth 16384
noncomputable section

/-!
# The reference's four passes

Every pass of the reference is the one pass of `RefVal` at that pass's tokens; so its second result is the model's tokens after four.
-/

namespace Cert.Fused.Ref

open Cert.ReferenceIdeal Cert.ReferenceIdeal.Gen Cert.ReferenceIdeal.Value Model Cert.Fused.Model
open Idealize.ShloMosaic Idealize.ShloMosaic.TcCoe

/-- One pass, from the tokens to the updated ones. -/
def passed (V : Valuation τ sig (Elt Ideal)) (T : FVec Ideal S40x5x1536 .f32) : FVec Ideal S8x5x5x1536 .f32 :=
  updated T
    (mixed (threes T (V (Proc.devRef .tc main_arg10)) (V (Proc.devRef .tc main_arg11)) (V (Proc.devRef .tc main_arg12)))
      (powers (scores (threes T (V (Proc.devRef .tc main_arg10)) (V (Proc.devRef .tc main_arg11)) (V (Proc.devRef .tc main_arg12))))))
    (V (Proc.devRef .tc main_arg13)) (V (Proc.devRef .tc main_arg15)) (V (Proc.devRef .tc main_arg14)) (V (Proc.devRef .tc main_arg16))

section
variable (V : Valuation τ sig (Elt Ideal))

theorem v103_eq : res_main_v103 V = threes (res_main_v81 V) (V (Proc.devRef .tc main_arg10)) (V (Proc.devRef .tc main_arg11)) (V (Proc.devRef .tc main_arg12)) := rfl
theorem v112_eq : res_main_v112 V = scores (res_main_v103 V) := rfl
theorem v119_eq : res_main_v119 V = powers (res_main_v112 V) := rfl
theorem v138_cut : res_main_v138 V = updated (res_main_v81 V) (mixed (res_main_v103 V) (res_main_v119 V)) (V (Proc.devRef .tc main_arg13)) (V (Proc.devRef .tc main_arg15)) (V (Proc.devRef .tc main_arg14)) (V (Proc.devRef .tc main_arg16)) := rfl
theorem v138_eq : res_main_v138 V = passed V (res_main_v81 V) := by
  rw [v138_cut, v119_eq, v112_eq, v103_eq]
  rfl
theorem v166_eq : res_main_v166 V = threes (res_main_v144 V) (V (Proc.devRef .tc main_arg10)) (V (Proc.devRef .tc main_arg11)) (V (Proc.devRef .tc main_arg12)) := rfl
theorem v175_eq : res_main_v175 V = scores (res_main_v166 V) := rfl
theorem v182_eq : res_main_v182 V = powers (res_main_v175 V) := rfl
theorem v201_cut : res_main_v201 V = updated (res_main_v144 V) (mixed (res_main_v166 V) (res_main_v182 V)) (V (Proc.devRef .tc main_arg13)) (V (Proc.devRef .tc main_arg15)) (V (Proc.devRef .tc main_arg14)) (V (Proc.devRef .tc main_arg16)) := rfl
theorem v201_eq : res_main_v201 V = passed V (res_main_v144 V) := by
  rw [v201_cut, v182_eq, v175_eq, v166_eq]
  rfl
theorem v229_eq : res_main_v229 V = threes (res_main_v207 V) (V (Proc.devRef .tc main_arg10)) (V (Proc.devRef .tc main_arg11)) (V (Proc.devRef .tc main_arg12)) := rfl
theorem v238_eq : res_main_v238 V = scores (res_main_v229 V) := rfl
theorem v245_eq : res_main_v245 V = powers (res_main_v238 V) := rfl
theorem v264_cut : res_main_v264 V = updated (res_main_v207 V) (mixed (res_main_v229 V) (res_main_v245 V)) (V (Proc.devRef .tc main_arg13)) (V (Proc.devRef .tc main_arg15)) (V (Proc.devRef .tc main_arg14)) (V (Proc.devRef .tc main_arg16)) := rfl
theorem v264_eq : res_main_v264 V = passed V (res_main_v207 V) := by
  rw [v264_cut, v245_eq, v238_eq, v229_eq]
  rfl
theorem v292_eq : res_main_v292 V = threes (res_main_v270 V) (V (Proc.devRef .tc main_arg10)) (V (Proc.devRef .tc main_arg11)) (V (Proc.devRef .tc main_arg12)) := rfl
theorem v301_eq : res_main_v301 V = scores (res_main_v292 V) := rfl
theorem v308_eq : res_main_v308 V = powers (res_main_v301 V) := rfl
theorem v327_cut : res_main_v327 V = updated (res_main_v270 V) (mixed (res_main_v292 V) (res_main_v308 V)) (V (Proc.devRef .tc main_arg13)) (V (Proc.devRef .tc main_arg15)) (V (Proc.devRef .tc main_arg14)) (V (Proc.devRef .tc main_arg16)) := rfl
theorem v327_eq : res_main_v327 V = passed V (res_main_v270 V) := by
  rw [v327_cut, v308_eq, v301_eq, v292_eq]
  rfl
theorem v144_eq : res_main_v144 V = shapeCast S40x5x1536 (rolled (res_main_v138 V)) shapeCasts_S8x5x5x1536_S40x5x1536 := rfl
theorem v207_eq : res_main_v207 V = shapeCast S40x5x1536 (rolled (res_main_v201 V)) shapeCasts_S8x5x5x1536_S40x5x1536 := rfl
theorem v270_eq : res_main_v270 V = shapeCast S40x5x1536 (rolled (res_main_v264 V)) shapeCasts_S8x5x5x1536_S40x5x1536 := rfl
end

section
variable {V : Valuation τ sig (Elt Ideal)} {I : Src} {W : Wt} (A : Args V I W) (t : Fin 40 → Fin 5 → Fin 1536 → ℝ)
include A

theorem passed_at (T : FVec Ideal S40x5x1536 .f32) (hT : ∀ g k d, T (ix3 g k d) = ((t g k d : ℝ) : EReal)) (b : Fin 8) (n k : Fin 5) (d : Fin 1536) :
    passed V T (ix4 b n k d) = ((upd W (t (grpOf b n)) k d : ℝ) : EReal) :=
  updated_at W t T _ _ _ _ _ hT (mixed_at W t _ (threes_at W t T hT _ _ _ A.a10 A.a11 A.a12)) A.a13 A.a15 A.a14 A.a16 b n k d

theorem after_pass (T : FVec Ideal S40x5x1536 .f32) (hT : ∀ g k d, T (ix3 g k d) = ((t g k d : ℝ) : EReal)) (g : Fin 40) (k : Fin 5) (d : Fin 1536) :
    shapeCast S40x5x1536 (rolled (passed V T)) shapeCasts_S8x5x5x1536_S40x5x1536 (ix3 g k d) = ((step W t g k d : ℝ) : EReal) :=
  next_at W t _ (passed_at A t T hT) g k d

theorem rolled_pass (T : FVec Ideal S40x5x1536 .f32) (hT : ∀ g k d, T (ix3 g k d) = ((t g k d : ℝ) : EReal)) (b : Fin 8) (n k : Fin 5) (d : Fin 1536) :
    rolled (passed V T) (ix4 b n k d) = ((step W t (grpOf b n) k d : ℝ) : EReal) :=
  rolled_at W t _ (passed_at A t T hT) b n k d
end

section
variable {V : Valuation τ sig (Elt Ideal)} {I : Src} {W : Wt} (A : Args V I W)
include A

theorem v144_at (g : Fin 40) (k : Fin 5) (d : Fin 1536) : res_main_v144 V (ix3 g k d) = (((step W)^[1] (tok0 I) g k d : ℝ) : EReal) := by
  rw [v144_eq, v138_eq]
  exact after_pass A (tok0 I) _ (v81_at A) g k d
theorem v207_at (g : Fin 40) (k : Fin 5) (d : Fin 1536) : res_main_v207 V (ix3 g k d) = (((step W)^[2] (tok0 I) g k d : ℝ) : EReal) := by
  rw [v207_eq, v201_eq, Function.iterate_succ_apply']
  exact after_pass A _ _ (v144_at A) g k d
theorem v270_at (g : Fin 40) (k : Fin 5) (d : Fin 1536) : res_main_v270 V (ix3 g k d) = (((step W)^[3] (tok0 I) g k d : ℝ) : EReal) := by
  rw [v270_eq, v264_eq, Function.iterate_succ_apply']
  exact after_pass A _ _ (v207_at A) g k d
theorem v332_at (b : Fin 8) (n k : Fin 5) (d : Fin 1536) : rolled (res_main_v327 V) (ix4 b n k d) = (((step W)^[4] (tok0 I) (grpOf b n) k d : ℝ) : EReal) := by
  rw [v327_eq, Function.iterate_succ_apply']
  exact rolled_pass A _ _ (v270_at A) b n k d
end

end Cert.Fused.Ref
-- ==== Proof.Plane.lean ====
module

public import proofs.«01_k».proof.Proof.Runs
public import proofs.«01_k».proof.Proof.Model
public import Idealize.ShloMosaic.Lib.IdealHost

@[expose] public section

set_option maxRecDepth 16384
noncomputable section

/-!
# One image's two means

The mean over the whole image plus the mean over the box, from its sums.
-/

namespace Cert.Fused

open Cert.KernelIdeal Cert.KernelIdeal.Gen Model
open Idealize.ShloMosaic Idealize.ShloMosaic.TcCoe

/-- Whether the pixel `(r, s)` is in the box of the corners `(w0, w1)` and `(w2, w3)`. -/
def boxed (w0 w1 w2 w3 : BitVec 32) (r s : Fin 224) : BitVec 1 :=
  IntOp.andi (IntOp.andi (IntOp.andi (IntOp.cmpi .sge (BitVec.ofNat 32 r.val) w1) (IntOp.cmpi .slt (BitVec.ofNat 32 r.val) w3)) (IntOp.cmpi .sge (BitVec.ofNat 32 s.val) w0)) (IntOp.cmpi .slt (BitVec.ofNat 32 s.val) w2)

/-- The box's area. -/
def areaOf (w0 w1 w2 w3 : BitVec 32) : BitVec 32 := IntOp.muli (IntOp.subi w2 w0) (IntOp.subi w3 w1)

/-- The mean of the image plus the mean of what the box keeps of it. -/
def plane (w0 w1 w2 w3 : BitVec 32) (X : Fin 224 → Fin 224 → EReal) : EReal :=
  Ideal.div (∑ r, ∑ s, X r s) ((50176 : ℝ) : EReal) + Ideal.div (∑ r, ∑ s, Scalar.select (boxed w0 w1 w2 w3 r s) (X r s) 0) (((areaOf w0 w1 w2 w3).toInt : ℝ) : EReal)

theorem inv_plane : Named.named (F := Ideal) κ "inv_plane" (φ := .f32) 933703429#32 = (((50176 : ℝ)⁻¹ : ℝ) : EReal) :=
  IdealRules.named_const.ideal_named_scalar _ _ _ _ rfl

theorem area_ne {w0 w1 w2 w3 : BitVec 32} (h : areaOf w0 w1 w2 w3 ≠ 0#32) : (((areaOf w0 w1 w2 w3).toInt : ℝ) : EReal) ≠ 0 := by
  intro e
  refine h (BitVec.eq_of_toInt_eq ?_)
  have e' : ((areaOf w0 w1 w2 w3).toInt : ℝ) = 0 := by exact_mod_cast e
  have e'' : (areaOf w0 w1 w2 w3).toInt = 0 := by exact_mod_cast e'
  rw [e'']
  rfl

theorem poolPay_at (w0 w1 w2 w3 : BitVec 32) (h : areaOf w0 w1 w2 w3 ≠ 0#32) (img : Vec Ideal S1x1x1x224x224 .f32) (u u1 u2 : Fin 1) (l : Fin 128) :
    poolPay (F := Ideal) w0 w1 w2 w3 img (ix4 u u1 u2 l) = plane w0 w1 w2 w3 (fun r s => img (ix5 (0 : Fin 1) (0 : Fin 1) (0 : Fin 1) r s)) := by
  pointwise [poolPay, k0_pay19, k0_pay18, k0_pay17, k0_pay16, k0_pay15]
  unfold plane
  refine congrArg₂ (· + ·) ?_ ?_
  · rw [inv_plane]
    unfold Ideal.div
    rw [if_neg (by exact_mod_cast (by norm_num : (50176 : ℝ) ≠ 0)), EReal.coe_inv]
  · exact Ideal.mul_one_div (area_ne h)

end Cert.Fused
-- ==== Proof.PoolVal.lean ====
module

public import proofs.«01_k».proof.Proof.KVal
public import proofs.«01_k».proof.Proof.Plane

@[expose] public section

set_option maxRecDepth 16384
noncomputable section

/-!
# The kernel's first result

At every frame and channel the two means of its image.
-/

namespace Cert.Fused

open Cert.KernelIdeal Cert.KernelIdeal.Gen Model
open Idealize.ShloMosaic Idealize.ShloMosaic.TcCoe
open Idealize.ShloMosaic.Pipeline (Window)

/-! ### Blocks of images -/

section
variable {F : FTy → Type} [FloatOps F] [Named F] (V : Valuation τ sig (Elt F)) (a : (pcfg0 (F := F)).Adm)

theorem at_1 : ∀ t : Fin grid0.N, cc0_transform_1 (grid0.coords t) 0 = min t.val 19 / 5 ∧ cc0_transform_1 (grid0.coords t) 1 = 0 ∧ cc0_transform_1 (grid0.coords t) 2 = min t.val 19 % 5
    ∧ cc0_transform_1 (grid0.coords t) 3 = 0 ∧ cc0_transform_1 (grid0.coords t) 4 = 0 := by decide +kernel
theorem at_2 : ∀ t : Fin grid0.N, cc0_transform_2 (grid0.coords t) 0 = min t.val 19 / 5 + 4 ∧ cc0_transform_2 (grid0.coords t) 1 = 0 ∧ cc0_transform_2 (grid0.coords t) 2 = min t.val 19 % 5
    ∧ cc0_transform_2 (grid0.coords t) 3 = 0 ∧ cc0_transform_2 (grid0.coords t) 4 = 0 := by decide +kernel

theorem b3_eq (t : Fin grid0.N) (u : Fin 1) (ch : Fin 3) (tt : Fin 4) (r s : Fin 224) :
    (ins V a).b3 t (ix5 u ch tt r s) = V (Proc.devRef .tc main_arg0) (ix5 (⟨min t.val 19 / 5, by omega⟩ : Fin 8) ch (⟨min t.val 19 % 5 * 4 + tt.val, by omega⟩ : Fin 20) r s) := by
  show V (Proc.devRef .tc main_arg0) _ = _
  congr 1
  funext k
  apply Fin.ext
  fin_cases k
  · refine (Window.rect_emb_val (win0 a 1) t (ix5 u ch tt r s) 0 rfl).trans ?_
    show cc0_transform_1 (grid0.coords t) 0 * 1 + u.val = min t.val 19 / 5
    rw [(at_1 t).1]; omega
  · exact Window.rect_emb_val_of_index_zero (win0 a 1) t 1 (at_1 t).2.1 (ix5 u ch tt r s)
  · refine (Window.rect_emb_val (win0 a 1) t (ix5 u ch tt r s) 2 rfl).trans ?_
    show cc0_transform_1 (grid0.coords t) 2 * 4 + tt.val = min t.val 19 % 5 * 4 + tt.val
    rw [(at_1 t).2.2.1]
  · exact Window.rect_emb_val_of_index_zero (win0 a 1) t 3 (at_1 t).2.2.2.1 (ix5 u ch tt r s)
  · exact Window.rect_emb_val_of_index_zero (win0 a 1) t 4 (at_1 t).2.2.2.2 (ix5 u ch tt r s)
theorem b4_eq (t : Fin grid0.N) (u : Fin 1) (ch : Fin 3) (tt : Fin 4) (r s : Fin 224) :
    (ins V a).b4 t (ix5 u ch tt r s) = V (Proc.devRef .tc main_arg0) (ix5 (⟨min t.val 19 / 5 + 4, by omega⟩ : Fin 8) ch (⟨min t.val 19 % 5 * 4 + tt.val, by omega⟩ : Fin 20) r s) := by
  show V (Proc.devRef .tc main_arg0) _ = _
  congr 1
  funext k
  apply Fin.ext
  fin_cases k
  · refine (Window.rect_emb_val (win0 a 2) t (ix5 u ch tt r s) 0 rfl).trans ?_
    show cc0_transform_2 (grid0.coords t) 0 * 1 + u.val = min t.val 19 / 5 + 4
    rw [(at_2 t).1]; omega
  · exact Window.rect_emb_val_of_index_zero (win0 a 2) t 1 (at_2 t).2.1 (ix5 u ch tt r s)
  · refine (Window.rect_emb_val (win0 a 2) t (ix5 u ch tt r s) 2 rfl).trans ?_
    show cc0_transform_2 (grid0.coords t) 2 * 4 + tt.val = min t.val 19 % 5 * 4 + tt.val
    rw [(at_2 t).2.2.1]
  · exact Window.rect_emb_val_of_index_zero (win0 a 2) t 3 (at_2 t).2.2.2.1 (ix5 u ch tt r s)
  · exact Window.rect_emb_val_of_index_zero (win0 a 2) t 4 (at_2 t).2.2.2.2 (ix5 u ch tt r s)

/-- The table's word `k` of a batch element's frame. -/
def wd (X1 : S640.Idx → Elt F .i32) (b : Fin 8) (f : Fin 20) (k : Fin 4) : Elt F .i32 := X1 (ix1 ⟨(b.val * 20 + f.val) * 4 + k.val, by omega⟩)

/-- The last point the pooling stretch ran at. -/
theorem pool_pt (t : Fin grid0.N) : k0_cond1 (grid0.coords (pt (min t.val 19))) = 1#1 := (cond1_iff _).mpr (by show min (min t.val 19) 20 < 20; omega)
theorem pool_coord (t : Fin grid0.N) : ((grid0.coords (pt (min t.val 19))) 0).val = min t.val 19 := (coord_val _).trans (by show min (min t.val 19) 20 = _; omega)

theorem lo_word (X1 : S640.Idx → Elt F .i32) (t : Fin grid0.N) (tt k : Fin 4) :
    boxWords X1 (offLo (grid0.coords (pt (min t.val 19)))) (offLo_in _ (pool_pt t)) tt k = wd X1 ⟨min t.val 19 / 5, by omega⟩ ⟨min t.val 19 % 5 * 4 + tt.val, by omega⟩ k := by
  unfold wd
  refine congrArg X1 (funext fun x => Fin.ext ?_)
  obtain rfl : x = 0 := Subsingleton.elim _ _
  refine (congrFun (offLo_eq _ (pool_pt t) tt k) 0).trans ?_
  show (((grid0.coords (pt (min t.val 19)) 0).val / 5) * 20 + ((grid0.coords (pt (min t.val 19)) 0).val % 5) * 4 + tt.val) * 4 + k.val = (min t.val 19 / 5 * 20 + (min t.val 19 % 5 * 4 + tt.val)) * 4 + k.val
  rw [pool_coord]; omega
theorem hi_word (X1 : S640.Idx → Elt F .i32) (t : Fin grid0.N) (tt k : Fin 4) :
    boxWords X1 (offHi (grid0.coords (pt (min t.val 19)))) (offHi_in _ (pool_pt t)) tt k = wd X1 ⟨min t.val 19 / 5 + 4, by omega⟩ ⟨min t.val 19 % 5 * 4 + tt.val, by omega⟩ k := by
  unfold wd
  refine congrArg X1 (funext fun x => Fin.ext ?_)
  obtain rfl : x = 0 := Subsingleton.elim _ _
  refine (congrFun (offHi_eq _ (pool_pt t) tt k) 0).trans ?_
  show (((grid0.coords (pt (min t.val 19)) 0).val / 5 + 4) * 20 + ((grid0.coords (pt (min t.val 19)) 0).val % 5) * 4 + tt.val) * 4 + k.val = ((min t.val 19 / 5 + 4) * 20 + (min t.val 19 % 5 * 4 + tt.val)) * 4 + k.val
  rw [pool_coord]; omega

theorem pt_self (t : Fin grid0.N) (h : t.val < 20) : pt (min t.val 19) = t := Fin.ext (by show min (min t.val 19) 20 = t.val; omega)
theorem pt_last (t : Fin grid0.N) (h : ¬ t.val < 20) : pt (min t.val 19) = pt 19 := Fin.ext (by show min (min t.val 19) 20 = min 19 20; omega)

theorem lo_from (D : Ins F) (t : Fin grid0.N) :
    loAt D t = poolOut (boxWords D.x1 (offLo (grid0.coords (pt (min t.val 19)))) (offLo_in _ (pool_pt t))) (D.b3 (pt (min t.val 19))) := by
  have key : nextLo (grid0.coords (pt (min t.val 19))) D.x1 (D.b3 (pt (min t.val 19))) (fun _ => D.b2 (pt 0) (ix1 (0 : Fin 8)))
      = poolOut (boxWords D.x1 (offLo (grid0.coords (pt (min t.val 19)))) (offLo_in _ (pool_pt t))) (D.b3 (pt (min t.val 19))) := by
    unfold nextLo; rw [dif_pos (pool_pt t)]
  rw [← key]
  by_cases h : t.val < 20
  · rw [pt_self t h]; exact (loAt_lt D t h _).symm
  · rw [pt_last t h]; unfold loAt
    show nextLo (grid0.coords t) D.x1 (D.b3 t) _ = _
    conv_lhs => unfold nextLo
    rw [dif_neg fun e => h ((cond1_iff t).mp e)]; rfl
theorem hi_from (D : Ins F) (t : Fin grid0.N) :
    hiAt D t = poolOut (boxWords D.x1 (offHi (grid0.coords (pt (min t.val 19)))) (offHi_in _ (pool_pt t))) (D.b4 (pt (min t.val 19))) := by
  have key : nextHi (grid0.coords (pt (min t.val 19))) D.x1 (D.b4 (pt (min t.val 19))) (fun _ => D.b2 (pt 0) (ix1 (0 : Fin 8)))
      = poolOut (boxWords D.x1 (offHi (grid0.coords (pt (min t.val 19)))) (offHi_in _ (pool_pt t))) (D.b4 (pt (min t.val 19))) := by
    unfold nextHi; rw [dif_pos (pool_pt t)]
  rw [← key]
  by_cases h : t.val < 20
  · rw [pt_self t h]; exact (hiAt_lt D t h _).symm
  · rw [pt_last t h]; unfold hiAt
    show nextHi (grid0.coords t) D.x1 (D.b4 t) _ = _
    conv_lhs => unfold nextHi
    rw [dif_neg fun e => h ((cond1_iff t).mp e)]; rfl
end

/-! ### The two pooled arrays -/

section
variable (V : Valuation τ sig (Elt Ideal)) (a : (pcfg0 (F := Ideal)).Adm) (c : Dev nD)

/-- The two means of a batch element's frame and channel. -/
def meansOf (X1 : S640.Idx → BitVec 32) (X : S8x3x20x224x224.Idx → EReal) (b : Fin 8) (f : Fin 20) (ch : Fin 3) : EReal :=
  plane (wd (F := Ideal) X1 b f 0) (wd (F := Ideal) X1 b f 1) (wd (F := Ideal) X1 b f 2) (wd (F := Ideal) X1 b f 3) fun r s => X (ix5 b ch f r s)

/-- No box is empty. -/
def Boxes (X1 : S640.Idx → BitVec 32) : Prop :=
  ∀ b f, areaOf (wd (F := Ideal) X1 b f 0) (wd (F := Ideal) X1 b f 1) (wd (F := Ideal) X1 b f 2) (wd (F := Ideal) X1 b f 3) ≠ 0#32

theorem row_at (w0 w1 w2 w3 : BitVec 32) (h : areaOf w0 w1 w2 w3 ≠ 0#32) (X : S1x3x4x224x224.Idx → EReal) (tt : Fin 4) (ch : Fin 3) (u u1 u2 : Fin 1) (l : Fin 128) :
    rowOf (F := Ideal) w0 w1 w2 w3 X tt ch (ix4 u u1 u2 l) = plane w0 w1 w2 w3 (fun r s => X (ix5 (0 : Fin 1) ch tt r s)) := by
  unfold rowOf
  rw [poolPay_at w0 w1 w2 w3 h]
  refine congrArg (plane w0 w1 w2 w3) (funext fun r => funext fun s => ?_)
  refine congrArg X (funext fun k => Fin.ext ?_)
  fin_cases k
  · rfl
  · show ch.val + 1 * 0 = ch.val; omega
  · show tt.val + 1 * 0 = tt.val; omega
  · show 0 + 1 * r.val = r.val; omega
  · show 0 + 1 * s.val = s.val; omega

theorem lo_at (hA : Boxes (ins V a).x1) (t : Fin grid0.N) (u : Fin 1) (tt : Fin 4) (ch : Fin 3) (l : Fin 128) :
    loAt (ins V a) t (ix4 u tt ch l) = meansOf (ins V a).x1 (V (Proc.devRef .tc main_arg0)) ⟨min t.val 19 / 5, by omega⟩ ⟨min t.val 19 % 5 * 4 + tt.val, by omega⟩ ch := by
  rw [lo_from]
  show rowOf (F := Ideal) (boxWords _ _ _ tt 0) (boxWords _ _ _ tt 1) (boxWords _ _ _ tt 2) (boxWords _ _ _ tt 3) _ tt ch (ix4 0 0 0 l) = _
  rw [lo_word, lo_word, lo_word, lo_word, row_at _ _ _ _ (hA _ _)]
  unfold meansOf
  refine congrArg (plane _ _ _ _) (funext fun r => funext fun s => ?_)
  rw [b3_eq]
  have e : min (pt (min t.val 19)).val 19 = min t.val 19 := by rw [pt_lt (by omega)]; omega
  refine congrArg (V (Proc.devRef .tc main_arg0)) (funext fun k => Fin.ext ?_)
  fin_cases k
  · show min (pt (min t.val 19)).val 19 / 5 = _; rw [e]; rfl
  · rfl
  · show min (pt (min t.val 19)).val 19 % 5 * 4 + tt.val = _; rw [e]; rfl
  · rfl
  · rfl
theorem hi_at (hA : Boxes (ins V a).x1) (t : Fin grid0.N) (u : Fin 1) (tt : Fin 4) (ch : Fin 3) (l : Fin 128) :
    hiAt (ins V a) t (ix4 u tt ch l) = meansOf (ins V a).x1 (V (Proc.devRef .tc main_arg0)) ⟨min t.val 19 / 5 + 4, by omega⟩ ⟨min t.val 19 % 5 * 4 + tt.val, by omega⟩ ch := by
  rw [hi_from]
  show rowOf (F := Ideal) (boxWords _ _ _ tt 0) (boxWords _ _ _ tt 1) (boxWords _ _ _ tt 2) (boxWords _ _ _ tt 3) _ tt ch (ix4 0 0 0 l) = _
  rw [hi_word, hi_word, hi_word, hi_word, row_at _ _ _ _ (hA _ _)]
  unfold meansOf
  refine congrArg (plane _ _ _ _) (funext fun r => funext fun s => ?_)
  rw [b4_eq]
  have e : min (pt (min t.val 19)).val 19 = min t.val 19 := by rw [pt_lt (by omega)]; omega
  refine congrArg (V (Proc.devRef .tc main_arg0)) (funext fun k => Fin.ext ?_)
  fin_cases k
  · show min (pt (min t.val 19)).val 19 / 5 + 4 = _; rw [e]; rfl
  · rfl
  · show min (pt (min t.val 19)).val 19 % 5 * 4 + tt.val = _; rw [e]; rfl
  · rfl
  · rfl

theorem at_17 : ∀ t : Fin grid0.N, cc0_transform_17 (grid0.coords t) 0 = min t.val 19 / 5 ∧ cc0_transform_17 (grid0.coords t) 1 = min t.val 19 % 5
    ∧ cc0_transform_17 (grid0.coords t) 2 = 0 ∧ cc0_transform_17 (grid0.coords t) 3 = 0 := by decide +kernel
theorem at_18 : ∀ t : Fin grid0.N, cc0_transform_18 (grid0.coords t) 0 = min t.val 19 / 5 ∧ cc0_transform_18 (grid0.coords t) 1 = min t.val 19 % 5
    ∧ cc0_transform_18 (grid0.coords t) 2 = 0 ∧ cc0_transform_18 (grid0.coords t) 3 = 0 := by decide +kernel

/-- The first pooled array: the first half of the batch. -/
def loArr : S4x20x3x128.Idx → EReal := fun i => meansOf (ins V a).x1 (V (Proc.devRef .tc main_arg0)) ⟨(show Fin 4 from i 0).val, by omega⟩ (i 1) (i 2)
/-- The second pooled array: the second half. -/
def hiArr : S4x20x3x128.Idx → EReal := fun i => meansOf (ins V a).x1 (V (Proc.devRef .tc main_arg0)) ⟨(show Fin 4 from i 0).val + 4, by omega⟩ (i 1) (i 2)

theorem emb_17 (t : Fin grid0.N) (u : Fin 1) (tt : Fin 4) (ch : Fin 3) (l : Fin 128) :
    ((win0 a 17).blk t).view.emb (ix4 u tt ch l) = ix4 (⟨min t.val 19 / 5, by omega⟩ : Fin 4) (⟨min t.val 19 % 5 * 4 + tt.val, by omega⟩ : Fin 20) ch l := by
  funext k
  apply Fin.ext
  fin_cases k
  · refine (Window.rect_emb_val (win0 a 17) t (ix4 u tt ch l) 0 rfl).trans ?_
    show cc0_transform_17 (grid0.coords t) 0 * 1 + u.val = min t.val 19 / 5
    rw [(at_17 t).1]; omega
  · refine (Window.rect_emb_val (win0 a 17) t (ix4 u tt ch l) 1 rfl).trans ?_
    show cc0_transform_17 (grid0.coords t) 1 * 4 + tt.val = min t.val 19 % 5 * 4 + tt.val
    rw [(at_17 t).2.1]
  · exact Window.rect_emb_val_of_index_zero (win0 a 17) t 2 (at_17 t).2.2.1 (ix4 u tt ch l)
  · exact Window.rect_emb_val_of_index_zero (win0 a 17) t 3 (at_17 t).2.2.2 (ix4 u tt ch l)
theorem emb_18 (t : Fin grid0.N) (u : Fin 1) (tt : Fin 4) (ch : Fin 3) (l : Fin 128) :
    ((win0 a 18).blk t).view.emb (ix4 u tt ch l) = ix4 (⟨min t.val 19 / 5, by omega⟩ : Fin 4) (⟨min t.val 19 % 5 * 4 + tt.val, by omega⟩ : Fin 20) ch l := by
  funext k
  apply Fin.ext
  fin_cases k
  · refine (Window.rect_emb_val (win0 a 18) t (ix4 u tt ch l) 0 rfl).trans ?_
    show cc0_transform_18 (grid0.coords t) 0 * 1 + u.val = min t.val 19 / 5
    rw [(at_18 t).1]; omega
  · refine (Window.rect_emb_val (win0 a 18) t (ix4 u tt ch l) 1 rfl).trans ?_
    show cc0_transform_18 (grid0.coords t) 1 * 4 + tt.val = min t.val 19 % 5 * 4 + tt.val
    rw [(at_18 t).2.1]
  · exact Window.rect_emb_val_of_index_zero (win0 a 18) t 2 (at_18 t).2.2.1 (ix4 u tt ch l)
  · exact Window.rect_emb_val_of_index_zero (win0 a 18) t 3 (at_18 t).2.2.2 (ix4 u tt ch l)

theorem cover_17 (i : S4x20x3x128.Idx) : ∃ t : Fin grid0.N, (win0 a 17).flush t = true ∧ i ∈ ((win0 a 17).blk t).view.set := by
  obtain ⟨q, f, ch, l, rfl⟩ : ∃ (q : Fin 4) (f : Fin 20) (ch : Fin 3) (l : Fin 128), i = ix4 q f ch l := ⟨i 0, i 1, i 2, i 3, eq_ix4 i⟩
  obtain ⟨t, ht, hn⟩ : ∃ t : Fin grid0.N, t.val ≠ 19 ∧ min t.val 19 = q.val * 5 + f.val / 4 := by
    by_cases h : q.val * 5 + f.val / 4 = 19
    · exact ⟨pt 20, by decide, h.symm ▸ by decide⟩
    · exact ⟨pt (q.val * 5 + f.val / 4), by rw [pt_lt (by omega)]; exact h, by rw [pt_lt (by omega)]; omega⟩
  refine ⟨t, (flush_17 a t).mpr ht, ?_⟩
  have e : ((win0 a 17).blk t).view.emb (ix4 (0 : Fin 1) (⟨f.val % 4, by omega⟩ : Fin 4) ch l) = ix4 q f ch l := by
    rw [emb_17]
    funext k
    apply Fin.ext
    fin_cases k
    · show min t.val 19 / 5 = q.val; omega
    · show min t.val 19 % 5 * 4 + f.val % 4 = f.val; omega
    · rfl
    · rfl
  rw [← e]
  exact View.emb_mem_set _ _
theorem cover_18 (i : S4x20x3x128.Idx) : ∃ t : Fin grid0.N, (win0 a 18).flush t = true ∧ i ∈ ((win0 a 18).blk t).view.set := by
  obtain ⟨q, f, ch, l, rfl⟩ : ∃ (q : Fin 4) (f : Fin 20) (ch : Fin 3) (l : Fin 128), i = ix4 q f ch l := ⟨i 0, i 1, i 2, i 3, eq_ix4 i⟩
  obtain ⟨t, ht, hn⟩ : ∃ t : Fin grid0.N, t.val ≠ 19 ∧ min t.val 19 = q.val * 5 + f.val / 4 := by
    by_cases h : q.val * 5 + f.val / 4 = 19
    · exact ⟨pt 20, by decide, h.symm ▸ by decide⟩
    · exact ⟨pt (q.val * 5 + f.val / 4), by rw [pt_lt (by omega)]; exact h, by rw [pt_lt (by omega)]; omega⟩
  refine ⟨t, (flush_18 a t).mpr ht, ?_⟩
  have e : ((win0 a 18).blk t).view.emb (ix4 (0 : Fin 1) (⟨f.val % 4, by omega⟩ : Fin 4) ch l) = ix4 q f ch l := by
    rw [emb_18]
    funext k
    apply Fin.ext
    fin_cases k
    · show min t.val 19 / 5 = q.val; omega
    · show min t.val 19 % 5 * 4 + f.val % 4 = f.val; omega
    · rfl
    · rfl
  rw [← e]
  exact View.emb_mem_set _ _

theorem block_17 (hA : Boxes (ins V a).x1) (t : Fin grid0.N) (y : S1x4x3x128.Idx) : loAt (ins V a) t y = loArr V a (((win0 a 17).blk t).view.emb y) := by
  rw [eq_ix4 y, emb_17 a t (y 0) (y 1) (y 2) (y 3)]
  exact lo_at V a hA t (y 0) (y 1) (y 2) (y 3)
theorem arr_17 (hA : Boxes (ins V a).x1) : (dat V a c).arrAt 17 21 = loArr V a := by
  refine (dat V a c).arrAt_eq_of_emb 17 _ (fun t hf y => ?_) (cover_17 a)
  blk_simp
  exact block_17 V a hA t y
theorem block_18 (hA : Boxes (ins V a).x1) (t : Fin grid0.N) (y : S1x4x3x128.Idx) : hiAt (ins V a) t y = hiArr V a (((win0 a 18).blk t).view.emb y) := by
  rw [eq_ix4 y, emb_18 a t (y 0) (y 1) (y 2) (y 3)]
  exact hi_at V a hA t (y 0) (y 1) (y 2) (y 3)
theorem arr_18 (hA : Boxes (ins V a).x1) : (dat V a c).arrAt 18 21 = hiArr V a := by
  refine (dat V a c).arrAt_eq_of_emb 18 _ (fun t hf y => ?_) (cover_18 a)
  blk_simp
  exact block_18 V a hA t y
end

end Cert.Fused
-- ==== Proof.FirstVal.lean ====
module

public import proofs.«01_k».proof.Proof.PoolVal

@[expose] public section

set_option maxRecDepth 16384
noncomputable section

/-!
# The first result, read back

The two pooled arrays' first lanes, one under the other.
-/

namespace Cert.Fused

open Cert.KernelIdeal Cert.KernelIdeal.Gen Model
open Idealize.ShloMosaic Idealize.ShloMosaic.TcCoe

variable (m : (ℓ : Loc nD τ sig) → Buf (Elt Ideal) ℓ) (c : Dev nD)

/-- The corners' words of a frame's box. -/
def corner (b : Fin 8) (f : Fin 20) (p q : Fin 2) : BitVec 32 := m ((c.tc : Thread nD τ).loc main_arg2) (ix4 b f p q)

theorem word_at (b : Fin 8) (f : Fin 20) (p q : Fin 2) (k : Fin 4) (hk : k.val = p.val * 2 + q.val) : wd (F := Ideal) (insOf m c).x1 b f k = corner m c b f p q := by
  obtain rfl : c = 0 := Subsingleton.elim _ _
  show StableHlo.after hostOps0 (fun b => m (0, b)) (Proc.devRef .tc main_v0) (ix1 (⟨(b.val * 20 + f.val) * 4 + k.val, by omega⟩ : Fin 640)) = _
  entry_read
  pointwise
  have e1 : (⟨((b.val * 20 + f.val) * 4 + k.val) / 2 % 2, by omega⟩ : Fin 2) = p := Fin.ext (by show ((b.val * 20 + f.val) * 4 + k.val) / 2 % 2 = p.val; omega)
  have e2 : (⟨((b.val * 20 + f.val) * 4 + k.val) % 2, by omega⟩ : Fin 2) = q := Fin.ext (by show ((b.val * 20 + f.val) * 4 + k.val) % 2 = q.val; omega)
  rw [e1, e2]
  rfl

theorem tail_at (W : Valuation τ sig (Elt Ideal)) (b : Fin 8) (f : Fin 20) (ch : Fin 3) :
    StableHlo.after hostOps1 W (Proc.devRef .tc main_v15) (ix3 b f ch)
      = if h : b.val < 4 then W (Proc.devRef .tc main_v10_0) (ix4 (⟨b.val, h⟩ : Fin 4) f ch (0 : Fin 128)) else W (Proc.devRef .tc main_v10_1) (ix4 (⟨b.val - 4, by omega⟩ : Fin 4) f ch (0 : Fin 128)) := by
  after_results
  pointwise

/-- The device's boxes are nonempty. -/
def BoxesOf : Prop := ∀ b f, areaOf (corner m c b f 0 0) (corner m c b f 0 1) (corner m c b f 1 0) (corner m c b f 1 1) ≠ 0#32

theorem boxes (h : BoxesOf m c) : Boxes (insOf m c).x1 := by
  intro b f
  rw [word_at m c b f 0 0 0 rfl, word_at m c b f 0 1 1 rfl, word_at m c b f 1 0 2 rfl, word_at m c b f 1 1 3 rfl]
  exact h b f

/-- The two means of a batch element's frame and channel, of the arguments. -/
def firstOf (i : S8x20x3.Idx) : EReal :=
  plane (corner m c (i 0) (i 1) 0 0) (corner m c (i 0) (i 1) 0 1) (corner m c (i 0) (i 1) 1 0) (corner m c (i 0) (i 1) 1 1) fun r s => m ((c.tc : Thread nD τ).loc main_arg0) (ix5 (i 0 : Fin 8) (i 2 : Fin 3) (i 1 : Fin 20) r s)

theorem means_at (b : Fin 8) (f : Fin 20) (ch : Fin 3) :
    meansOf (insOf m c).x1 (V0 m c (Proc.devRef .tc main_arg0)) b f ch = firstOf m c (ix3 b f ch) := by
  unfold meansOf firstOf
  rw [word_at m c b f 0 0 0 rfl, word_at m c b f 0 1 1 rfl, word_at m c b f 1 0 2 rfl, word_at m c b f 1 1 3 rfl, V0_of_not_mem m c main_arg0 (by decide)]
  rfl

theorem shared : Pipeline.SharedIn spec0 := by decide

theorem first_at (h : BoxesOf m c) (b : Fin 8) (f : Fin 20) (ch : Fin 3) :
    Pipeline.afterTail (pcfgs (F := Ideal)) (tabs m) (dats m) 0 (V0 m) [hostOps1] c main_v15 (ix3 b f ch) = firstOf m c (ix3 b f ch) := by
  have e17 : Pipeline.withArrays (Pipeline.pin (pcfgs (F := Ideal)) (tabs m) 0).spec c (V0 m c) (fun w => (dats m 0 c).arrAt w 21) (Proc.devRef .tc main_v10_0) = loArr (V0 m c) (tabs m 0) :=
    (Pipeline.withArrays_arr_shared _ c (V0 m c) _ (fun w w' hne e => (dats m 0 c).arrAt_sharedIn shared (V0 m c) (fun _ => rfl) 21 w w' hne e) 17).trans (arr_17 (V0 m c) (tabs m 0) c (boxes m c h))
  have e18 : Pipeline.withArrays (Pipeline.pin (pcfgs (F := Ideal)) (tabs m) 0).spec c (V0 m c) (fun w => (dats m 0 c).arrAt w 21) (Proc.devRef .tc main_v10_1) = hiArr (V0 m c) (tabs m 0) :=
    (Pipeline.withArrays_arr_shared _ c (V0 m c) _ (fun w w' hne e => (dats m 0 c).arrAt_sharedIn shared (V0 m c) (fun _ => rfl) 21 w w' hne e) 18).trans (arr_18 (V0 m c) (tabs m 0) c (boxes m c h))
  refine (tail_at _ b f ch).trans ?_
  by_cases hb : b.val < 4
  · rw [dif_pos hb]
    exact (congrFun e17 _).trans (means_at m c b f ch)
  · rw [dif_neg hb]
    refine (congrFun e18 _).trans (Eq.trans ?_ (means_at m c b f ch))
    exact congrArg (fun b' => meansOf (insOf m c).x1 (V0 m c (Proc.devRef .tc main_arg0)) b' f ch) (Fin.ext (by show b.val - 4 + 4 = b.val; omega))

end Cert.Fused
-- ==== Proof.RefPlane.lean ====
module

public import proofs.«01_k».proof.Proof.RefEmb
public import proofs.«01_k».proof.Proof.Plane

@[expose] public section

set_option maxRecDepth 16384
noncomputable section

/-!
# The reference's first result

At every frame and channel the two means of its image.
-/

namespace Cert.Fused.Ref

open Cert.ReferenceIdeal Cert.ReferenceIdeal.Gen Cert.ReferenceIdeal.Value Model Cert.Fused.Model
open Idealize.ShloMosaic Idealize.ShloMosaic.TcCoe

/-- The elements whose first three places are `b`, `ch` and `t` are one image's pixels. -/
theorem image_iff (h : S8x3x20x224x224.ReducesTo [3, 4] S8x3x20) (b : Fin 8) (ch : Fin 3) (t : Fin 20) (i : S8x3x20x224x224.Idx) :
    h.drop i = ix3 b ch t ↔ ∃ k : Fin 224 × Fin 224, ix5 b ch t k.1 k.2 = i := by
  constructor
  · intro e
    refine ⟨(i 3, i 4), ?_⟩
    have e0 : i 0 = b := Fin.ext (congrArg Fin.val (congrFun e 0))
    have e1 : i 1 = ch := Fin.ext (congrArg Fin.val (congrFun e 1))
    have e2 : i 2 = t := Fin.ext (congrArg Fin.val (congrFun e 2))
    rw [← e0, ← e1, ← e2]
    exact (eq_ix5 i).symm
  · rintro ⟨k, rfl⟩
    funext a
    fin_cases a <;> rfl

theorem image_sum (h : S8x3x20x224x224.ReducesTo [3, 4] S8x3x20) (x : FVec Ideal S8x3x20x224x224 .f32) (b : Fin 8) (ch : Fin 3) (t : Fin 20) :
    Ideal.hostReduceAdd h x 0 (ix3 b ch t) = ∑ r, ∑ s, x (ix5 b ch t r s) := by
  show (0 : EReal) + ∑ i ∈ Finset.univ.filter (fun i => h.drop i = ix3 b ch t), x i = _
  rw [zero_add, ← Fintype.sum_prod_type' (f := fun r s => x (ix5 b ch t r s))]
  refine (Finset.sum_bij (fun k _ => ix5 b ch t k.1 k.2) ?_ ?_ ?_ ?_).symm
  · intro k _
    exact Finset.mem_filter.mpr ⟨Finset.mem_univ _, (image_iff h b ch t _).mpr ⟨k, rfl⟩⟩
  · intro k _ k' _ e
    exact Prod.ext (congrFun e 3) (congrFun e 4)
  · intro i hi
    obtain ⟨k, hk⟩ := (image_iff h b ch t i).mp (Finset.mem_filter.mp hi).2
    exact ⟨k, Finset.mem_univ _, hk⟩
  · intro k _
    rfl

theorem pixels : Ideal.ofBits .f32 1195638784#32 = ((50176 : ℝ) : EReal) := by
  simp [Ideal.ofBits, Ideal.ieee]
  rw [← EReal.coe_mul]
  norm_num

theorem keep_mul (k : BitVec 1) (x : EReal) : (((k.toNat : ℝ) : EReal)) * x = Scalar.select k x 0 := by
  have hk : k = 0#1 ∨ k = 1#1 := by revert k; decide
  rcases hk with rfl | rfl
  · simp [Scalar.select]
  · simp [Scalar.select]

theorem keep_order (a b c d : BitVec 1) : IntOp.andi (IntOp.andi a b) (IntOp.andi c d) = IntOp.andi (IntOp.andi (IntOp.andi a b) c) d := by
  revert a b c d; decide

theorem lower_x (V : Valuation Cert.ReferenceIdeal.τ Cert.ReferenceIdeal.sig (Elt Ideal)) (b : Fin 8) (t : Fin 20) : res_main_v4 V (ix2 b t) = V (Proc.devRef .tc main_arg2) (ix4 b t 0 0) := by
  pointwise [res_main_v4]
theorem lower_y (V : Valuation Cert.ReferenceIdeal.τ Cert.ReferenceIdeal.sig (Elt Ideal)) (b : Fin 8) (t : Fin 20) : res_main_v6 V (ix2 b t) = V (Proc.devRef .tc main_arg2) (ix4 b t 0 1) := by
  pointwise [res_main_v6]
theorem upper_x (V : Valuation Cert.ReferenceIdeal.τ Cert.ReferenceIdeal.sig (Elt Ideal)) (b : Fin 8) (t : Fin 20) : res_main_v8 V (ix2 b t) = V (Proc.devRef .tc main_arg2) (ix4 b t 1 0) := by
  pointwise [res_main_v8]
theorem upper_y (V : Valuation Cert.ReferenceIdeal.τ Cert.ReferenceIdeal.sig (Elt Ideal)) (b : Fin 8) (t : Fin 20) : res_main_v10 V (ix2 b t) = V (Proc.devRef .tc main_arg2) (ix4 b t 1 1) := by
  pointwise [res_main_v10]

/-- The first result: each frame's and channel's two means. -/
theorem v51_at (V : Valuation Cert.ReferenceIdeal.τ Cert.ReferenceIdeal.sig (Elt Ideal)) (b : Fin 8) (t : Fin 20) (ch : Fin 3) :
    (transpose S8x20x3 [0, 2, 1] (addf (F := Ideal) (φ := .f32) (Host.divf (F := Ideal) (φ := .f32) (Host.reduceAdd (V (Proc.devRef .tc main_arg0) : FVec Ideal S8x3x20x224x224 .f32) (constant S_ .f32 0x00000000#32) reducesTo_S8x3x20x224x224_S8x3x20_d3_4 h_S_) (broadcastInDim S8x3x20 ![] bcast_S_S8x3x20 (constant S_ .f32 0x47440000#32))) (Host.divf (F := Ideal) (φ := .f32) (transpose S8x3x20 [0, 2, 1] (Host.dotGeneral (F := Ideal) (φ₁ := .f32) (φ₂ := .f32) dot_S8x20x224x224_S8x3x20x224x224_S8x20x3_23_34_n_1_01_02 none (uitofp .f32 (andi (broadcastInDim S8x20x224x224 ![0, 1, 2, 3] bcast_S8x20x224x1_S8x20x224x224_0_1_2_3 (broadcastInDim S8x20x224x1 ![0, 1, 2] bcast_S8x20x224_S8x20x224x1_0_1_2 (andi (cmpi .sge (broadcastInDim S8x20x224 ![0, 1, 2] bcast_S1x1x224_S8x20x224_0_1_2 (broadcastInDim S1x1x224 ![2] bcast_S224_S1x1x224_2 (res_main_v11 V))) (broadcastInDim S8x20x224 ![0, 1, 2] bcast_S8x20x1_S8x20x224_0_1_2 (broadcastInDim S8x20x1 ![0, 1] bcast_S8x20_S8x20x1_0_1 (res_main_v6 V)))) (cmpi .slt (broadcastInDim S8x20x224 ![0, 1, 2] bcast_S1x1x224_S8x20x224_0_1_2 (broadcastInDim S1x1x224 ![2] bcast_S224_S1x1x224_2 (res_main_v11 V))) (broadcastInDim S8x20x224 ![0, 1, 2] bcast_S8x20x1_S8x20x224_0_1_2 (broadcastInDim S8x20x1 ![0, 1] bcast_S8x20_S8x20x1_0_1 (res_main_v10 V))))))) (broadcastInDim S8x20x224x224 ![0, 1, 2, 3] bcast_S8x20x1x224_S8x20x224x224_0_1_2_3 (broadcastInDim S8x20x1x224 ![0, 1, 3] bcast_S8x20x224_S8x20x1x224_0_1_3 (andi (cmpi .sge (broadcastInDim S8x20x224 ![0, 1, 2] bcast_S1x1x224_S8x20x224_0_1_2 (broadcastInDim S1x1x224 ![2] bcast_S224_S1x1x224_2 (res_main_v12 V))) (broadcastInDim S8x20x224 ![0, 1, 2] bcast_S8x20x1_S8x20x224_0_1_2 (broadcastInDim S8x20x1 ![0, 1] bcast_S8x20_S8x20x1_0_1 (res_main_v4 V)))) (cmpi .slt (broadcastInDim S8x20x224 ![0, 1, 2] bcast_S1x1x224_S8x20x224_0_1_2 (broadcastInDim S1x1x224 ![2] bcast_S224_S1x1x224_2 (res_main_v12 V))) (broadcastInDim S8x20x224 ![0, 1, 2] bcast_S8x20x1_S8x20x224_0_1_2 (broadcastInDim S8x20x1 ![0, 1] bcast_S8x20_S8x20x1_0_1 (res_main_v8 V))))))))) (V (Proc.devRef .tc main_arg0) : FVec Ideal S8x3x20x224x224 .f32)) transposes_S8x20x3_S8x3x20_0_2_1) (broadcastInDim S8x3x20 ![0, 1, 2] bcast_S8x1x20_S8x3x20_0_1_2 (broadcastInDim S8x1x20 ![0, 2] bcast_S8x20_S8x1x20_0_2 (sitofp .f32 (muli (subi (res_main_v8 V) (res_main_v4 V)) (subi (res_main_v10 V) (res_main_v6 V)))))))) transposes_S8x3x20_S8x20x3_0_2_1 : FVec Ideal S8x20x3 .f32) (ix3 b t ch)
      = plane (V (Proc.devRef .tc main_arg2) (ix4 b t 0 0)) (V (Proc.devRef .tc main_arg2) (ix4 b t 0 1)) (V (Proc.devRef .tc main_arg2) (ix4 b t 1 0)) (V (Proc.devRef .tc main_arg2) (ix4 b t 1 1))
          (fun r s => V (Proc.devRef .tc main_arg0) (ix5 b ch t r s)) := by
  pointwise [res_main_v11, res_main_v12]
  simp only [lower_x, lower_y, upper_x, upper_y, image_sum, pixels]
  unfold plane
  refine congrArg₂ (· + ·) rfl (congrArg₂ Ideal.div (Finset.sum_congr rfl fun r _ => Finset.sum_congr rfl fun s _ => ?_) rfl)
  exact (keep_mul _ _).trans (congrArg (fun k => Scalar.select k (show EReal from V (Proc.devRef .tc main_arg0) (ix5 b ch t r s)) 0) (keep_order _ _ _ _))

end Cert.Fused.Ref
-- ==== Proof.Value.lean ====
module

public import proofs.«01_k».proof.Defs
public import proofs.«01_k».proof.Proof.Frames
public import proofs.«01_k».proof.Proof.Finite
public import proofs.«01_k».proof.Proof.KVal
public import proofs.«01_k».proof.Proof.RefRun
public import proofs.«01_k».proof.Proof.FirstVal
public import proofs.«01_k».proof.Proof.RefPlane

@[expose] public section

set_option maxRecDepth 16384
noncomputable section

/-!
# The two programs' results are equal

The first is the same mean over a box's pixels of the frames, whatever these are. The other two are the same functions of the arguments' real numbers.
-/

namespace Cert.Fused

open Cert.KernelIdeal Cert.KernelIdeal.Gen Model
open Idealize.ShloMosaic Idealize.ShloMosaic.TcCoe Idealize.SL.Sem

attribute [local instance] Finite.facts

section
variable (m : (ℓ : Loc nD τ sig) → Buf (Elt Ideal) ℓ) (c : Dev nD)

/-- The embedding's data, as real numbers. -/
def srcOf : Src where
  ts b := EReal.toReal (m ((c.tc : Thread nD τ).loc main_arg1) (ix1 b))
  ft b s e := EReal.toReal (m ((c.tc : Thread nD τ).loc main_arg3) (ix3 b s e))
  wr i e := EReal.toReal (m ((c.tc : Thread nD τ).loc main_arg4) (ix2 i e))
  br d := EReal.toReal (m ((c.tc : Thread nD τ).loc main_arg5) (ix1 d))
  wn d := EReal.toReal (m ((c.tc : Thread nD τ).loc main_arg6) (ix2 d (0 : Fin 1)))
  bn d := EReal.toReal (m ((c.tc : Thread nD τ).loc main_arg7) (ix1 d))
  te s d := EReal.toReal (m ((c.tc : Thread nD τ).loc main_arg8) (ix3 (0 : Fin 1) s d))
  cl n d := EReal.toReal (m ((c.tc : Thread nD τ).loc main_arg9) (ix4 (0 : Fin 1) n (0 : Fin 1) d))

/-- The passes' weights, as real numbers. -/
def wtOf : Wt where
  lw d := EReal.toReal (m ((c.tc : Thread nD τ).loc main_arg10) (ix1 d))
  lb d := EReal.toReal (m ((c.tc : Thread nD τ).loc main_arg11) (ix1 d))
  wq i d := EReal.toReal (m ((c.tc : Thread nD τ).loc main_arg12) (ix2 i d))
  wp i d := EReal.toReal (m ((c.tc : Thread nD τ).loc main_arg13) (ix2 i d))
  bp d := EReal.toReal (m ((c.tc : Thread nD τ).loc main_arg14) (ix1 d))
  wt i d := EReal.toReal (m ((c.tc : Thread nD τ).loc main_arg15) (ix2 i d))
  bt d := EReal.toReal (m ((c.tc : Thread nD τ).loc main_arg16) (ix1 d))

/-- No box's area is zero. -/
theorem boxesOf (h : Cert.Pre_KernelIdeal_finite_nonempty m) : BoxesOf m c :=
  fun b f => Finite.areas _ _ _ _ _ _ _ _ _ _ _ _ _ _ _ _ _ (h c) b f

theorem kargs (h : Cert.Pre_KernelIdeal_finite_nonempty m) : KArgs m c (srcOf m c) (wtOf m c) := by
  obtain ⟨h1, h3, h4, h5, h6, h7, h8, h9, h10, h11, h12, h13, h14, h15, h16⟩ := Finite.reals _ _ _ _ _ _ _ _ _ _ _ _ _ _ _ _ _ (h c)
  exact {
    a1 := fun b => h1 _
    a3 := fun b s e => h3 _
    a4 := fun i e => h4 _
    a5 := fun d => h5 _
    a6 := fun d u => by obtain rfl : u = 0 := Subsingleton.elim _ _; exact h6 _
    a7 := fun d => h7 _
    a8 := fun u s d => by obtain rfl : u = 0 := Subsingleton.elim _ _; exact h8 _
    a9 := fun u n u' d => by obtain rfl : u = 0 := Subsingleton.elim _ _; obtain rfl : u' = 0 := Subsingleton.elim _ _; exact h9 _
    a10 := fun d => h10 _
    a11 := fun d => h11 _
    a12 := fun i d => h12 _
    a13 := fun i d => h13 _
    a14 := fun d => h14 _
    a15 := fun i d => h15 _
    a16 := fun d => h16 _ }
end

section
variable {m : (ℓ : Loc nD τ sig) → Buf (Elt Ideal) ℓ} {c : Dev nD} {I : Src} {W : Wt} (A : KArgs m c I W)
variable (m' : (ℓ : Loc Cert.ReferenceIdeal.nD Cert.ReferenceIdeal.τ Cert.ReferenceIdeal.sig) → Buf (Elt Ideal) ℓ)
include A

/-- The reference's arguments are the kernel's. -/
theorem rargs
    (h1 : m' ((c.tc : Thread Cert.ReferenceIdeal.nD Cert.ReferenceIdeal.τ).loc Cert.ReferenceIdeal.main_arg1) = m ((c.tc : Thread nD τ).loc main_arg1))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h16 : m' ((c.tc : Thread Cert.ReferenceIdeal.nD Cert.ReferenceIdeal.τ).loc Cert.ReferenceIdeal.main_arg16) = m ((c.tc : Thread nD τ).loc main_arg16)) :
    Ref.Args (StableHlo.launchContents m' c) I W := {
    a1 := fun b => (congrFun h1 (ix1 b)).trans (A.a1 b)
    a3 := fun b s e => (congrFun h3 (ix3 b s e)).trans (A.a3 b s e)
    a4 := fun i e => (congrFun h4 (ix2 i e)).trans (A.a4 i e)
    a5 := fun d => (congrFun h5 (ix1 d)).trans (A.a5 d)
    a6 := fun d u => (congrFun h6 (ix2 d u)).trans (A.a6 d u)
    a7 := fun d => (congrFun h7 (ix1 d)).trans (A.a7 d)
    a8 := fun u s d => (congrFun h8 (ix3 u s d)).trans (A.a8 u s d)
    a9 := fun u n u2 d => (congrFun h9 (ix4 u n u2 d)).trans (A.a9 u n u2 d)
    a10 := fun d => (congrFun h10 (ix1 d)).trans (A.a10 d)
    a11 := fun d => (congrFun h11 (ix1 d)).trans (A.a11 d)
    a12 := fun i d => (congrFun h12 (ix2 i d)).trans (A.a12 i d)
    a13 := fun i d => (congrFun h13 (ix2 i d)).trans (A.a13 i d)
    a14 := fun d => (congrFun h14 (ix1 d)).trans (A.a14 d)
    a15 := fun i d => (congrFun h15 (ix2 i d)).trans (A.a15 i d)
    a16 := fun d => (congrFun h16 (ix1 d)).trans (A.a16 d) }

theorem g_eq (V : Valuation Cert.ReferenceIdeal.τ Cert.ReferenceIdeal.sig (Elt Ideal)) (B : Ref.Args V I W) :
    Ref.rolled (Cert.ReferenceIdeal.Value.res_main_v327 V) = gAt (insOf m c) :=
  funext fun i => by
    rw [eq_ix4 i]
    exact (Ref.v332_at B _ _ _ _).trans (g_at A _ _ _ _).symm
end

/-- The reference's first result, of the kernel's frames and boxes. -/
theorem first_eq (m : (ℓ : Loc nD τ sig) → Buf (Elt Ideal) ℓ) (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h2 : m' ((c.tc : Thread Cert.ReferenceIdeal.nD Cert.ReferenceIdeal.τ).loc Cert.ReferenceIdeal.main_arg2) = m ((c.tc : Thread nD τ).loc main_arg2))
    (b : Fin 8) (t : Fin 20) (ch : Fin 3) :
    plane (m' ((c.tc : Thread Cert.ReferenceIdeal.nD Cert.ReferenceIdeal.τ).loc Cert.ReferenceIdeal.main_arg2) (ix4 b t 0 0)) (m' ((c.tc : Thread Cert.ReferenceIdeal.nD Cert.ReferenceIdeal.τ).loc Cert.ReferenceIdeal.main_arg2) (ix4 b t 0 1))
      (m' ((c.tc : Thread Cert.ReferenceIdeal.nD Cert.ReferenceIdeal.τ).loc Cert.ReferenceIdeal.main_arg2) (ix4 b t 1 0)) (m' ((c.tc : Thread Cert.ReferenceIdeal.nD Cert.ReferenceIdeal.τ).loc Cert.ReferenceIdeal.main_arg2) (ix4 b t 1 1))
      (fun r s => m' ((c.tc : Thread Cert.ReferenceIdeal.nD Cert.ReferenceIdeal.τ).loc Cert.ReferenceIdeal.main_arg0) (ix5 b ch t r s)) = firstOf m c (ix3 b t ch) := by
  rw [h0, h2]
  rfl

theorem same_results : Cert.algebraic_KernelIdeal_ReferenceIdeal_pre_finite_nonempty := by
  intro m g m' g' hpre hagree
  refine ⟨fun c => firstOf m c, fun c => gAt (insOf m c), fun c => pooledAt (insOf m c), ?_, ?_⟩
  · refine (θ_run _ _ _).mono (fun r h c => ⟨?_, (h.1 c).1.2.1.trans (arr_19 _ _ c), (h.1 c).1.2.2.trans (arr_20 _ _ c), (h.1 c).2⟩) (run_frame (F := Ideal) m g)
    refine (h.1 c).1.1.trans (funext fun i => ?_)
    rw [eq_ix3 i]
    exact first_at m c (boxesOf m c hpre) _ _ _
  · refine (θ_run _ _ _).mono (fun r h c => ?_) (Cert.ReferenceIdeal.Value.run (F := Ideal) m' g')
    have B := rargs (kargs m c hpre) m' (hagree c).2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2
    refine ⟨(h c).1.trans (funext fun i => ?_), (h c).2.1.trans (g_eq (kargs m c hpre) _ B), (h c).2.2.1.trans (funext fun i => ?_), (h c).2.2.2⟩
    · rw [eq_ix3 i]
      exact (Ref.v51_at (StableHlo.launchContents m' c) _ _ _).trans (first_eq m c m' (hagree c).1 (hagree c).2.2.1 _ _ _)
    · rw [eq_ix2 i]
      exact (Ref.v77_at B _ _).trans (pooled_at (kargs m c hpre) _ _).symm

end Cert.Fused
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference keeps its arguments, and declares no semaphore. -/
theorem frame_reference : Cert.quiescent_ReferenceIdeal := fun m g _ =>
  (θ_run (Cert.ReferenceIdeal.defs (F := Ideal)) (onTc (τ := Cert.ReferenceIdeal.τ) (Cert.ReferenceIdeal.main (F := Ideal))) ⟨m, fun _ => 0, g⟩).mono
    (fun r h => ⟨fun c => (h c).2.2.2, sem_eq_zero_of_no_sems (by decide) r.2⟩) (Cert.ReferenceIdeal.Value.run (F := Ideal) m g)

theorem claim : Cert.Claim := ⟨Cert.Kernel.Gen.facts, Cert.KernelIdeal.Gen.facts, Cert.ReferenceIdeal.Gen.facts, Cert.Fused.Finite.facts, by
  exact ⟨Cert.Fused.frame_kernel, Cert.Fused.frame_ideal, fun m g _ => Cert.Fused.frame_ideal m g trivial, frame_reference, fun m g _ => frame_reference m g trivial,
    Cert.Fused.names, Cert.Fused.same_results⟩⟩

end Cert.Proof

end
